-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)) (v4 : (c : Dev Cert.Kernel3Ideal.nD) → Buf (Elt Ideal) ((c.tc : Thread Cert.Kernel3Ideal.nD Cert.Kernel3Ideal.τ).loc Cert.Kernel3Ideal.main_v11_4)) (v5 : (c : Dev Cert.Kernel3Ideal.nD) → Buf (Elt Ideal) ((c.tc : Thread Cert.Kernel3Ideal.nD Cert.Kernel3Ideal.τ).loc Cert.Kernel3Ideal.main_v11_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_v11_4) = v4 c
          ∧ r.2.mem ((c.tc : Thread Cert.Kernel3Ideal.nD Cert.Kernel3Ideal.τ).loc Cert.Kernel3Ideal.main_v11_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_v54) = v2 c
          ∧ r.2.mem ((c.tc : Thread Cert.Reference3Ideal.nD Cert.Reference3Ideal.τ).loc Cert.Reference3Ideal.main_v56) = v3 c
          ∧ r.2.mem ((c.tc : Thread Cert.Reference3Ideal.nD Cert.Reference3Ideal.τ).loc Cert.Reference3Ideal.main_v58) = v4 c
          ∧ r.2.mem ((c.tc : Thread Cert.Reference3Ideal.nD Cert.Reference3Ideal.τ).loc Cert.Reference3Ideal.main_v61) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
-- ==== Kernel.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S32768x512 : Shape := ⟨2, ![32768, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 24
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024x1024, .f32⟩
  | .hbm, ⟨9, _⟩ => ⟨S1024x1024, .bf16⟩
  | .hbm, ⟨10, _⟩ => ⟨S32768x1024, .f32⟩
  | .hbm, ⟨11, _⟩ => ⟨S1024, .f32⟩
  | .hbm, ⟨12, _⟩ => ⟨S1x1024, .f32⟩
  | .hbm, ⟨13, _⟩ => ⟨S1024x2816, .f32⟩
  | .hbm, ⟨14, _⟩ => ⟨S1024x2816, .bf16⟩
  | .hbm, ⟨15, _⟩ => ⟨S1024x2816, .f32⟩
  | .hbm, ⟨16, _⟩ => ⟨S1024x2816, .bf16⟩
  | .hbm, ⟨17, _⟩ => ⟨S2816x1024, .f32⟩
  | .hbm, ⟨18, _⟩ => ⟨S2816x1024, .bf16⟩
  | .hbm, ⟨19, _⟩ => ⟨S32768x512, .f32⟩
  | .hbm, ⟨20, _⟩ => ⟨S32768x512, .f32⟩
  | .hbm, ⟨21, _⟩ => ⟨S512x1024, .bf16⟩
  | .hbm, ⟨22, _⟩ => ⟨S512x1024, .bf16⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S8x4096x1024, .f32⟩
  | .hbm, ⟨9, _⟩ => ⟨S1024x1024, .f32⟩
  | .hbm, ⟨10, _⟩ => ⟨S8x4096x1024, .f32⟩
  | .hbm, ⟨11, _⟩ => ⟨S8x4096x1024, .f32⟩
  | .hbm, ⟨12, _⟩ => ⟨S1024, .f32⟩
  | .hbm, ⟨13, _⟩ => ⟨S1024x2816, .f32⟩
  | .hbm, ⟨14, _⟩ => ⟨S1024x2816, .f32⟩
  | .hbm, ⟨15, _⟩ => ⟨S2816x1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S8x4096x2816, .f32⟩
  | .hbm, ⟨33, _⟩ => ⟨S8x4096x2816, .f32⟩
  | .hbm, ⟨34, _⟩ => ⟨S8x4096x2816, .f32⟩
  | .hbm, ⟨35, _⟩ => ⟨S_, .f32⟩
  | .hbm, ⟨36, _⟩ => ⟨S8x4096x2816, .f32⟩
  | .hbm, ⟨37, _⟩ => ⟨S8x4096x2816, .f32⟩
  | .hbm, ⟨38, _⟩ => ⟨S_, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S8x4096x2816, .f32⟩
  | .hbm, ⟨43, _⟩ => ⟨S8x4096x2816, .f32⟩
  | .hbm, ⟨44, _⟩ => ⟨S8x4096x1024, .f32⟩
  | .hbm, ⟨45, _⟩ => ⟨S_, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 15
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S32768x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x4096x2816, .f32⟩
  | .hbm, ⟨26, _⟩ => ⟨S8x4096x2816, .f32⟩
  | .hbm, ⟨27, _⟩ => ⟨S8x4096x2816, .f32⟩
  | .hbm, ⟨28, _⟩ => ⟨S_, .f32⟩
  | .hbm, ⟨29, _⟩ => ⟨S8x4096x2816, .f32⟩
  | .hbm, ⟨30, _⟩ => ⟨S8x4096x2816, .f32⟩
  | .hbm, ⟨31, _⟩ => ⟨S_, .f32⟩
  | .hbm, ⟨32, _⟩ => ⟨S8x4096x2816, .f32⟩
  | .hbm, ⟨33, _⟩ => ⟨S8x4096x2816, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x1024, .f32⟩
  | .hbm, ⟨38, _⟩ => ⟨S_, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024 : Shape := ⟨2, ![1, 1024]⟩
abbrev S1x1024x3592 : Shape := ⟨3, ![1, 1024, 3592]⟩
abbrev S1x4x1536 : Shape := ⟨3, ![1, 4, 1536]⟩
abbrev S1024x3592 : Shape := ⟨2, ![1024, 3592]⟩
abbrev S1024x8 : Shape := ⟨2, ![1024, 8]⟩
abbrev S_ : Shape := ⟨0, ![]⟩
abbrev S1024x128 : Shape := ⟨2, ![1024, 128]⟩
abbrev S1024x2048 : Shape := ⟨2, ![1024, 2048]⟩
abbrev S1024x1536 : Shape := ⟨2, ![1024, 1536]⟩
abbrev S1024x3712 : Shape := ⟨2, ![1024, 3712]⟩
abbrev S32768x1024 : Shape := ⟨2, ![32768, 1024]⟩
abbrev S1024 : Shape := ⟨1, ![1024]⟩
abbrev S4x1536 : Shape := ⟨2, ![4, 1536]⟩
abbrev S32768x1536 : Shape := ⟨2, ![32768, 1536]⟩
abbrev S32768x512 : Shape := ⟨2, ![32768, 512]⟩
abbrev S32768x128 : Shape := ⟨2, ![32768, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S520x1536 : Shape := ⟨2, ![520, 1536]⟩
abbrev S1x1536 : Shape := ⟨2, ![1, 1536]⟩
abbrev S512 : Shape := ⟨1, ![512]⟩
abbrev S512x1 : Shape := ⟨2, ![512, 1]⟩
abbrev S512x3712 : Shape := ⟨2, ![512, 3712]⟩
abbrev S8x1536 : Shape := ⟨2, ![8, 1536]⟩

abbrev nBuf : Space → Nat
  | .hbm => 23
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3592, .f32⟩
  | .hbm, ⟨3, _⟩ => ⟨S1x4x1536, .f32⟩
  | .hbm, ⟨4, _⟩ => ⟨S1024x3592, .f32⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x2048, .f32⟩
  | .hbm, ⟨10, _⟩ => ⟨S1024x1536, .f32⟩
  | .hbm, ⟨11, _⟩ => ⟨S1024x3712, .f32⟩
  | .hbm, ⟨12, _⟩ => ⟨S1024x3712, .bf16⟩
  | .hbm, ⟨13, _⟩ => ⟨S32768x1024, .f32⟩
  | .hbm, ⟨14, _⟩ => ⟨S1024, .f32⟩
  | .hbm, ⟨15, _⟩ => ⟨S1x1024, .f32⟩
  | .hbm, ⟨16, _⟩ => ⟨S4x1536, .f32⟩
  | .hbm, ⟨17, _⟩ => ⟨S32768x1536, .f32⟩
  | .hbm, ⟨18, _⟩ => ⟨S32768x512, .f32⟩
  | .hbm, ⟨19, _⟩ => ⟨S32768x128, .f32⟩
  | .hbm, ⟨20, _⟩ => ⟨S32768x512, .f32⟩
  | .hbm, ⟨21, _⟩ => ⟨S32768x512, .f32⟩
  | .hbm, ⟨22, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S4x1536, .f32⟩
  | .local _ .vmem, ⟨5, _⟩ => ⟨S512x1536, .f32⟩
  | .local _ .vmem, ⟨6, _⟩ => ⟨S512x1536, .f32⟩
  | .local _ .vmem, ⟨7, _⟩ => ⟨S512x512, .f32⟩
  | .local _ .vmem, ⟨8, _⟩ => ⟨S512x512, .f32⟩
  | .local _ .vmem, ⟨9, _⟩ => ⟨S512x128, .f32⟩
  | .local _ .vmem, ⟨10, _⟩ => ⟨S512x128, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S520x1536, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v11_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8x4096x1024 : Shape := ⟨3, ![8, 4096, 1024]⟩
abbrev S1x1024 : Shape := ⟨2, ![1, 1024]⟩
abbrev S1x1024x3592 : Shape := ⟨3, ![1, 1024, 3592]⟩
abbrev S1x4x1536 : Shape := ⟨3, ![1, 4, 1536]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x3592 : Shape := ⟨2, ![1024, 3592]⟩
abbrev S8x4096x3592 : Shape := ⟨3, ![8, 4096, 3592]⟩
abbrev S8x4096x1536 : Shape := ⟨3, ![8, 4096, 1536]⟩
abbrev S4x1536 : Shape := ⟨2, ![4, 1536]⟩
abbrev S8x4099x1536 : Shape := ⟨3, ![8, 4099, 1536]⟩
abbrev S1x1536 : Shape := ⟨2, ![1, 1536]⟩
abbrev S1536 : Shape := ⟨1, ![1536]⟩
abbrev S1x1x1536 : Shape := ⟨3, ![1, 1, 1536]⟩
abbrev S8x4096x8 : Shape := ⟨3, ![8, 4096, 8]⟩
abbrev S8x4096x128 : Shape := ⟨3, ![8, 4096, 128]⟩
abbrev S32768x1536 : Shape := ⟨2, ![32768, 1536]⟩
abbrev S8x4096x512 : Shape := ⟨3, ![8, 4096, 512]⟩
abbrev S32768x512 : Shape := ⟨2, ![32768, 512]⟩
abbrev S32768x128 : Shape := ⟨2, ![32768, 128]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3592, .f32⟩
  | .hbm, ⟨3, _⟩ => ⟨S1x4x1536, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S1024x3592, .f32⟩
  | .hbm, ⟨22, _⟩ => ⟨S8x4096x3592, .f32⟩
  | .hbm, ⟨23, _⟩ => ⟨S8x4096x1536, .f32⟩
  | .hbm, ⟨24, _⟩ => ⟨S4x1536, .f32⟩
  | .hbm, ⟨25, _⟩ => ⟨S_, .i32⟩
  | .hbm, ⟨26, _⟩ => ⟨S_, .f32⟩
  | .hbm, ⟨27, _⟩ => ⟨S8x4099x1536, .f32⟩
  | .hbm, ⟨28, _⟩ => ⟨S8x4096x1536, .f32⟩
  | .hbm, ⟨29, _⟩ => ⟨S1x1536, .f32⟩
  | .hbm, ⟨30, _⟩ => ⟨S1536, .f32⟩
  | .hbm, ⟨31, _⟩ => ⟨S1x1x1536, .f32⟩
  | .hbm, ⟨32, _⟩ => ⟨S8x4096x1536, .f32⟩
  | .hbm, ⟨33, _⟩ => ⟨S8x4096x1536, .f32⟩
  | .hbm, ⟨34, _⟩ => ⟨S_, .f32⟩
  | .hbm, ⟨35, _⟩ => ⟨S8x4096x1536, .f32⟩
  | .hbm, ⟨36, _⟩ => ⟨S8x4096x1536, .f32⟩
  | .hbm, ⟨37, _⟩ => ⟨S8x4096x1536, .f32⟩
  | .hbm, ⟨38, _⟩ => ⟨S1x1536, .f32⟩
  | .hbm, ⟨39, _⟩ => ⟨S1536, .f32⟩
  | .hbm, ⟨40, _⟩ => ⟨S1x1x1536, .f32⟩
  | .hbm, ⟨41, _⟩ => ⟨S8x4096x1536, .f32⟩
  | .hbm, ⟨42, _⟩ => ⟨S8x4096x1536, .f32⟩
  | .hbm, ⟨43, _⟩ => ⟨S8x4096x1536, .f32⟩
  | .hbm, ⟨44, _⟩ => ⟨S8x4096x1536, .f32⟩
  | .hbm, ⟨45, _⟩ => ⟨S1x1536, .f32⟩
  | .hbm, ⟨46, _⟩ => ⟨S1536, .f32⟩
  | .hbm, ⟨47, _⟩ => ⟨S1x1x1536, .f32⟩
  | .hbm, ⟨48, _⟩ => ⟨S8x4096x1536, .f32⟩
  | .hbm, ⟨49, _⟩ => ⟨S8x4096x1536, .f32⟩
  | .hbm, ⟨50, _⟩ => ⟨S8x4096x1536, .f32⟩
  | .hbm, ⟨51, _⟩ => ⟨S8x4096x1536, .f32⟩
  | .hbm, ⟨52, _⟩ => ⟨S1x1536, .f32⟩
  | .hbm, ⟨53, _⟩ => ⟨S1536, .f32⟩
  | .hbm, ⟨54, _⟩ => ⟨S1x1x1536, .f32⟩
  | .hbm, ⟨55, _⟩ => ⟨S8x4096x1536, .f32⟩
  | .hbm, ⟨56, _⟩ => ⟨S8x4096x1536, .f32⟩
  | .hbm, ⟨57, _⟩ => ⟨S8x4096x1536, .f32⟩
  | .hbm, ⟨58, _⟩ => ⟨S8x4096x1536, .f32⟩
  | .hbm, ⟨59, _⟩ => ⟨S8x4096x1536, .f32⟩
  | .hbm, ⟨60, _⟩ => ⟨S_, .f32⟩
  | .hbm, ⟨61, _⟩ => ⟨S8x4096x1536, .f32⟩
  | .hbm, ⟨62, _⟩ => ⟨S8x4096x1536, .f32⟩
  | .hbm, ⟨63, _⟩ => ⟨S_, .f32⟩
  | .hbm, ⟨64, _⟩ => ⟨S8x4096x1536, .f32⟩
  | .hbm, ⟨65, _⟩ => ⟨S8x4096x1536, .f32⟩
  | .hbm, ⟨66, _⟩ => ⟨S8x4096x1536, .f32⟩
  | .hbm, ⟨67, _⟩ => ⟨S8x4096x8, .f32⟩
  | .hbm, ⟨68, _⟩ => ⟨S_, .i32⟩
  | .hbm, ⟨69, _⟩ => ⟨S_, .f32⟩
  | .hbm, ⟨70, _⟩ => ⟨S8x4096x128, .f32⟩
  | .hbm, ⟨71, _⟩ => ⟨S32768x1536, .f32⟩
  | .hbm, ⟨72, _⟩ => ⟨S8x4096x512, .f32⟩
  | .hbm, ⟨73, _⟩ => ⟨S32768x512, .f32⟩
  | .hbm, ⟨74, _⟩ => ⟨S32768x128, .f32⟩
  | .hbm, ⟨75, _⟩ => ⟨S8x4096x512, .f32⟩
  | .hbm, ⟨76, _⟩ => ⟨S32768x512, .f32⟩
  | .hbm, ⟨77, _⟩ => ⟨S8x4096x512, .f32⟩
  | .hbm, ⟨78, _⟩ => ⟨S32768x512, .f32⟩
  | .hbm, ⟨79, _⟩ => ⟨S8x4096x512, .f32⟩
  | .hbm, ⟨80, _⟩ => ⟨S8x4096x512, .bf16⟩
  | .hbm, ⟨81, _⟩ => ⟨S32768x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v48 : Ref sig .tc := ⟨.hbm, 66, rfl⟩
abbrev main_v49 : Ref sig .tc := ⟨.hbm, 67, rfl⟩
abbrev main_c_3 : Ref sig .tc := ⟨.hbm, 68, rfl⟩
abbrev main_call2_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Kernel4.lean ====
abbrev S8x4096x1536 : Shape := ⟨3, ![8, 4096, 1536]⟩
abbrev S8x4096x512 : Shape := ⟨3, ![8, 4096, 512]⟩
abbrev S8x4096x4 : Shape := ⟨3, ![8, 4096, 4]⟩
abbrev S1x4 : Shape := ⟨2, ![1, 4]⟩
abbrev S1x128 : Shape := ⟨2, ![1, 128]⟩
abbrev S8x4096x8 : Shape := ⟨3, ![8, 4096, 8]⟩
abbrev S_ : Shape := ⟨0, ![]⟩
abbrev S8x4096x128 : Shape := ⟨3, ![8, 4096, 128]⟩
abbrev S4 : Shape := ⟨1, ![4]⟩
abbrev S128 : Shape := ⟨1, ![128]⟩
abbrev S32768x1536 : Shape := ⟨2, ![32768, 1536]⟩
abbrev S32768x512 : Shape := ⟨2, ![32768, 512]⟩
abbrev S32768x128 : Shape := ⟨2, ![32768, 128]⟩
abbrev S2048x1536 : Shape := ⟨2, ![2048, 1536]⟩
abbrev S2048x512 : Shape := ⟨2, ![2048, 512]⟩
abbrev S2048x128 : Shape := ⟨2, ![2048, 128]⟩
abbrev S4x128x128 : Shape := ⟨3, ![4, 128, 128]⟩
abbrev S16x64x128 : Shape := ⟨3, ![16, 64, 128]⟩
abbrev S16x64x64 : Shape := ⟨3, ![16, 64, 64]⟩
abbrev S16x1x128 : Shape := ⟨3, ![16, 1, 128]⟩
abbrev S1x64x64 : Shape := ⟨3, ![1, 64, 64]⟩
abbrev S256x1536 : Shape := ⟨2, ![256, 1536]⟩
abbrev S256x128 : Shape := ⟨2, ![256, 128]⟩
abbrev S64x1 : Shape := ⟨2, ![64, 1]⟩
abbrev S64x128 : Shape := ⟨2, ![64, 128]⟩
abbrev S1x64x128 : Shape := ⟨3, ![1, 64, 128]⟩
abbrev S128x256 : Shape := ⟨2, ![128, 256]⟩
abbrev S1x64 : Shape := ⟨2, ![1, 64]⟩
abbrev S64x64 : Shape := ⟨2, ![64, 64]⟩
abbrev S16x64 : Shape := ⟨2, ![16, 64]⟩
abbrev S16x64x1 : Shape := ⟨3, ![16, 64, 1]⟩
abbrev S16x64x256 : Shape := ⟨3, ![16, 64, 256]⟩
abbrev S4x64x128 : Shape := ⟨3, ![4, 64, 128]⟩
abbrev S4x64x64 : Shape := ⟨3, ![4, 64, 64]⟩
abbrev S4x1x128 : Shape := ⟨3, ![4, 1, 128]⟩
abbrev S4x64 : Shape := ⟨2, ![4, 64]⟩
abbrev S4x64x1 : Shape := ⟨3, ![4, 64, 1]⟩
abbrev S1x1x128 : Shape := ⟨3, ![1, 1, 128]⟩
abbrev S64x512 : Shape := ⟨2, ![64, 512]⟩

abbrev nBuf : Space → Nat
  | .hbm => 27
  | .vmem => 18
  | .smem => 0
  | _ => 0

abbrev bufTy : (tb : Table) → Fin (tcTables nBuf tb) → BufTy
  | .hbm, ⟨0, _⟩ => ⟨S8x4096x1536, .f32⟩
  | .hbm, ⟨1, _⟩ => ⟨S8x4096x512, .f32⟩
  | .hbm, ⟨2, _⟩ => ⟨S8x4096x4, .f32⟩
  | .hbm, ⟨3, _⟩ => ⟨S8x4096x4, .f32⟩
  | .hbm, ⟨4, _⟩ => ⟨S1x4, .f32⟩
  | .hbm, ⟨5, _⟩ => ⟨S1x4, .f32⟩
  | .hbm, ⟨6, _⟩ => ⟨S1x128, .f32⟩
  | .hbm, ⟨7, _⟩ => ⟨S8x4096x8, .f32⟩
  | .hbm, ⟨8, _⟩ => ⟨S_, .i32⟩
  | .hbm, ⟨9, _⟩ => ⟨S_, .f32⟩
  | .hbm, ⟨10, _⟩ => ⟨S8x4096x128, .f32⟩
  | .hbm, ⟨11, _⟩ => ⟨S4, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S4, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S32768x1536, .f32⟩
  | .hbm, ⟨22, _⟩ => ⟨S32768x512, .f32⟩
  | .hbm, ⟨23, _⟩ => ⟨S32768x128, .f32⟩
  | .hbm, ⟨24, _⟩ => ⟨S128, .f32⟩
  | .hbm, ⟨25, _⟩ => ⟨S1x128, .f32⟩
  | .hbm, ⟨26, _⟩ => ⟨S32768x512, .f32⟩
  | .local _ .vmem, ⟨0, _⟩ => ⟨S2048x1536, .f32⟩
  | .local _ .vmem, ⟨1, _⟩ => ⟨S2048x1536, .f32⟩
  | .local _ .vmem, ⟨2, _⟩ => ⟨S2048x512, .f32⟩
  | .local _ .vmem, ⟨3, _⟩ => ⟨S2048x512, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S2048x512, .f32⟩
  | .local _ .vmem, ⟨10, _⟩ => ⟨S2048x512, .f32⟩
  | .local _ .vmem, ⟨11, _⟩ => ⟨S4x128x128, .f32⟩
  | .local _ .vmem, ⟨12, _⟩ => ⟨S16x64x128, .f32⟩
  | .local _ .vmem, ⟨13, _⟩ => ⟨S16x64x128, .bf16⟩
  | .local _ .vmem, ⟨14, _⟩ => ⟨S16x64x128, .bf16⟩
  | .local _ .vmem, ⟨15, _⟩ => ⟨S16x64x128, .bf16⟩
  | .local _ .vmem, ⟨16, _⟩ => ⟨S16x64x64, .bf16⟩
  | .local _ .vmem, ⟨17, _⟩ => ⟨S16x1x128, .f32⟩
  | _, _ => ⟨S8x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c1_i32_139 : BitVec 32 := 1#32
  let c7_i32 : BitVec 32 := 7#32
  let v753 : BitVec 32 := Scalar.addi c1_i32_139 c7_i32
  let c1_i32_140 : BitVec 32 := 1#32
  ⟨c1_i32_139, v753, c1_i32_140⟩
def k0_mult1 (k0_t1 : Fin k0_t1_loop.trips) : BitVec 32 :=
  let c1_i32_139 : BitVec 32 := 1#32
  let c1_i32_140 : BitVec 32 := 1#32
  let arg16 : BitVec 32 := Scf.iv c1_i32_139 c1_i32_140 k0_t1
  let c256_i32 : BitVec 32 := 256#32
  let v947 : BitVec 32 := Scalar.muli arg16 c256_i32
  v947
def k0_off1 (k0_t1 : Fin k0_t1_loop.trips) : Fin 2 → Nat :=
  let c1_i32_139 : BitVec 32 := 1#32
  let c1_i32_140 : BitVec 32 := 1#32
  let arg16 : BitVec 32 := Scf.iv c1_i32_139 c1_i32_140 k0_t1
  let c256_i32 : BitVec 32 := 256#32
  let v947 : BitVec 32 := Scalar.muli arg16 c256_i32
  let v948 : BitVec 32 := v947
  let v949 : Index := Scalar.indexCast v948
  let c0_258 : Index := 0#32
  ![v949.toNat, 0]
def k0_off2 (k0_t1 : Fin k0_t1_loop.trips) : Fin 2 → Nat :=
  let c1_i32_139 : BitVec 32 := 1#32
  let c1_i32_140 : BitVec 32 := 1#32
  let arg16 : BitVec 32 := Scf.iv c1_i32_139 c1_i32_140 k0_t1
  let c256_i32 : BitVec 32 := 256#32
  let v947 : BitVec 32 := Scalar.muli arg16 c256_i32
  let v948 : BitVec 32 := v947
  let v952 : Index := Scalar.indexCast v948
  let c0_259 : Index := 0#32
  ![v952.toNat, 0]
def k0_mult2 (k0_t1 : Fin k0_t1_loop.trips) : BitVec 32 :=
  let c1_i32_139 : BitVec 32 := 1#32
  let c1_i32_140 : BitVec 32 := 1#32
  let arg16 : BitVec 32 := Scf.iv c1_i32_139 c1_i32_140 k0_t1
  let c1_i32_257 : BitVec 32 := 1#32
  let v946 : BitVec 32 := Scalar.subi arg16 c1_i32_257
  let c256_i32_294 : BitVec 32 := 256#32
  let v1343 : BitVec 32 := Scalar.muli v946 c256_i32_294
  v1343
def k0_off3 (k0_t1 : Fin k0_t1_loop.trips) (c0_i32_345 : BitVec 32) : Fin 2 → Nat :=
  let c1_i32_139 : BitVec 32 := 1#32
  let c1_i32_140 : BitVec 32 := 1#32
  let arg16 : BitVec 32 := Scf.iv c1_i32_139 c1_i32_140 k0_t1
  let c1_i32_257 : BitVec 32 := 1#32
  let v946 : BitVec 32 := Scalar.subi arg16 c1_i32_257
  let c256_i32_294 : BitVec 32 := 256#32
  let v1343 : BitVec 32 := Scalar.muli v946 c256_i32_294
  let v1344 : BitVec 32 := v1343
  let v1455 : BitVec 32 := Scalar.addi v1344 c0_i32_345
  let v1456 : Index := Scalar.indexCast v1455
  let c0_346 : Index := 0#32
  ![v1456.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel5.lean ====
abbrev S8x4096x512 : Shape := ⟨3, ![8, 4096, 512]⟩
abbrev S1x64 : Shape := ⟨2, ![1, 64]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S32768x512 : Shape := ⟨2, ![32768, 512]⟩
abbrev S64 : Shape := ⟨1, ![64]⟩
abbrev S2x64 : Shape := ⟨2, ![2, 64]⟩
abbrev S128 : Shape := ⟨1, ![128]⟩
abbrev S1x128 : Shape := ⟨2, ![1, 128]⟩
abbrev S1x256x512 : Shape := ⟨3, ![1, 256, 512]⟩
abbrev S1x4096x512 : Shape := ⟨3, ![1, 4096, 512]⟩
abbrev S256x128 : Shape := ⟨2, ![256, 128]⟩
abbrev S4x16x256x128 : Shape := ⟨4, ![4, 16, 256, 128]⟩
abbrev S8x16x80x256 : Shape := ⟨4, ![8, 16, 80, 256]⟩
abbrev S4x16x128 : Shape := ⟨3, ![4, 16, 128]⟩
abbrev S8x1x256x256 : Shape := ⟨4, ![8, 1, 256, 256]⟩
abbrev S16x256 : Shape := ⟨2, ![16, 256]⟩
abbrev S256x512 : Shape := ⟨2, ![256, 512]⟩
abbrev S128x128 : Shape := ⟨2, ![128, 128]⟩
abbrev S1x1x128 : Shape := ⟨3, ![1, 1, 128]⟩
abbrev S1x1x256x128 : Shape := ⟨4, ![1, 1, 256, 128]⟩
abbrev S128x256 : Shape := ⟨2, ![128, 256]⟩
abbrev S64x256 : Shape := ⟨2, ![64, 256]⟩
abbrev S1x1x64x256 : Shape := ⟨4, ![1, 1, 64, 256]⟩
abbrev S1x1x16x256 : Shape := ⟨4, ![1, 1, 16, 256]⟩
abbrev S256x256 : Shape := ⟨2, ![256, 256]⟩
abbrev S1x16x128 : Shape := ⟨3, ![1, 16, 128]⟩
abbrev S16x128 : Shape := ⟨2, ![16, 128]⟩
abbrev S256 : Shape := ⟨1, ![256]⟩
abbrev S1x256 : Shape := ⟨2, ![1, 256]⟩
abbrev S1x1x256x256 : Shape := ⟨4, ![1, 1, 256, 256]⟩
abbrev S80x256 : Shape := ⟨2, ![80, 256]⟩
abbrev S1x1x80x256 : Shape := ⟨4, ![1, 1, 80, 256]⟩
abbrev S512x256 : Shape := ⟨2, ![512, 256]⟩

abbrev nBuf : Space → Nat
  | .hbm => 56
  | .vmem => 20
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S1x64, .f32⟩
  | .hbm, ⟨4, _⟩ => ⟨S1x64, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S4096, .i32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S_, .f32⟩
  | .hbm, ⟨26, _⟩ => ⟨S4096x48, .f32⟩
  | .hbm, ⟨27, _⟩ => ⟨S4096x64, .f32⟩
  | .hbm, ⟨28, _⟩ => ⟨S4096x8, .f32⟩
  | .hbm, ⟨29, _⟩ => ⟨S_, .f32⟩
  | .hbm, ⟨30, _⟩ => ⟨S4096x48, .f32⟩
  | .hbm, ⟨31, _⟩ => ⟨S4096x64, .f32⟩
  | .hbm, ⟨32, _⟩ => ⟨S1x4096x1x64, .f32⟩
  | .hbm, ⟨33, _⟩ => ⟨S1x4096x2x64, .f32⟩
  | .hbm, ⟨34, _⟩ => ⟨S4096x128, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .bf16⟩
  | .hbm, ⟨42, _⟩ => ⟨S64, .f32⟩
  | .hbm, ⟨43, _⟩ => ⟨S1x64, .f32⟩
  | .hbm, ⟨44, _⟩ => ⟨S2x64, .f32⟩
  | .hbm, ⟨45, _⟩ => ⟨S128, .f32⟩
  | .hbm, ⟨46, _⟩ => ⟨S1x128, .f32⟩
  | .hbm, ⟨47, _⟩ => ⟨S64, .f32⟩
  | .hbm, ⟨48, _⟩ => ⟨S1x64, .f32⟩
  | .hbm, ⟨49, _⟩ => ⟨S2x64, .f32⟩
  | .hbm, ⟨50, _⟩ => ⟨S128, .f32⟩
  | .hbm, ⟨51, _⟩ => ⟨S1x128, .f32⟩
  | .hbm, ⟨52, _⟩ => ⟨S8x4096x512, .f32⟩
  | .hbm, ⟨53, _⟩ => ⟨S8x4096x512, .f32⟩
  | .hbm, ⟨54, _⟩ => ⟨S8x4096x512, .bf16⟩
  | .hbm, ⟨55, _⟩ => ⟨S8x4096x512, .f32⟩
  | .local _ .vmem, ⟨0, _⟩ => ⟨S1x256x512, .f32⟩
  | .local _ .vmem, ⟨1, _⟩ => ⟨S1x256x512, .f32⟩
  | .local _ .vmem, ⟨2, _⟩ => ⟨S1x4096x512, .f32⟩
  | .local _ .vmem, ⟨3, _⟩ => ⟨S1x4096x512, .f32⟩
  | .local _ .vmem, ⟨4, _⟩ => ⟨S1x4096x512, .bf16⟩
  | .local _ .vmem, ⟨5, _⟩ => ⟨S1x4096x512, .bf16⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S4096x128, .f32⟩
  | .local _ .vmem, ⟨13, _⟩ => ⟨S4096x128, .f32⟩
  | .local _ .vmem, ⟨14, _⟩ => ⟨S1x256x512, .f32⟩
  | .local _ .vmem, ⟨15, _⟩ => ⟨S1x256x512, .f32⟩
  | .local _ .vmem, ⟨16, _⟩ => ⟨S4x16x256x128, .bf16⟩
  | .local _ .vmem, ⟨17, _⟩ => ⟨S8x16x80x256, .bf16⟩
  | .local _ .vmem, ⟨18, _⟩ => ⟨S4x16x128, .f32⟩
  | .local _ .vmem, ⟨19, _⟩ => ⟨S8x1x256x256, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![8, 1, 16], ![false, false, false]⟩

def k0_off1 (i : grid0.Coords) : Fin 4 → Nat :=
  let c0_319 : Index := 0#32
  let arg2 : BitVec 32 := BitVec.ofNat 32 (i 2).val
  let v920 : Index := Scalar.indexCast arg2
  let c0_320 : Index := 0#32
  let c0_321 : Index := 0#32
  ![0, v920.toNat, 0, 0]
def k0_off2 (i : grid0.Coords) : Fin 4 → Nat :=
  let c1_327 : Index := 1#32
  let arg2 : BitVec 32 := BitVec.ofNat 32 (i 2).val
  let v928 : Index := Scalar.indexCast arg2
  let c0_328 : Index := 0#32
  let c0_329 : Index := 0#32
  ![1, v928.toNat, 0, 0]
def k0_off3 (i : grid0.Coords) : Fin 4 → Nat :=
  let c2_335 : Index := 2#32
  let arg2 : BitVec 32 := BitVec.ofNat 32 (i 2).val
  let v936 : Index := Scalar.indexCast arg2
  let c0_336 : Index := 0#32
  let c0_337 : Index := 0#32
  ![2, v936.toNat, 0, 0]
def k0_off4 (i : grid0.Coords) : Fin 4 → Nat :=
  let c3_343 : Index := 3#32
  let arg2 : BitVec 32 := BitVec.ofNat 32 (i 2).val
  let v944 : Index := Scalar.indexCast arg2
  let c0_344 : Index := 0#32
  let c0_345 : Index := 0#32
  ![3, v944.toNat, 0, 0]
@[reducible] def k0_t1_loop (i : grid0.Coords) : Scf.Loop 32 :=
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let c1_i32_414 : BitVec 32 := 1#32
  ⟨c0_i32_412, v1079, c1_i32_414⟩
def k0_off5 (i : grid0.Coords) (k0_t1 : Fin (k0_t1_loop i).trips) : Fin 4 → Nat :=
  let c0_525 : Index := 0#32
  let c0_i32_412 : BitVec 32 := 0#32
  let c1_i32_414 : BitVec 32 := 1#32
  let arg17 : BitVec 32 := Scf.iv c0_i32_412 c1_i32_414 k0_t1
  let c1_i32_522 : BitVec 32 := 1#32
  let v1223 : BitVec 32 := Scalar.muli arg17 c1_i32_522
  let c0_i32_523 : BitVec 32 := 0#32
  let v1224 : BitVec 32 := Scalar.addi v1223 c0_i32_523
  let c15_i32_524 : BitVec 32 := 15#32
  let v1225 : BitVec 32 := Scalar.minsi v1224 c15_i32_524
  let v1226 : Index := Scalar.indexCast v1225
  let c0_526 : Index := 0#32
  let c0_527 : Index := 0#32
  ![0, v1226.toNat, 0, 0]
def k0_off6 (i : grid0.Coords) (k0_t1 : Fin (k0_t1_loop i).trips) : Fin 4 → Nat :=
  let c1_539 : Index := 1#32
  let c0_i32_412 : BitVec 32 := 0#32
  let c1_i32_414 : BitVec 32 := 1#32
  let arg17 : BitVec 32 := Scf.iv c0_i32_412 c1_i32_414 k0_t1
  let c1_i32_536 : BitVec 32 := 1#32
  let v1237 : BitVec 32 := Scalar.muli arg17 c1_i32_536
  let c0_i32_537 : BitVec 32 := 0#32
  let v1238 : BitVec 32 := Scalar.addi v1237 c0_i32_537
  let c15_i32_538 : BitVec 32 := 15#32
  let v1239 : BitVec 32 := Scalar.minsi v1238 c15_i32_538
  let v1240 : Index := Scalar.indexCast v1239
  let c0_540 : Index := 0#32
  let c0_541 : Index := 0#32
  ![1, v1240.toNat, 0, 0]
def k0_off7 (i : grid0.Coords) (k0_t1 : Fin (k0_t1_loop i).trips) : Fin 4 → Nat :=
  let c2_553 : Index := 2#32
  let c0_i32_412 : BitVec 32 := 0#32
  let c1_i32_414 : BitVec 32 := 1#32
  let arg17 : BitVec 32 := Scf.iv c0_i32_412 c1_i32_414 k0_t1
  let c1_i32_550 : BitVec 32 := 1#32
  let v1251 : BitVec 32 := Scalar.muli arg17 c1_i32_550
  let c0_i32_551 : BitVec 32 := 0#32
  let v1252 : BitVec 32 := Scalar.addi v1251 c0_i32_551
  let c15_i32_552 : BitVec 32 := 15#32
  let v1253 : BitVec 32 := Scalar.minsi v1252 c15_i32_552
  let v1254 : Index := Scalar.indexCast v1253
  let c0_554 : Index := 0#32
  let c0_555 : Index := 0#32
  ![2, v1254.toNat, 0, 0]
def k0_off8 (i : grid0.Coords) (k0_t1 : Fin (k0_t1_loop i).trips) : Fin 4 → Nat :=
  let c3_567 : Index := 3#32
  let c0_i32_412 : BitVec 32 := 0#32
  let c1_i32_414 : BitVec 32 := 1#32
  let arg17 : BitVec 32 := Scf.iv c0_i32_412 c1_i32_414 k0_t1
  let c1_i32_564 : BitVec 32 := 1#32
  let v1265 : BitVec 32 := Scalar.muli arg17 c1_i32_564
  let c0_i32_565 : BitVec 32 := 0#32
  let v1266 : BitVec 32 := Scalar.addi v1265 c0_i32_565
  let c15_i32_566 : BitVec 32 := 15#32
  let v1267 : BitVec 32 := Scalar.minsi v1266 c15_i32_566
  let v1268 : Index := Scalar.indexCast v1267
  let c0_568 : Index := 0#32
  let c0_569 : Index := 0#32
  ![3, v1268.toNat, 0, 0]
def k0_off9 (i : grid0.Coords) (k0_t1 : Fin (k0_t1_loop i).trips) : Fin 4 → Nat :=
  let c0_583 : Index := 0#32
  let c0_i32_412 : BitVec 32 := 0#32
  let c1_i32_414 : BitVec 32 := 1#32
  let arg17 : BitVec 32 := Scf.iv c0_i32_412 c1_i32_414 k0_t1
  let c0_i32_578 : BitVec 32 := 0#32
  let v1279 : BitVec 1 := Scalar.cmpi .eq arg17 c0_i32_578
  let arg2 : BitVec 32 := BitVec.ofNat 32 (i 2).val
  let c1_i32_579 : BitVec 32 := 1#32
  let v1280 : BitVec 32 := Scalar.subi arg17 c1_i32_579
  let c1_i32_580 : BitVec 32 := 1#32
  let v1281 : BitVec 32 := Scalar.muli v1280 c1_i32_580
  let c0_i32_581 : BitVec 32 := 0#32
  let v1282 : BitVec 32 := Scalar.addi v1281 c0_i32_581
  let c15_i32_582 : BitVec 32 := 15#32
  let v1283 : BitVec 32 := Scalar.minsi v1282 c15_i32_582
  let v1284 : BitVec 32 := Scalar.select v1279 arg2 v1283
  let v1285 : Index := Scalar.indexCast v1284
  let c0_584 : Index := 0#32
  let c0_585 : Index := 0#32
  ![0, v1285.toNat, 0, 0]
def k0_off10 (i : grid0.Coords) (k0_t1 : Fin (k0_t1_loop i).trips) : Fin 4 → Nat :=
  let c1_596 : Index := 1#32
  let c0_i32_412 : BitVec 32 := 0#32
  let c1_i32_414 : BitVec 32 := 1#32
  let arg17 : BitVec 32 := Scf.iv c0_i32_412 c1_i32_414 k0_t1
  let c0_i32_591 : BitVec 32 := 0#32
  let v1291 : BitVec 1 := Scalar.cmpi .eq arg17 c0_i32_591
  let arg2 : BitVec 32 := BitVec.ofNat 32 (i 2).val
  let c1_i32_592 : BitVec 32 := 1#32
  let v1292 : BitVec 32 := Scalar.subi arg17 c1_i32_592
  let c1_i32_593 : BitVec 32 := 1#32
  let v1293 : BitVec 32 := Scalar.muli v1292 c1_i32_593
  let c0_i32_594 : BitVec 32 := 0#32
  let v1294 : BitVec 32 := Scalar.addi v1293 c0_i32_594
  let c15_i32_595 : BitVec 32 := 15#32
  let v1295 : BitVec 32 := Scalar.minsi v1294 c15_i32_595
  let v1296 : BitVec 32 := Scalar.select v1291 arg2 v1295
  let v1297 : Index := Scalar.indexCast v1296
  let c0_597 : Index := 0#32
  let c0_598 : Index := 0#32
  ![1, v1297.toNat, 0, 0]
def k0_off11 (i : grid0.Coords) (k0_t1 : Fin (k0_t1_loop i).trips) : Fin 4 → Nat :=
  let c2_609 : Index := 2#32
  let c0_i32_412 : BitVec 32 := 0#32
  let c1_i32_414 : BitVec 32 := 1#32
  let arg17 : BitVec 32 := Scf.iv c0_i32_412 c1_i32_414 k0_t1
  let c0_i32_604 : BitVec 32 := 0#32
  let v1303 : BitVec 1 := Scalar.cmpi .eq arg17 c0_i32_604
  let arg2 : BitVec 32 := BitVec.ofNat 32 (i 2).val
  let c1_i32_605 : BitVec 32 := 1#32
  let v1304 : BitVec 32 := Scalar.subi arg17 c1_i32_605
  let c1_i32_606 : BitVec 32 := 1#32
  let v1305 : BitVec 32 := Scalar.muli v1304 c1_i32_606
  let c0_i32_607 : BitVec 32 := 0#32
  let v1306 : BitVec 32 := Scalar.addi v1305 c0_i32_607
  let c15_i32_608 : BitVec 32 := 15#32
  let v1307 : BitVec 32 := Scalar.minsi v1306 c15_i32_608
  let v1308 : BitVec 32 := Scalar.select v1303 arg2 v1307
  let v1309 : Index := Scalar.indexCast v1308
  let c0_610 : Index := 0#32
  let c0_611 : Index := 0#32
  ![2, v1309.toNat, 0, 0]
def k0_off12 (i : grid0.Coords) (k0_t1 : Fin (k0_t1_loop i).trips) : Fin 4 → Nat :=
  let c3_622 : Index := 3#32
  let c0_i32_412 : BitVec 32 := 0#32
  let c1_i32_414 : BitVec 32 := 1#32
  let arg17 : BitVec 32 := Scf.iv c0_i32_412 c1_i32_414 k0_t1
  let c0_i32_617 : BitVec 32 := 0#32
  let v1315 : BitVec 1 := Scalar.cmpi .eq arg17 c0_i32_617
  let arg2 : BitVec 32 := BitVec.ofNat 32 (i 2).val
  let c1_i32_618 : BitVec 32 := 1#32
  let v1316 : BitVec 32 := Scalar.subi arg17 c1_i32_618
  let c1_i32_619 : BitVec 32 := 1#32
  let v1317 : BitVec 32 := Scalar.muli v1316 c1_i32_619
  let c0_i32_620 : BitVec 32 := 0#32
  let v1318 : BitVec 32 := Scalar.addi v1317 c0_i32_620
  let c15_i32_621 : BitVec 32 := 15#32
  let v1319 : BitVec 32 := Scalar.minsi v1318 c15_i32_621
  let v1320 : BitVec 32 := Scalar.select v1315 arg2 v1319
  let v1321 : Index := Scalar.indexCast v1320
  let c0_623 : Index := 0#32
  let c0_624 : Index := 0#32
  ![3, v1321.toNat, 0, 0]
def k0_off13 (i : grid0.Coords) (k0_t1 : Fin (k0_t1_loop i).trips) : Fin 4 → Nat :=
  let c4_635 : Index := 4#32
  let c0_i32_412 : BitVec 32 := 0#32
  let c1_i32_414 : BitVec 32 := 1#32
  let arg17 : BitVec 32 := Scf.iv c0_i32_412 c1_i32_414 k0_t1
  let c0_i32_630 : BitVec 32 := 0#32
  let v1327 : BitVec 1 := Scalar.cmpi .eq arg17 c0_i32_630
  let arg2 : BitVec 32 := BitVec.ofNat 32 (i 2).val
  let c1_i32_631 : BitVec 32 := 1#32
  let v1328 : BitVec 32 := Scalar.subi arg17 c1_i32_631
  let c1_i32_632 : BitVec 32 := 1#32
  let v1329 : BitVec 32 := Scalar.muli v1328 c1_i32_632
  let c0_i32_633 : BitVec 32 := 0#32
  let v1330 : BitVec 32 := Scalar.addi v1329 c0_i32_633
  let c15_i32_634 : BitVec 32 := 15#32
  let v1331 : BitVec 32 := Scalar.minsi v1330 c15_i32_634
  let v1332 : BitVec 32 := Scalar.select v1327 arg2 v1331
  let v1333 : Index := Scalar.indexCast v1332
  let c0_636 : Index := 0#32
  let c0_637 : Index := 0#32
  ![4, v1333.toNat, 0, 0]
def k0_off14 (i : grid0.Coords) (k0_t1 : Fin (k0_t1_loop i).trips) : Fin 4 → Nat :=
  let c5_648 : Index := 5#32
  let c0_i32_412 : BitVec 32 := 0#32
  let c1_i32_414 : BitVec 32 := 1#32
  let arg17 : BitVec 32 := Scf.iv c0_i32_412 c1_i32_414 k0_t1
  let c0_i32_643 : BitVec 32 := 0#32
  let v1339 : BitVec 1 := Scalar.cmpi .eq arg17 c0_i32_643
  let arg2 : BitVec 32 := BitVec.ofNat 32 (i 2).val
  let c1_i32_644 : BitVec 32 := 1#32
  let v1340 : BitVec 32 := Scalar.subi arg17 c1_i32_644
  let c1_i32_645 : BitVec 32 := 1#32
  let v1341 : BitVec 32 := Scalar.muli v1340 c1_i32_645
  let c0_i32_646 : BitVec 32 := 0#32
  let v1342 : BitVec 32 := Scalar.addi v1341 c0_i32_646
  let c15_i32_647 : BitVec 32 := 15#32
  let v1343 : BitVec 32 := Scalar.minsi v1342 c15_i32_647
  let v1344 : BitVec 32 := Scalar.select v1339 arg2 v1343
  let v1345 : Index := Scalar.indexCast v1344
  let c0_649 : Index := 0#32
  let c0_650 : Index := 0#32
  ![5, v1345.toNat, 0, 0]
def k0_off15 (i : grid0.Coords) (k0_t1 : Fin (k0_t1_loop i).trips) : Fin 4 → Nat :=
  let c6_661 : Index := 6#32
  let c0_i32_412 : BitVec 32 := 0#32
  let c1_i32_414 : BitVec 32 := 1#32
  let arg17 : BitVec 32 := Scf.iv c0_i32_412 c1_i32_414 k0_t1
  let c0_i32_656 : BitVec 32 := 0#32
  let v1351 : BitVec 1 := Scalar.cmpi .eq arg17 c0_i32_656
  let arg2 : BitVec 32 := BitVec.ofNat 32 (i 2).val
  let c1_i32_657 : BitVec 32 := 1#32
  let v1352 : BitVec 32 := Scalar.subi arg17 c1_i32_657
  let c1_i32_658 : BitVec 32 := 1#32
  let v1353 : BitVec 32 := Scalar.muli v1352 c1_i32_658
  let c0_i32_659 : BitVec 32 := 0#32
  let v1354 : BitVec 32 := Scalar.addi v1353 c0_i32_659
  let c15_i32_660 : BitVec 32 := 15#32
  let v1355 : BitVec 32 := Scalar.minsi v1354 c15_i32_660
  let v1356 : BitVec 32 := Scalar.select v1351 arg2 v1355
  let v1357 : Index := Scalar.indexCast v1356
  let c0_662 : Index := 0#32
  let c0_663 : Index := 0#32
  ![6, v1357.toNat, 0, 0]
def k0_off16 (i : grid0.Coords) (k0_t1 : Fin (k0_t1_loop i).trips) : Fin 4 → Nat :=
  let c7_674 : Index := 7#32
  let c0_i32_412 : BitVec 32 := 0#32
  let c1_i32_414 : BitVec 32 := 1#32
  let arg17 : BitVec 32 := Scf.iv c0_i32_412 c1_i32_414 k0_t1
  let c0_i32_669 : BitVec 32 := 0#32
  let v1363 : BitVec 1 := Scalar.cmpi .eq arg17 c0_i32_669
  let arg2 : BitVec 32 := BitVec.ofNat 32 (i 2).val
  let c1_i32_670 : BitVec 32 := 1#32
  let v1364 : BitVec 32 := Scalar.subi arg17 c1_i32_670
  let c1_i32_671 : BitVec 32 := 1#32
  let v1365 : BitVec 32 := Scalar.muli v1364 c1_i32_671
  let c0_i32_672 : BitVec 32 := 0#32
  let v1366 : BitVec 32 := Scalar.addi v1365 c0_i32_672
  let c15_i32_673 : BitVec 32 := 15#32
  let v1367 : BitVec 32 := Scalar.minsi v1366 c15_i32_673
  let v1368 : BitVec 32 := Scalar.select v1363 arg2 v1367
  let v1369 : Index := Scalar.indexCast v1368
  let c0_675 : Index := 0#32
  let c0_676 : Index := 0#32
  ![7, v1369.toNat, 0, 0]
@[reducible] def k0_t2_loop (i : grid0.Coords) : Scf.Loop 32 :=
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let v1076 : BitVec 32 := Scalar.addi c0_i32_412 v1075
  let c1_i32_415 : BitVec 32 := 1#32
  ⟨v1079, v1076, c1_i32_415⟩
def k0_off17 (i : grid0.Coords) (k0_t2 : Fin (k0_t2_loop i).trips) : Fin 4 → Nat :=
  let c0_525 : Index := 0#32
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let c1_i32_415 : BitVec 32 := 1#32
  let arg17 : BitVec 32 := Scf.iv v1079 c1_i32_415 k0_t2
  let c1_i32_522 : BitVec 32 := 1#32
  let v1223 : BitVec 32 := Scalar.muli arg17 c1_i32_522
  let c0_i32_523 : BitVec 32 := 0#32
  let v1224 : BitVec 32 := Scalar.addi v1223 c0_i32_523
  let c15_i32_524 : BitVec 32 := 15#32
  let v1225 : BitVec 32 := Scalar.minsi v1224 c15_i32_524
  let v1226 : Index := Scalar.indexCast v1225
  let c0_526 : Index := 0#32
  let c0_527 : Index := 0#32
  ![0, v1226.toNat, 0, 0]
def k0_off18 (i : grid0.Coords) (k0_t2 : Fin (k0_t2_loop i).trips) : Fin 4 → Nat :=
  let c1_539 : Index := 1#32
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let c1_i32_415 : BitVec 32 := 1#32
  let arg17 : BitVec 32 := Scf.iv v1079 c1_i32_415 k0_t2
  let c1_i32_536 : BitVec 32 := 1#32
  let v1237 : BitVec 32 := Scalar.muli arg17 c1_i32_536
  let c0_i32_537 : BitVec 32 := 0#32
  let v1238 : BitVec 32 := Scalar.addi v1237 c0_i32_537
  let c15_i32_538 : BitVec 32 := 15#32
  let v1239 : BitVec 32 := Scalar.minsi v1238 c15_i32_538
  let v1240 : Index := Scalar.indexCast v1239
  let c0_540 : Index := 0#32
  let c0_541 : Index := 0#32
  ![1, v1240.toNat, 0, 0]
def k0_off19 (i : grid0.Coords) (k0_t2 : Fin (k0_t2_loop i).trips) : Fin 4 → Nat :=
  let c2_553 : Index := 2#32
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let c1_i32_415 : BitVec 32 := 1#32
  let arg17 : BitVec 32 := Scf.iv v1079 c1_i32_415 k0_t2
  let c1_i32_550 : BitVec 32 := 1#32
  let v1251 : BitVec 32 := Scalar.muli arg17 c1_i32_550
  let c0_i32_551 : BitVec 32 := 0#32
  let v1252 : BitVec 32 := Scalar.addi v1251 c0_i32_551
  let c15_i32_552 : BitVec 32 := 15#32
  let v1253 : BitVec 32 := Scalar.minsi v1252 c15_i32_552
  let v1254 : Index := Scalar.indexCast v1253
  let c0_554 : Index := 0#32
  let c0_555 : Index := 0#32
  ![2, v1254.toNat, 0, 0]
def k0_off20 (i : grid0.Coords) (k0_t2 : Fin (k0_t2_loop i).trips) : Fin 4 → Nat :=
  let c3_567 : Index := 3#32
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let c1_i32_415 : BitVec 32 := 1#32
  let arg17 : BitVec 32 := Scf.iv v1079 c1_i32_415 k0_t2
  let c1_i32_564 : BitVec 32 := 1#32
  let v1265 : BitVec 32 := Scalar.muli arg17 c1_i32_564
  let c0_i32_565 : BitVec 32 := 0#32
  let v1266 : BitVec 32 := Scalar.addi v1265 c0_i32_565
  let c15_i32_566 : BitVec 32 := 15#32
  let v1267 : BitVec 32 := Scalar.minsi v1266 c15_i32_566
  let v1268 : Index := Scalar.indexCast v1267
  let c0_568 : Index := 0#32
  let c0_569 : Index := 0#32
  ![3, v1268.toNat, 0, 0]
def k0_off21 (i : grid0.Coords) (k0_t2 : Fin (k0_t2_loop i).trips) : Fin 4 → Nat :=
  let c0_583 : Index := 0#32
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let c1_i32_415 : BitVec 32 := 1#32
  let arg17 : BitVec 32 := Scf.iv v1079 c1_i32_415 k0_t2
  let c0_i32_578 : BitVec 32 := 0#32
  let v1279 : BitVec 1 := Scalar.cmpi .eq arg17 c0_i32_578
  let c1_i32_579 : BitVec 32 := 1#32
  let v1280 : BitVec 32 := Scalar.subi arg17 c1_i32_579
  let c1_i32_580 : BitVec 32 := 1#32
  let v1281 : BitVec 32 := Scalar.muli v1280 c1_i32_580
  let c0_i32_581 : BitVec 32 := 0#32
  let v1282 : BitVec 32 := Scalar.addi v1281 c0_i32_581
  let c15_i32_582 : BitVec 32 := 15#32
  let v1283 : BitVec 32 := Scalar.minsi v1282 c15_i32_582
  let v1284 : BitVec 32 := Scalar.select v1279 arg2 v1283
  let v1285 : Index := Scalar.indexCast v1284
  let c0_584 : Index := 0#32
  let c0_585 : Index := 0#32
  ![0, v1285.toNat, 0, 0]
def k0_off22 (i : grid0.Coords) (k0_t2 : Fin (k0_t2_loop i).trips) : Fin 4 → Nat :=
  let c1_596 : Index := 1#32
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let c1_i32_415 : BitVec 32 := 1#32
  let arg17 : BitVec 32 := Scf.iv v1079 c1_i32_415 k0_t2
  let c0_i32_591 : BitVec 32 := 0#32
  let v1291 : BitVec 1 := Scalar.cmpi .eq arg17 c0_i32_591
  let c1_i32_592 : BitVec 32 := 1#32
  let v1292 : BitVec 32 := Scalar.subi arg17 c1_i32_592
  let c1_i32_593 : BitVec 32 := 1#32
  let v1293 : BitVec 32 := Scalar.muli v1292 c1_i32_593
  let c0_i32_594 : BitVec 32 := 0#32
  let v1294 : BitVec 32 := Scalar.addi v1293 c0_i32_594
  let c15_i32_595 : BitVec 32 := 15#32
  let v1295 : BitVec 32 := Scalar.minsi v1294 c15_i32_595
  let v1296 : BitVec 32 := Scalar.select v1291 arg2 v1295
  let v1297 : Index := Scalar.indexCast v1296
  let c0_597 : Index := 0#32
  let c0_598 : Index := 0#32
  ![1, v1297.toNat, 0, 0]
def k0_off23 (i : grid0.Coords) (k0_t2 : Fin (k0_t2_loop i).trips) : Fin 4 → Nat :=
  let c2_609 : Index := 2#32
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let c1_i32_415 : BitVec 32 := 1#32
  let arg17 : BitVec 32 := Scf.iv v1079 c1_i32_415 k0_t2
  let c0_i32_604 : BitVec 32 := 0#32
  let v1303 : BitVec 1 := Scalar.cmpi .eq arg17 c0_i32_604
  let c1_i32_605 : BitVec 32 := 1#32
  let v1304 : BitVec 32 := Scalar.subi arg17 c1_i32_605
  let c1_i32_606 : BitVec 32 := 1#32
  let v1305 : BitVec 32 := Scalar.muli v1304 c1_i32_606
  let c0_i32_607 : BitVec 32 := 0#32
  let v1306 : BitVec 32 := Scalar.addi v1305 c0_i32_607
  let c15_i32_608 : BitVec 32 := 15#32
  let v1307 : BitVec 32 := Scalar.minsi v1306 c15_i32_608
  let v1308 : BitVec 32 := Scalar.select v1303 arg2 v1307
  let v1309 : Index := Scalar.indexCast v1308
  let c0_610 : Index := 0#32
  let c0_611 : Index := 0#32
  ![2, v1309.toNat, 0, 0]
def k0_off24 (i : grid0.Coords) (k0_t2 : Fin (k0_t2_loop i).trips) : Fin 4 → Nat :=
  let c3_622 : Index := 3#32
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let c1_i32_415 : BitVec 32 := 1#32
  let arg17 : BitVec 32 := Scf.iv v1079 c1_i32_415 k0_t2
  let c0_i32_617 : BitVec 32 := 0#32
  let v1315 : BitVec 1 := Scalar.cmpi .eq arg17 c0_i32_617
  let c1_i32_618 : BitVec 32 := 1#32
  let v1316 : BitVec 32 := Scalar.subi arg17 c1_i32_618
  let c1_i32_619 : BitVec 32 := 1#32
  let v1317 : BitVec 32 := Scalar.muli v1316 c1_i32_619
  let c0_i32_620 : BitVec 32 := 0#32
  let v1318 : BitVec 32 := Scalar.addi v1317 c0_i32_620
  let c15_i32_621 : BitVec 32 := 15#32
  let v1319 : BitVec 32 := Scalar.minsi v1318 c15_i32_621
  let v1320 : BitVec 32 := Scalar.select v1315 arg2 v1319
  let v1321 : Index := Scalar.indexCast v1320
  let c0_623 : Index := 0#32
  let c0_624 : Index := 0#32
  ![3, v1321.toNat, 0, 0]
def k0_off25 (i : grid0.Coords) (k0_t2 : Fin (k0_t2_loop i).trips) : Fin 4 → Nat :=
  let c4_635 : Index := 4#32
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let c1_i32_415 : BitVec 32 := 1#32
  let arg17 : BitVec 32 := Scf.iv v1079 c1_i32_415 k0_t2
  let c0_i32_630 : BitVec 32 := 0#32
  let v1327 : BitVec 1 := Scalar.cmpi .eq arg17 c0_i32_630
  let c1_i32_631 : BitVec 32 := 1#32
  let v1328 : BitVec 32 := Scalar.subi arg17 c1_i32_631
  let c1_i32_632 : BitVec 32 := 1#32
  let v1329 : BitVec 32 := Scalar.muli v1328 c1_i32_632
  let c0_i32_633 : BitVec 32 := 0#32
  let v1330 : BitVec 32 := Scalar.addi v1329 c0_i32_633
  let c15_i32_634 : BitVec 32 := 15#32
  let v1331 : BitVec 32 := Scalar.minsi v1330 c15_i32_634
  let v1332 : BitVec 32 := Scalar.select v1327 arg2 v1331
  let v1333 : Index := Scalar.indexCast v1332
  let c0_636 : Index := 0#32
  let c0_637 : Index := 0#32
  ![4, v1333.toNat, 0, 0]
def k0_off26 (i : grid0.Coords) (k0_t2 : Fin (k0_t2_loop i).trips) : Fin 4 → Nat :=
  let c5_648 : Index := 5#32
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let c1_i32_415 : BitVec 32 := 1#32
  let arg17 : BitVec 32 := Scf.iv v1079 c1_i32_415 k0_t2
  let c0_i32_643 : BitVec 32 := 0#32
  let v1339 : BitVec 1 := Scalar.cmpi .eq arg17 c0_i32_643
  let c1_i32_644 : BitVec 32 := 1#32
  let v1340 : BitVec 32 := Scalar.subi arg17 c1_i32_644
  let c1_i32_645 : BitVec 32 := 1#32
  let v1341 : BitVec 32 := Scalar.muli v1340 c1_i32_645
  let c0_i32_646 : BitVec 32 := 0#32
  let v1342 : BitVec 32 := Scalar.addi v1341 c0_i32_646
  let c15_i32_647 : BitVec 32 := 15#32
  let v1343 : BitVec 32 := Scalar.minsi v1342 c15_i32_647
  let v1344 : BitVec 32 := Scalar.select v1339 arg2 v1343
  let v1345 : Index := Scalar.indexCast v1344
  let c0_649 : Index := 0#32
  let c0_650 : Index := 0#32
  ![5, v1345.toNat, 0, 0]
def k0_off27 (i : grid0.Coords) (k0_t2 : Fin (k0_t2_loop i).trips) : Fin 4 → Nat :=
  let c6_661 : Index := 6#32
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let c1_i32_415 : BitVec 32 := 1#32
  let arg17 : BitVec 32 := Scf.iv v1079 c1_i32_415 k0_t2
  let c0_i32_656 : BitVec 32 := 0#32
  let v1351 : BitVec 1 := Scalar.cmpi .eq arg17 c0_i32_656
  let c1_i32_657 : BitVec 32 := 1#32
  let v1352 : BitVec 32 := Scalar.subi arg17 c1_i32_657
  let c1_i32_658 : BitVec 32 := 1#32
  let v1353 : BitVec 32 := Scalar.muli v1352 c1_i32_658
  let c0_i32_659 : BitVec 32 := 0#32
  let v1354 : BitVec 32 := Scalar.addi v1353 c0_i32_659
  let c15_i32_660 : BitVec 32 := 15#32
  let v1355 : BitVec 32 := Scalar.minsi v1354 c15_i32_660
  let v1356 : BitVec 32 := Scalar.select v1351 arg2 v1355
  let v1357 : Index := Scalar.indexCast v1356
  let c0_662 : Index := 0#32
  let c0_663 : Index := 0#32
  ![6, v1357.toNat, 0, 0]
def k0_off28 (i : grid0.Coords) (k0_t2 : Fin (k0_t2_loop i).trips) : Fin 4 → Nat :=
  let c7_674 : Index := 7#32
  let c0_i32_412 : BitVec 32 := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let v1075 : BitVec 32 := Scalar.subi v1074 c0_i32_412
  let c1_i32_413 : BitVec 32 := 1#32
  let v1077 : BitVec 32 := Scalar.divsi v1075 c1_i32_413
  let v1078 : BitVec 32 := Scalar.muli v1077 c1_i32_413
  let v1079 : BitVec 32 := Scalar.addi c0_i32_412 v1078
  let c1_i32_415 : BitVec 32 := 1#32
  let arg17 : BitVec 32 := Scf.iv v1079 c1_i32_415 k0_t2
  let c0_i32_669 : BitVec 32 := 0#32
  let v1363 : BitVec 1 := Scalar.cmpi .eq arg17 c0_i32_669
  let c1_i32_670 : BitVec 32 := 1#32
  let v1364 : BitVec 32 := Scalar.subi arg17 c1_i32_670
  let c1_i32_671 : BitVec 32 := 1#32
  let v1365 : BitVec 32 := Scalar.muli v1364 c1_i32_671
  let c0_i32_672 : BitVec 32 := 0#32
  let v1366 : BitVec 32 := Scalar.addi v1365 c0_i32_672
  let c15_i32_673 : BitVec 32 := 15#32
  let v1367 : BitVec 32 := Scalar.minsi v1366 c15_i32_673
  let v1368 : BitVec 32 := Scalar.select v1363 arg2 v1367
  let v1369 : Index := Scalar.indexCast v1368
  let c0_675 : Index := 0#32
  let c0_676 : Index := 0#32
  ![7, v1369.toNat, 0, 0]
def k0_off29 (i : grid0.Coords) : Fin 4 → Nat :=
  let c0_420 : Index := 0#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let c0_i32_416 : BitVec 32 := 0#32
  let v1082 : BitVec 1 := Scalar.cmpi .eq v1074 c0_i32_416
  let c1_i32_417 : BitVec 32 := 1#32
  let v1083 : BitVec 32 := Scalar.subi v1074 c1_i32_417
  let c1_i32_418 : BitVec 32 := 1#32
  let v1084 : BitVec 32 := Scalar.muli v1083 c1_i32_418
  let c0_i32_419 : BitVec 32 := 0#32
  let v1085 : BitVec 32 := Scalar.addi v1084 c0_i32_419
  let c15_i32 : BitVec 32 := 15#32
  let v1086 : BitVec 32 := Scalar.minsi v1085 c15_i32
  let v1087 : BitVec 32 := Scalar.select v1082 arg2 v1086
  let v1088 : Index := Scalar.indexCast v1087
  let c0_421 : Index := 0#32
  let c0_422 : Index := 0#32
  ![0, v1088.toNat, 0, 0]
def k0_off30 (i : grid0.Coords) : Fin 4 → Nat :=
  let c1_433 : Index := 1#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let c0_i32_428 : BitVec 32 := 0#32
  let v1099 : BitVec 1 := Scalar.cmpi .eq v1074 c0_i32_428
  let c1_i32_429 : BitVec 32 := 1#32
  let v1100 : BitVec 32 := Scalar.subi v1074 c1_i32_429
  let c1_i32_430 : BitVec 32 := 1#32
  let v1101 : BitVec 32 := Scalar.muli v1100 c1_i32_430
  let c0_i32_431 : BitVec 32 := 0#32
  let v1102 : BitVec 32 := Scalar.addi v1101 c0_i32_431
  let c15_i32_432 : BitVec 32 := 15#32
  let v1103 : BitVec 32 := Scalar.minsi v1102 c15_i32_432
  let v1104 : BitVec 32 := Scalar.select v1099 arg2 v1103
  let v1105 : Index := Scalar.indexCast v1104
  let c0_434 : Index := 0#32
  let c0_435 : Index := 0#32
  ![1, v1105.toNat, 0, 0]
def k0_off31 (i : grid0.Coords) : Fin 4 → Nat :=
  let c2_446 : Index := 2#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let c0_i32_441 : BitVec 32 := 0#32
  let v1116 : BitVec 1 := Scalar.cmpi .eq v1074 c0_i32_441
  let c1_i32_442 : BitVec 32 := 1#32
  let v1117 : BitVec 32 := Scalar.subi v1074 c1_i32_442
  let c1_i32_443 : BitVec 32 := 1#32
  let v1118 : BitVec 32 := Scalar.muli v1117 c1_i32_443
  let c0_i32_444 : BitVec 32 := 0#32
  let v1119 : BitVec 32 := Scalar.addi v1118 c0_i32_444
  let c15_i32_445 : BitVec 32 := 15#32
  let v1120 : BitVec 32 := Scalar.minsi v1119 c15_i32_445
  let v1121 : BitVec 32 := Scalar.select v1116 arg2 v1120
  let v1122 : Index := Scalar.indexCast v1121
  let c0_447 : Index := 0#32
  let c0_448 : Index := 0#32
  ![2, v1122.toNat, 0, 0]
def k0_off32 (i : grid0.Coords) : Fin 4 → Nat :=
  let c3_459 : Index := 3#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let c0_i32_454 : BitVec 32 := 0#32
  let v1133 : BitVec 1 := Scalar.cmpi .eq v1074 c0_i32_454
  let c1_i32_455 : BitVec 32 := 1#32
  let v1134 : BitVec 32 := Scalar.subi v1074 c1_i32_455
  let c1_i32_456 : BitVec 32 := 1#32
  let v1135 : BitVec 32 := Scalar.muli v1134 c1_i32_456
  let c0_i32_457 : BitVec 32 := 0#32
  let v1136 : BitVec 32 := Scalar.addi v1135 c0_i32_457
  let c15_i32_458 : BitVec 32 := 15#32
  let v1137 : BitVec 32 := Scalar.minsi v1136 c15_i32_458
  let v1138 : BitVec 32 := Scalar.select v1133 arg2 v1137
  let v1139 : Index := Scalar.indexCast v1138
  let c0_460 : Index := 0#32
  let c0_461 : Index := 0#32
  ![3, v1139.toNat, 0, 0]
def k0_off33 (i : grid0.Coords) : Fin 4 → Nat :=
  let c4_472 : Index := 4#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let c0_i32_467 : BitVec 32 := 0#32
  let v1150 : BitVec 1 := Scalar.cmpi .eq v1074 c0_i32_467
  let c1_i32_468 : BitVec 32 := 1#32
  let v1151 : BitVec 32 := Scalar.subi v1074 c1_i32_468
  let c1_i32_469 : BitVec 32 := 1#32
  let v1152 : BitVec 32 := Scalar.muli v1151 c1_i32_469
  let c0_i32_470 : BitVec 32 := 0#32
  let v1153 : BitVec 32 := Scalar.addi v1152 c0_i32_470
  let c15_i32_471 : BitVec 32 := 15#32
  let v1154 : BitVec 32 := Scalar.minsi v1153 c15_i32_471
  let v1155 : BitVec 32 := Scalar.select v1150 arg2 v1154
  let v1156 : Index := Scalar.indexCast v1155
  let c0_473 : Index := 0#32
  let c0_474 : Index := 0#32
  ![4, v1156.toNat, 0, 0]
def k0_off34 (i : grid0.Coords) : Fin 4 → Nat :=
  let c5_485 : Index := 5#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let c0_i32_480 : BitVec 32 := 0#32
  let v1167 : BitVec 1 := Scalar.cmpi .eq v1074 c0_i32_480
  let c1_i32_481 : BitVec 32 := 1#32
  let v1168 : BitVec 32 := Scalar.subi v1074 c1_i32_481
  let c1_i32_482 : BitVec 32 := 1#32
  let v1169 : BitVec 32 := Scalar.muli v1168 c1_i32_482
  let c0_i32_483 : BitVec 32 := 0#32
  let v1170 : BitVec 32 := Scalar.addi v1169 c0_i32_483
  let c15_i32_484 : BitVec 32 := 15#32
  let v1171 : BitVec 32 := Scalar.minsi v1170 c15_i32_484
  let v1172 : BitVec 32 := Scalar.select v1167 arg2 v1171
  let v1173 : Index := Scalar.indexCast v1172
  let c0_486 : Index := 0#32
  let c0_487 : Index := 0#32
  ![5, v1173.toNat, 0, 0]
def k0_off35 (i : grid0.Coords) : Fin 4 → Nat :=
  let c6_498 : Index := 6#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let c0_i32_493 : BitVec 32 := 0#32
  let v1184 : BitVec 1 := Scalar.cmpi .eq v1074 c0_i32_493
  let c1_i32_494 : BitVec 32 := 1#32
  let v1185 : BitVec 32 := Scalar.subi v1074 c1_i32_494
  let c1_i32_495 : BitVec 32 := 1#32
  let v1186 : BitVec 32 := Scalar.muli v1185 c1_i32_495
  let c0_i32_496 : BitVec 32 := 0#32
  let v1187 : BitVec 32 := Scalar.addi v1186 c0_i32_496
  let c15_i32_497 : BitVec 32 := 15#32
  let v1188 : BitVec 32 := Scalar.minsi v1187 c15_i32_497
  let v1189 : BitVec 32 := Scalar.select v1184 arg2 v1188
  let v1190 : Index := Scalar.indexCast v1189
  let c0_499 : Index := 0#32
  let c0_500 : Index := 0#32
  ![6, v1190.toNat, 0, 0]
def k0_off36 (i : grid0.Coords) : Fin 4 → Nat :=
  let c7_511 : Index := 7#32
  let arg2 : BitVec 32 := BitVec.ofNat 32 (i 2).val
  let c1_i32_403 : BitVec 32 := 1#32
  let v1056 : BitVec 32 := Scalar.addi arg2 c1_i32_403
  let c1_i32_404 : BitVec 32 := 1#32
  let v1057 : BitVec 32 := Scalar.subi v1056 c1_i32_404
  let c0_i32_406 : BitVec 32 := 0#32
  let v1059 : BitVec 1 := Scalar.cmpi .sgt v1057 c0_i32_406
  let v1060 : BitVec 32 := Scalar.extui v1059
  let c0_i32_407 : BitVec 32 := 0#32
  let v1061 : BitVec 1 := Scalar.cmpi .slt v1057 c0_i32_407
  let v1062 : BitVec 32 := Scalar.extui v1061
  let v1063 : BitVec 32 := Scalar.subi v1060 v1062
  let c1_i32_405 : BitVec 32 := 1#32
  let c0_i32_408 : BitVec 32 := 0#32
  let v1064 : BitVec 1 := Scalar.cmpi .sgt c1_i32_405 c0_i32_408
  let v1065 : BitVec 32 := Scalar.extui v1064
  let c0_i32_409 : BitVec 32 := 0#32
  let v1066 : BitVec 1 := Scalar.cmpi .slt c1_i32_405 c0_i32_409
  let v1067 : BitVec 32 := Scalar.extui v1066
  let v1068 : BitVec 32 := Scalar.subi v1065 v1067
  let v1069 : BitVec 1 := Scalar.cmpi .ne v1063 v1068
  let v1070 : BitVec 32 := Scalar.remsi v1057 c1_i32_405
  let c0_i32_410 : BitVec 32 := 0#32
  let v1071 : BitVec 1 := Scalar.cmpi .ne v1070 c0_i32_410
  let v1072 : BitVec 1 := Scalar.andi v1069 v1071
  let v1058 : BitVec 32 := Scalar.divsi v1057 c1_i32_405
  let c1_i32_411 : BitVec 32 := 1#32
  let v1073 : BitVec 32 := Scalar.subi v1058 c1_i32_411
  let v1074 : BitVec 32 := Scalar.select v1072 v1073 v1058
  let c0_i32_506 : BitVec 32 := 0#32
  let v1201 : BitVec 1 := Scalar.cmpi .eq v1074 c0_i32_506
  let c1_i32_507 : BitVec 32 := 1#32
  let v1202 : BitVec 32 := Scalar.subi v1074 c1_i32_507
  let c1_i32_508 : BitVec 32 := 1#32
  let v1203 : BitVec 32 := Scalar.muli v1202 c1_i32_508
  let c0_i32_509 : BitVec 32 := 0#32
  let v1204 : BitVec 32 := Scalar.addi v1203 c0_i32_509
  let c15_i32_510 : BitVec 32 := 15#32
  let v1205 : BitVec 32 := Scalar.minsi v1204 c15_i32_510
  let v1206 : BitVec 32 := Scalar.select v1201 arg2 v1205
  let v1207 : Index := Scalar.indexCast v1206
  let c0_512 : Index := 0#32
  let c0_513 : Index := 0#32
  ![7, v1207.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Proof.FfnSpec.lean ====
/-
  The feed-forward half-step as mathematics over the extended reals: RMS normalisation of one row, the gate and up
  products, SiLU, the down product, and half of it added back to the row. Both feed-forward calls and both of their
  references are read to `ffnRow`.
-/
module

public import Idealize.ShloMosaic.PureOps.Ideal
public import Idealize.ShloMosaic.Lib.Pointwise

@[expose] public section

noncomputable section

namespace Cert.Proof.Ffn

open Idealize.ShloMosaic

/-- The row `x` divided by its root mean square (the small constant added to the mean square), times the weight `g`. -/
def rms (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- SiLU: a value times its logistic. -/
def silu (a : EReal) : EReal := a * Ideal.logistic a

/-- Hidden unit `f` of a row: SiLU of the gate product times the up product. -/
def hidUnit {n : Nat} (h : Fin 1024 → EReal) (wg wu : Fin 1024 → Fin n → EReal) (f : Fin n) : EReal :=
  silu (∑ k : Fin 1024, h k * wg k f) * (∑ k : Fin 1024, h k * wu k f)

/-- The row `x` plus half of the down product of its hidden units: one feed-forward half-step of one token. -/
def ffnRow (x g : Fin 1024 → EReal) (wg wu : Fin 1024 → Fin 2816 → EReal) (wd : Fin 2816 → Fin 1024 → EReal) (n : Fin 1024) : EReal :=
  x n + Ideal.ofBits .f32 0x3F000000#32 * ∑ f : Fin 2816, hidUnit (rms x g) wg wu f * wd f n

/-- A sum over the 2816 hidden units is the sum over the first 1536 and over the last 1280. -/
theorem sum_hidden (G : Fin 2816 → EReal) :
    ∑ f : Fin 2816, G f = (∑ f : Fin 1536, G ⟨f.val, by omega⟩) + ∑ f : Fin 1280, G ⟨1536 + f.val, by omega⟩ :=
  Fin.sum_univ_add (a := 1536) (b := 1280) G

/-- The row `x` plus the output projection of the two mixers' rows `p` and `q`, each by its own half of the weights. -/
def mixRow (x : Fin 1024 → EReal) (p q : Fin 512 → EReal) (wp wq : Fin 512 → Fin 1024 → EReal) (n : Fin 1024) : EReal :=
  x n + (∑ j : Fin 512, p j * wp j n) + ∑ j : Fin 512, q j * wq j n

/-- A sum over the 1024 mixer channels is the sum over the first 512 and over the last 512. -/
theorem sum_mix (G : Fin 1024 → EReal) :
    ∑ f : Fin 1024, G f = (∑ f : Fin 512, G ⟨f.val, by omega⟩) + ∑ f : Fin 512, G ⟨512 + f.val, by omega⟩ :=
  Fin.sum_univ_add (a := 512) (b := 512) G

end Cert.Proof.Ffn

end
-- ==== Proof.Ffn2Block.lean ====
/-
  The second feed-forward call with the output projection folded in: what one grid point writes, read at a row and a
  column at the extended reals, and the result array assembled from the 64 points' blocks of 512 rows.
-/
module

public import proofs.«01_k».proof.Proof.FfnSpec
public import proofs.«01_k».proof.Proof.Gen.KernelIdeal.Value
public import Idealize.ShloMosaic.Lib.Pointwise

@[expose] public section

noncomputable section

namespace Cert.Proof.Ffn2

open Cert.KernelIdeal Cert.KernelIdeal.Gen Idealize.ShloMosaic Idealize.ShloMosaic.TcCoe Cert.Proof.Ffn

theorem hz : (![0, 0] : Fin 2 → Nat) = fun _ => 0 := funext fun a => by fin_cases a <;> rfl

/-- The block after the output projection: the row plus the two mixers' products. -/
theorem pay2_apply (x : Vec Ideal S512x1024 .f32) (p : Vec Ideal S512x512 .f32) (wp : Vec Ideal S512x1024 .bf16) (q : Vec Ideal S512x512 .f32)
    (wq : Vec Ideal S512x1024 .bf16) (r : Fin 512) (n : Fin 1024) :
    k0_pay2 (F := Ideal) x p wp q wq (ix2 r n)
      = mixRow (fun k => x (ix2 r k)) (fun j => p (ix2 r j)) (fun j => q (ix2 r j)) (fun j n => wp (ix2 j n)) (fun j n => wq (ix2 j n)) n := by
  unfold k0_pay2 mixRow
  pointwise [dot_S512x512_S512x1024_S512x1024_1_0_0_1_n_n]

/-- The normalised block at row `r`. -/
theorem pay3_apply (x : Vec Ideal S512x1024 .f32) (p : Vec Ideal S512x512 .f32) (wp : Vec Ideal S512x1024 .bf16) (q : Vec Ideal S512x512 .f32)
    (wq : Vec Ideal S512x1024 .bf16) (g : Vec Ideal S1x1024 .f32) (r : Fin 512) (k : Fin 1024) :
    k0_pay3 (F := Ideal) x p wp q wq g (ix2 r k) = rms (fun j => k0_pay2 (F := Ideal) x p wp q wq (ix2 r j)) (fun j => g (ix2 0 j)) k := by
  unfold k0_pay3
  generalize k0_pay2 (F := Ideal) x p wp q wq = y
  unfold rms
  pointwise

/-- The stored block: the mixed row plus half of the down product, in two halves of the hidden units. -/
theorem pay1_apply (y : FVec Ideal S512x1024 .f32) (h : FVec Ideal S512x1024 .bf16) (wg wu : Vec Ideal S1024x1536 .bf16)
    (wd : Vec Ideal S1536x1024 .bf16) (wg' wu' : Vec Ideal S1024x1280 .bf16) (wd' : Vec Ideal S1280x1024 .bf16) (v33 : FVec Ideal S512x1536 .f32)
    (h33 : ∀ (r : Fin 512) (f : Fin 1536), v33 (ix2 r f) = ∑ k : Fin 1024, h (ix2 r k) * wg (ix2 k f)) (r : Fin 512) (n : Fin 1024) :
    k0_pay1 (F := Ideal) y h v33 (k0_pay5 (F := Ideal) wu) (constant S512x1536 .f32 0x00000000#32) wd wg' wu' wd' (ix2 r n)
      = y (ix2 r n) + Ideal.ofBits .f32 0x3F000000#32 *
        ((∑ f : Fin 1536, hidUnit (fun k => h (ix2 r k)) (fun k f => wg (ix2 k f)) (fun k f => wu (ix2 k f)) f * wd (ix2 f n))
          + ∑ f : Fin 1280, hidUnit (fun k => h (ix2 r k)) (fun k f => wg' (ix2 k f)) (fun k f => wu' (ix2 k f)) f * wd' (ix2 f n)) := by
  unfold hidUnit silu
  simp only [← h33]
  unfold k0_pay1 k0_pay5
  pointwise [dot_S512x1024_S1024x1536_S512x1536_1_0_0_1_n_n, dot_S512x1536_S1536x1024_S512x1024_1_0_0_1_n_n, dot_S512x1024_S1024x1280_S512x1280_1_0_0_1_n_n, dot_S512x1280_S1280x1024_S512x1024_1_0_0_1_n_n]

/-- The gate product over the first 1536 hidden units. -/
theorem pay4_apply (x : Vec Ideal S512x1024 .f32) (p : Vec Ideal S512x512 .f32) (wp : Vec Ideal S512x1024 .bf16) (q : Vec Ideal S512x512 .f32)
    (wq : Vec Ideal S512x1024 .bf16) (g : Vec Ideal S1x1024 .f32) (w : Vec Ideal S1024x1536 .bf16) (r : Fin 512) (f : Fin 1536) :
    k0_pay4 (F := Ideal) x p wp q wq g w (ix2 r f) = ∑ k : Fin 1024, k0_pay3 (F := Ideal) x p wp q wq g (ix2 r k) * w (ix2 k f) := by
  unfold k0_pay4
  generalize k0_pay3 (F := Ideal) x p wp q wq g = h
  pointwise [dot_S512x1024_S1024x1536_S512x1536_1_0_0_1_n_n]

/-- What a grid point leaves in the result's block: the output projection and one feed-forward half-step of each of its
    512 rows. -/
theorem out_apply (x0 : Vec Ideal S512x1024 .f32) (x1 x2 : Vec Ideal S512x512 .f32) (x3 x4 : Vec Ideal S512x1024 .bf16) (x5 : Vec Ideal S1x1024 .f32)
    (x6 x7 : Vec Ideal S1024x2816 .bf16) (x8 : Vec Ideal S2816x1024 .bf16) (r : Fin 512) (n : Fin 1024) :
    out0_9 (F := Ideal) x0 x1 x2 x3 x4 x5 x6 x7 x8 (ix2 r n)
      = ffnRow (mixRow (fun k => x0 (ix2 r k)) (fun j => x1 (ix2 r j)) (fun j => x2 (ix2 r j)) (fun j n => x3 (ix2 j n)) (fun j n => x4 (ix2 j n)))
          (fun k => x5 (ix2 0 k)) (fun k f => x6 (ix2 k f)) (fun k f => x7 (ix2 k f)) (fun f n => x8 (ix2 f n)) n := by
  unfold out0_9
  rw [View.canon_unit_zero hz, pay1_apply (wg := View.ld x6 r0_3) (h33 := fun r f => pay4_apply ..)]
  simp only [pay3_apply, pay2_apply]
  unfold ffnRow
  rw [sum_hidden]
  unfold hidUnit silu
  pointwise

variable (m : (ℓ : Loc nD τ sig) → Buf (Elt Ideal) ℓ)

/-- The result array as one function of the arrays the region finds: each row's output projection and half-step. -/
def G (c : Dev nD) : Buf (Elt Ideal) ((c : Thread nD τ).loc main_v15) := fun i : S32768x1024.Idx =>
  ffnRow (mixRow (fun k => (V m c main_v2 : S32768x1024.Idx → EReal) (ix2 (i 0) k)) (fun j => (V m c main_v11 : S32768x512.Idx → EReal) (ix2 (i 0) j))
      (fun j => (V m c main_v12 : S32768x512.Idx → EReal) (ix2 (i 0) j)) (fun j n => (V m c main_v13 : S512x1024.Idx → EReal) (ix2 j n))
      (fun j n => (V m c main_v14 : S512x1024.Idx → EReal) (ix2 j n)))
    (fun k => (V m c main_v4 : S1x1024.Idx → EReal) (ix2 0 k))
    (fun k f => (V m c main_v6 : S1024x2816.Idx → EReal) (ix2 k f)) (fun k f => (V m c main_v8 : S1024x2816.Idx → EReal) (ix2 k f))
    (fun f n => (V m c main_v10 : S2816x1024.Idx → EReal) (ix2 f n)) (i 1)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx9 : ∀ t : Fin cfg0.N, win0_9.index t = ![t.val, 0] := (by decide +kernel : ∀ t : Fin grid0.N, win0_9.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])

theorem row_lt (t : Fin cfg0.N) (r : Fin 512) : t.val * 512 + r.val < 32768 := by
  have h := t.isLt; have e : cfg0.N = 64 := N_0; omega

/-- Operand 0's block at point `t` is rows `512·t …` of the array. -/
theorem iblk0_apply (c : Dev nD) (t : Fin cfg0.N) (r : Fin 512) (k : Fin 1024) :
    (iblk m c 0 t : Vec Ideal S512x1024 .f32) (ix2 r k) = (V m c main_v2 : S32768x1024.Idx → EReal) (ix2 ⟨t.val * 512 + r.val, row_lt t r⟩ k) := by
  unfold iblk
  rw [View.read_apply]
  refine congrArg (V m c main_v2) (funext fun a => Fin.ext ?_)
  match a with
  | ⟨0, _⟩ => show win0_0.index t 0 * 512 + 1 * r.val = t.val * 512 + r.val; rw [idx0]; show t.val * 512 + 1 * r.val = _; omega
  | ⟨1, _⟩ => show win0_0.index t 1 * 1024 + 1 * k.val = k.val; rw [idx0]; show 0 * 1024 + 1 * k.val = _; omega

/-- Operand 1's block at point `t` is rows `512·t …` of the array. -/
theorem iblk1_apply (c : Dev nD) (t : Fin cfg0.N) (r : Fin 512) (k : Fin 512) :
    (iblk m c 1 t : Vec Ideal S512x512 .f32) (ix2 r k) = (V m c main_v11 : S32768x512.Idx → EReal) (ix2 ⟨t.val * 512 + r.val, row_lt t r⟩ k) := by
  unfold iblk
  rw [View.read_apply]
  refine congrArg (V m c main_v11) (funext fun a => Fin.ext ?_)
  match a with
  | ⟨0, _⟩ => show win0_1.index t 0 * 512 + 1 * r.val = t.val * 512 + r.val; rw [idx1]; show t.val * 512 + 1 * r.val = _; omega
  | ⟨1, _⟩ => show win0_1.index t 1 * 512 + 1 * k.val = k.val; rw [idx1]; show 0 * 512 + 1 * k.val = _; omega

/-- Operand 2's block at point `t` is rows `512·t …` of the array. -/
theorem iblk2_apply (c : Dev nD) (t : Fin cfg0.N) (r : Fin 512) (k : Fin 512) :
    (iblk m c 2 t : Vec Ideal S512x512 .f32) (ix2 r k) = (V m c main_v12 : S32768x512.Idx → EReal) (ix2 ⟨t.val * 512 + r.val, row_lt t r⟩ k) := by
  unfold iblk
  rw [View.read_apply]
  refine congrArg (V m c main_v12) (funext fun a => Fin.ext ?_)
  match a with
  | ⟨0, _⟩ => show win0_2.index t 0 * 512 + 1 * r.val = t.val * 512 + r.val; rw [idx2]; show t.val * 512 + 1 * r.val = _; omega
  | ⟨1, _⟩ => show win0_2.index t 1 * 512 + 1 * k.val = k.val; rw [idx2]; show 0 * 512 + 1 * k.val = _; omega

theorem iblk3_eq (c : Dev nD) (t : Fin cfg0.N) : (iblk m c 3 t : Vec Ideal S512x1024 .bf16) = (V m c main_v13 : S512x1024.Idx → EReal) := by
  funext j
  unfold iblk
  rw [View.read_apply]
  refine congrArg (V m c main_v13) (funext fun a => Fin.ext ?_)
  match a with
  | ⟨0, _⟩ => show win0_3.index t 0 * 512 + 1 * (j 0).val = (j 0).val; rw [idx3]; show 0 * 512 + 1 * (j 0).val = _; omega
  | ⟨1, _⟩ => show win0_3.index t 1 * 1024 + 1 * (j 1).val = (j 1).val; rw [idx3]; show 0 * 1024 + 1 * (j 1).val = _; omega

theorem iblk4_eq (c : Dev nD) (t : Fin cfg0.N) : (iblk m c 4 t : Vec Ideal S512x1024 .bf16) = (V m c main_v14 : S512x1024.Idx → EReal) := by
  funext j
  unfold iblk
  rw [View.read_apply]
  refine congrArg (V m c main_v14) (funext fun a => Fin.ext ?_)
  match a with
  | ⟨0, _⟩ => show win0_4.index t 0 * 512 + 1 * (j 0).val = (j 0).val; rw [idx4]; show 0 * 512 + 1 * (j 0).val = _; omega
  | ⟨1, _⟩ => show win0_4.index t 1 * 1024 + 1 * (j 1).val = (j 1).val; rw [idx4]; show 0 * 1024 + 1 * (j 1).val = _; omega

theorem iblk5_eq (c : Dev nD) (t : Fin cfg0.N) : (iblk m c 5 t : Vec Ideal S1x1024 .f32) = (V m c main_v4 : S1x1024.Idx → EReal) := by
  funext j
  unfold iblk
  rw [View.read_apply]
  refine congrArg (V m c main_v4) (funext fun a => Fin.ext ?_)
  match a with
  | ⟨0, _⟩ => show win0_5.index t 0 * 1 + 1 * (j 0).val = (j 0).val; rw [idx5]; show 0 * 1 + 1 * (j 0).val = _; omega
  | ⟨1, _⟩ => show win0_5.index t 1 * 1024 + 1 * (j 1).val = (j 1).val; rw [idx5]; show 0 * 1024 + 1 * (j 1).val = _; omega

theorem iblk6_eq (c : Dev nD) (t : Fin cfg0.N) : (iblk m c 6 t : Vec Ideal S1024x2816 .bf16) = (V m c main_v6 : S1024x2816.Idx → EReal) := by
  funext j
  unfold iblk
  rw [View.read_apply]
  refine congrArg (V m c main_v6) (funext fun a => Fin.ext ?_)
  match a with
  | ⟨0, _⟩ => show win0_6.index t 0 * 1024 + 1 * (j 0).val = (j 0).val; rw [idx6]; show 0 * 1024 + 1 * (j 0).val = _; omega
  | ⟨1, _⟩ => show win0_6.index t 1 * 2816 + 1 * (j 1).val = (j 1).val; rw [idx6]; show 0 * 2816 + 1 * (j 1).val = _; omega

theorem iblk7_eq (c : Dev nD) (t : Fin cfg0.N) : (iblk m c 7 t : Vec Ideal S1024x2816 .bf16) = (V m c main_v8 : S1024x2816.Idx → EReal) := by
  funext j
  unfold iblk
  rw [View.read_apply]
  refine congrArg (V m c main_v8) (funext fun a => Fin.ext ?_)
  match a with
  | ⟨0, _⟩ => show win0_7.index t 0 * 1024 + 1 * (j 0).val = (j 0).val; rw [idx7]; show 0 * 1024 + 1 * (j 0).val = _; omega
  | ⟨1, _⟩ => show win0_7.index t 1 * 2816 + 1 * (j 1).val = (j 1).val; rw [idx7]; show 0 * 2816 + 1 * (j 1).val = _; omega

theorem iblk8_eq (c : Dev nD) (t : Fin cfg0.N) : (iblk m c 8 t : Vec Ideal S2816x1024 .bf16) = (V m c main_v10 : S2816x1024.Idx → EReal) := by
  funext j
  unfold iblk
  rw [View.read_apply]
  refine congrArg (V m c main_v10) (funext fun a => Fin.ext ?_)
  match a with
  | ⟨0, _⟩ => show win0_8.index t 0 * 2816 + 1 * (j 0).val = (j 0).val; rw [idx8]; show 0 * 2816 + 1 * (j 0).val = _; omega
  | ⟨1, _⟩ => show win0_8.index t 1 * 1024 + 1 * (j 1).val = (j 1).val; rw [idx8]; show 0 * 1024 + 1 * (j 1).val = _; omega

/-- Where an element of point `t`'s result block sits in the array. -/
theorem emb9 (t : Fin cfg0.N) (r : Fin 512) (n : Fin 1024) :
    (((cfg0.win 9).blk t).view.emb (ix2 r n : S512x1024.Idx) : S32768x1024.Idx) = ix2 ⟨t.val * 512 + r.val, row_lt t r⟩ n := by
  refine funext fun a => Fin.ext ?_
  match a with
  | ⟨0, _⟩ => show win0_9.index t 0 * 512 + 1 * r.val = t.val * 512 + r.val; rw [idx9]; show t.val * 512 + 1 * r.val = _; omega
  | ⟨1, _⟩ => show win0_9.index t 1 * 1024 + 1 * n.val = n.val; rw [idx9]; show 0 * 1024 + 1 * n.val = _; omega

theorem out_block (c : Dev nD) (t : Fin cfg0.N) (r : Fin 512) (n : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix2 r n)
      = (G m c : S32768x1024.Idx → EReal) (ix2 ⟨t.val * 512 + r.val, row_lt t r⟩ n) := by
  rw [out_apply, iblk3_eq, iblk4_eq, iblk5_eq, iblk6_eq, iblk7_eq, iblk8_eq]
  simp only [iblk0_apply, iblk1_apply, iblk2_apply]
  rfl

/-- The result array after the run, at an element of point `t`'s block. -/
theorem final_at (c : Dev nD) (t : Fin cfg0.N) (r : Fin 512) (n : Fin 1024) :
    ((dats m 0 c).arrAt 9 cfg0.N : S32768x1024.Idx → EReal) (ix2 ⟨t.val * 512 + r.val, row_lt t r⟩ n)
      = (G m c : S32768x1024.Idx → EReal) (ix2 ⟨t.val * 512 + r.val, row_lt t r⟩ n) := by
  have h := (dats m 0 c).arrAt_emb_eq_flushed 9 Cert.KernelIdeal.Value.disjoint9 t (flush0_9 t) (ix2 r n : S512x1024.Idx)
  rw [Cert.KernelIdeal.Value.flushed9] at h
  refine (congrArg ((dats m 0 c).arrAt 9 cfg0.N) (emb9 t r n).symm).trans (h.trans ?_)
  exact (cast_eq _ _).trans (out_block m c t r n)

/-- The result array after the run. -/
theorem final (c : Dev nD) : (dats m 0 c).arrAt 9 cfg0.N = G m c := by
  refine funext fun (i : S32768x1024.Idx) => ?_
  have hi0 : (i 0).val < 32768 := (i 0).isLt
  have e64 : cfg0.N = 64 := N_0
  have ht : (i 0).val / 512 < cfg0.N := by omega
  have hr : (i 0).val % 512 < 512 := Nat.mod_lt _ (by decide)
  have e : i = ix2 (n0 := 32768) (n1 := 1024) ⟨(i 0).val / 512 * 512 + (i 0).val % 512, by omega⟩ (i 1) := by
    refine funext fun a => Fin.ext ?_
    match a with
    | ⟨0, _⟩ => show (i 0).val = (i 0).val / 512 * 512 + (i 0).val % 512; omega
    | ⟨1, _⟩ => rfl
  have h := final_at m c ⟨(i 0).val / 512, ht⟩ ⟨(i 0).val % 512, hr⟩ (i 1)
  exact (congrArg ((dats m 0 c).arrAt 9 cfg0.N) e).trans (h.trans (congrArg (G m c) e.symm))

end Cert.Proof.Ffn2

end
-- ==== Proof.Ffn2Ref.lean ====
/-
  The second feed-forward half-step's reference, with the output projection before it, read at a row and a column, and the equation of the two result arrays.
-/
module

public import proofs.«01_k».proof.Defs
public import proofs.«01_k».proof.Proof.FfnSpec
public import proofs.«01_k».proof.Proof.Ffn2Block
public import proofs.«01_k».proof.Proof.Gen.ReferenceIdeal.Read
public import proofs.«01_k».proof.Proof.Gen.Kernel.Frame
public import Idealize.ShloMosaic.Lib.Pointwise
public import Idealize.ShloMosaic.Lib.Quiescent
public import Idealize.ShloMosaic.Lib.StableHlo.Run

@[expose] public section

noncomputable section

namespace Cert.Proof.Ffn2Ref

open Cert.ReferenceIdeal Cert.ReferenceIdeal.Gen Cert.ReferenceIdeal.Read Idealize.ShloMosaic Idealize.ShloMosaic.TcCoe Cert.Proof.Ffn

abbrev X := (⟨S8x4096x1024, .f32⟩ : BufTy).Contents (Elt Ideal)
abbrev O := (⟨S8x4096x512, .f32⟩ : BufTy).Contents (Elt Ideal)
abbrev P := (⟨S1x1024x1024, .f32⟩ : BufTy).Contents (Elt Ideal)
abbrev W := (⟨S1x1024, .f32⟩ : BufTy).Contents (Elt Ideal)
abbrev U := (⟨S1x1024x2816, .f32⟩ : BufTy).Contents (Elt Ideal)
abbrev D := (⟨S1x2816x1024, .f32⟩ : BufTy).Contents (Elt Ideal)

/-- The row after the output projection. -/
theorem v3_apply (x0 : X) (x1 x2 : O) (x3 : P) (b : Fin 8) (s : Fin 4096) (n : Fin 1024) :
    val_main_v3 (F := Ideal) x0 x1 x2 x3 (ix3 b s n)
      = mixRow (fun k => x0 (ix3 b s k)) (fun j => x1 (ix3 b s j)) (fun j => x2 (ix3 b s j)) (fun j n => x3 (ix3 0 ⟨j.val, by omega⟩ n)) (fun j n => x3 (ix3 0 ⟨512 + j.val, by omega⟩ n)) n := by
  have h0 : ∀ j : Fin 512, val_main_v0 (F := Ideal) x1 x2 (ix3 b s ⟨j.val, by omega⟩) = x1 (ix3 b s j) := fun j => by
    unfold val_main_v0
    pointwise
  have h1 : ∀ j : Fin 512, val_main_v0 (F := Ideal) x1 x2 (ix3 b s ⟨512 + j.val, by omega⟩) = x2 (ix3 b s j) := fun j => by
    unfold val_main_v0
    pointwise
  have h : val_main_v3 (F := Ideal) x0 x1 x2 x3 (ix3 b s n)
      = x0 (ix3 b s n) + ∑ j : Fin 1024, val_main_v0 (F := Ideal) x1 x2 (ix3 b s j) * x3 (ix3 0 j n) := by
    unfold val_main_v3 val_main_v2 val_main_v1
    generalize val_main_v0 (F := Ideal) x1 x2 = h
    pointwise [dot_S8x4096x1024_S1024x1024_S8x4096x1024_2_0_01_1_n_n]
  rw [h, sum_mix]
  unfold mixRow
  simp only [h0, h1]
  exact (add_assoc _ _ _).symm

/-- The reference's normalised row. -/
theorem v20_apply (x0 : X) (x1 x2 : O) (x3 : P) (x4 : W) (b : Fin 8) (s : Fin 4096) (k : Fin 1024) :
    val_main_v20 (F := Ideal) x0 x1 x2 x3 x4 (ix3 b s k) = rms (fun j => val_main_v3 (F := Ideal) x0 x1 x2 x3 (ix3 b s j)) (fun j => x4 (ix2 0 j)) k := by
  unfold val_main_v20 val_main_v19 val_main_v18 val_main_v17 val_main_v16 val_main_v15 val_main_v14 val_main_v13 val_main_cst_1 val_main_v12 val_main_v11
    val_main_cst_0 val_main_v10 val_main_v9 val_main_cst val_main_v8 val_main_v4
  generalize val_main_v3 (F := Ideal) x0 x1 x2 x3 = y
  unfold rms
  pointwise

/-- The reference's gate product. -/
theorem v21_apply (x0 : X) (x1 x2 : O) (x3 : P) (x4 : W) (x5 : U) (b : Fin 8) (s : Fin 4096) (f : Fin 2816) :
    val_main_v21 (F := Ideal) x0 x1 x2 x3 x4 x5 (ix3 b s f) = ∑ k : Fin 1024, val_main_v20 (F := Ideal) x0 x1 x2 x3 x4 (ix3 b s k) * x5 (ix3 0 k f) := by
  unfold val_main_v21 val_main_v5
  generalize val_main_v20 (F := Ideal) x0 x1 x2 x3 x4 = h
  pointwise [dot_S8x4096x1024_S1024x2816_S8x4096x2816_2_0_01_1_n_n]

/-- The reference's up product. -/
theorem v23_apply (x0 : X) (x1 x2 : O) (x3 : P) (x4 : W) (x6 : U) (b : Fin 8) (s : Fin 4096) (f : Fin 2816) :
    val_main_v23 (F := Ideal) x0 x1 x2 x3 x4 x6 (ix3 b s f) = ∑ k : Fin 1024, val_main_v20 (F := Ideal) x0 x1 x2 x3 x4 (ix3 b s k) * x6 (ix3 0 k f) := by
  unfold val_main_v23 val_main_v6
  generalize val_main_v20 (F := Ideal) x0 x1 x2 x3 x4 = h
  pointwise [dot_S8x4096x1024_S1024x2816_S8x4096x2816_2_0_01_1_n_n]

/-- The reference's SiLU of the gate. -/
theorem v22_apply (x0 : X) (x1 x2 : O) (x3 : P) (x4 : W) (x5 : U) (i : S8x4096x2816.Idx) :
    val_main_v22 (F := Ideal) x0 x1 x2 x3 x4 x5 i = silu (val_main_v21 (F := Ideal) x0 x1 x2 x3 x4 x5 i) := by
  unfold val_main_v22 val_main_call0_v5 val_main_call0_v4 val_main_call0_cst_0 val_main_call0_v3 val_main_call0_v2 val_main_call0_cst
    val_main_call0_v1 val_main_call0_v0
  generalize val_main_v21 (F := Ideal) x0 x1 x2 x3 x4 x5 = h
  unfold silu Ideal.logistic
  pointwise

/-- The reference's result before its last reshape: the output projection and one half-step of each token's row. -/
theorem v28_apply (x0 : X) (x1 x2 : O) (x3 : P) (x4 : W) (x5 x6 : U) (x7 : D) (b : Fin 8) (s : Fin 4096) (n : Fin 1024) :
    val_main_v28 (F := Ideal) x0 x1 x2 x3 x4 x5 x6 x7 (ix3 b s n)
      = ffnRow (mixRow (fun k => x0 (ix3 b s k)) (fun j => x1 (ix3 b s j)) (fun j => x2 (ix3 b s j)) (fun j n => x3 (ix3 0 ⟨j.val, by omega⟩ n)) (fun j n => x3 (ix3 0 ⟨512 + j.val, by omega⟩ n)))
          (fun k => x4 (ix2 0 k)) (fun k f => x5 (ix3 0 k f)) (fun k f => x6 (ix3 0 k f)) (fun f n => x7 (ix3 0 f n)) n := by
  have hm : mixRow (fun k => x0 (ix3 b s k)) (fun j => x1 (ix3 b s j)) (fun j => x2 (ix3 b s j)) (fun j n => x3 (ix3 0 ⟨j.val, by omega⟩ n)) (fun j n => x3 (ix3 0 ⟨512 + j.val, by omega⟩ n))
      = fun n => val_main_v3 (F := Ideal) x0 x1 x2 x3 (ix3 b s n) := funext fun n => (v3_apply x0 x1 x2 x3 b s n).symm
  have hh : ∀ f : Fin 2816, val_main_v24 (F := Ideal) x0 x1 x2 x3 x4 x5 x6 (ix3 b s f)
      = hidUnit (rms (fun k => val_main_v3 (F := Ideal) x0 x1 x2 x3 (ix3 b s k)) (fun k => x4 (ix2 0 k))) (fun k f => x5 (ix3 0 k f)) (fun k f => x6 (ix3 0 k f)) f := fun f => by
    unfold val_main_v24 hidUnit
    rw [mulf_apply, v22_apply, v21_apply, v23_apply, Ideal.mulf_def]
    simp only [v20_apply]
  rw [hm]
  unfold ffnRow
  simp only [← hh]
  unfold val_main_v28 val_main_v27 val_main_v26 val_main_cst_2 val_main_v25 val_main_v7
  generalize val_main_v24 (F := Ideal) x0 x1 x2 x3 x4 x5 x6 = h
  generalize val_main_v3 (F := Ideal) x0 x1 x2 x3 = y
  pointwise [dot_S8x4096x2816_S2816x1024_S8x4096x1024_2_0_01_1_n_n]

/-- The reference's result: row `b · 4096 + s` is that of token `s` of sequence `b`. -/
theorem ref_apply (x0 : X) (x1 x2 : O) (x3 : P) (x4 : W) (x5 x6 : U) (x7 : D) (r : Fin 32768) (n : Fin 1024) :
    val_main_v29 (F := Ideal) x0 x1 x2 x3 x4 x5 x6 x7 (ix2 r n)
      = ffnRow (mixRow (fun k => x0 (ix3 ⟨r.val / 4096, by omega⟩ ⟨r.val % 4096, Nat.mod_lt _ (by decide)⟩ k))
            (fun k => x1 (ix3 ⟨r.val / 4096, by omega⟩ ⟨r.val % 4096, Nat.mod_lt _ (by decide)⟩ k))
            (fun k => x2 (ix3 ⟨r.val / 4096, by omega⟩ ⟨r.val % 4096, Nat.mod_lt _ (by decide)⟩ k))
            (fun j n => x3 (ix3 0 ⟨j.val, by omega⟩ n)) (fun j n => x3 (ix3 0 ⟨512 + j.val, by omega⟩ n)))
          (fun k => x4 (ix2 0 k)) (fun k f => x5 (ix3 0 k f)) (fun k f => x6 (ix3 0 k f)) (fun f n => x7 (ix3 0 f n)) n := by
  rw [← v28_apply]
  unfold val_main_v29
  exact shapeCast_apply _ shapeCasts_S8x4096x1024_S32768x1024 _ _ (by
      rewrite [Shape.rowMajor_val_three, Shape.rowMajor_val_two]
      show (r.val / 4096 * 4096 + r.val % 4096) * 1024 + n.val = r.val * 1024 + n.val
      omega)

end Cert.Proof.Ffn2Ref

namespace Cert.Proof.Ffn2

open Cert.KernelIdeal Cert.KernelIdeal.Gen Idealize.ShloMosaic Idealize.ShloMosaic.TcCoe Cert.Proof.Ffn Idealize.SL.Sem

variable (m : (ℓ : Loc nD τ sig) → Buf (Elt Ideal) ℓ)

/-- The launched arguments, at the reference's types. -/
def a0 (c : Dev nD) : Ffn2Ref.X := m ((c : Thread nD τ).loc main_arg0)
def a1 (c : Dev nD) : Ffn2Ref.O := m ((c : Thread nD τ).loc main_arg1)
def a2 (c : Dev nD) : Ffn2Ref.O := m ((c : Thread nD τ).loc main_arg2)
def a3 (c : Dev nD) : Ffn2Ref.P := m ((c : Thread nD τ).loc main_arg3)
def a4 (c : Dev nD) : Ffn2Ref.W := m ((c : Thread nD τ).loc main_arg4)
def a5 (c : Dev nD) : Ffn2Ref.U := m ((c : Thread nD τ).loc main_arg5)
def a6 (c : Dev nD) : Ffn2Ref.U := m ((c : Thread nD τ).loc main_arg6)
def a7 (c : Dev nD) : Ffn2Ref.D := m ((c : Thread nD τ).loc main_arg7)

/-- What the region finds in the activations: rows of tokens. -/
theorem V_v2 (c : Dev nD) (r : Fin 32768) : (fun k : Fin 1024 => (V m c main_v2 : S32768x1024.Idx → EReal) (ix2 r k))
    = fun k => a0 m c (ix3 ⟨r.val / 4096, by omega⟩ ⟨r.val % 4096, Nat.mod_lt _ (by decide)⟩ k) := by
  have h : (V m c main_v2 : S32768x1024.Idx → EReal)
      = shapeCast S32768x1024 (m ((c : Thread nD τ).loc main_arg0) : S8x4096x1024.Idx → EReal) shapeCasts_S8x4096x1024_S32768x1024 := by
    unfold V hostOps0; after_results_simp; rfl
  rw [h]
  exact funext fun k => shapeCast_apply _ shapeCasts_S8x4096x1024_S32768x1024 (ix2 r k) _ (by
    rewrite [Shape.rowMajor_val_three, Shape.rowMajor_val_two]
    show (r.val / 4096 * 4096 + r.val % 4096) * 1024 + k.val = r.val * 1024 + k.val
    omega)

/-- What the region finds in the first mixer's output: rows of tokens. -/
theorem V_v11 (c : Dev nD) (r : Fin 32768) : (fun k : Fin 512 => (V m c main_v11 : S32768x512.Idx → EReal) (ix2 r k))
    = fun k => a1 m c (ix3 ⟨r.val / 4096, by omega⟩ ⟨r.val % 4096, Nat.mod_lt _ (by decide)⟩ k) := by
  have h : (V m c main_v11 : S32768x512.Idx → EReal)
      = shapeCast S32768x512 (m ((c : Thread nD τ).loc main_arg1) : S8x4096x512.Idx → EReal) shapeCasts_S8x4096x512_S32768x512 := by
    unfold V hostOps0; after_results_simp; rfl
  rw [h]
  exact funext fun k => shapeCast_apply _ shapeCasts_S8x4096x512_S32768x512 (ix2 r k) _ (by
    rewrite [Shape.rowMajor_val_three, Shape.rowMajor_val_two]
    show (r.val / 4096 * 4096 + r.val % 4096) * 512 + k.val = r.val * 512 + k.val
    omega)

/-- What the region finds in the second mixer's output: rows of tokens. -/
theorem V_v12 (c : Dev nD) (r : Fin 32768) : (fun k : Fin 512 => (V m c main_v12 : S32768x512.Idx → EReal) (ix2 r k))
    = fun k => a2 m c (ix3 ⟨r.val / 4096, by omega⟩ ⟨r.val % 4096, Nat.mod_lt _ (by decide)⟩ k) := by
  have h : (V m c main_v12 : S32768x512.Idx → EReal)
      = shapeCast S32768x512 (m ((c : Thread nD τ).loc main_arg2) : S8x4096x512.Idx → EReal) shapeCasts_S8x4096x512_S32768x512 := by
    unfold V hostOps0; after_results_simp; rfl
  rw [h]
  exact funext fun k => shapeCast_apply _ shapeCasts_S8x4096x512_S32768x512 (ix2 r k) _ (by
    rewrite [Shape.rowMajor_val_three, Shape.rowMajor_val_two]
    show (r.val / 4096 * 4096 + r.val % 4096) * 512 + k.val = r.val * 512 + k.val
    omega)

/-- What the region finds in its norm weight. -/
theorem V_v4 (c : Dev nD) : (fun k : Fin 1024 => (V m c main_v4 : S1x1024.Idx → EReal) (ix2 0 k)) = fun k => a4 m c (ix2 0 k) := by
  have h : (V m c main_v4 : S1x1024.Idx → EReal)
      = broadcastInDim S1x1024 ![1] bcast_S1024_S1x1024_1 (shapeCast S1024 (m ((c : Thread nD τ).loc main_arg4) : S1x1024.Idx → EReal) shapeCasts_S1x1024_S1024) := by
    unfold V hostOps0; after_results_simp; rfl
  rw [h]
  unfold a4
  funext k
  pointwise

/-- What the region finds in its weight operand 5. -/
theorem V_v6 (c : Dev nD) : (fun (k : Fin 1024) (f : Fin 2816) => (V m c main_v6 : S1024x2816.Idx → EReal) (ix2 k f)) = fun k f => a5 m c (ix3 0 k f) := by
  have h : (V m c main_v6 : S1024x2816.Idx → EReal)
      = truncf (F := Ideal) (φ := .f32) .bf16 (shapeCast S1024x2816 (m ((c : Thread nD τ).loc main_arg5) : S1x1024x2816.Idx → EReal) shapeCasts_S1x1024x2816_S1024x2816) bitsLt_bf16_f32 := by
    unfold V hostOps0; after_results_simp; rfl
  rw [h]
  exact funext fun k => funext fun f => shapeCast_apply _ shapeCasts_S1x1024x2816_S1024x2816 (ix2 k f) (ix3 0 k f) (by
    rewrite [Shape.rowMajor_val_three, Shape.rowMajor_val_two]
    show (0 * 1024 + k.val) * 2816 + f.val = k.val * 2816 + f.val
    omega)

/-- What the region finds in its weight operand 6. -/
theorem V_v8 (c : Dev nD) : (fun (k : Fin 1024) (f : Fin 2816) => (V m c main_v8 : S1024x2816.Idx → EReal) (ix2 k f)) = fun k f => a6 m c (ix3 0 k f) := by
  have h : (V m c main_v8 : S1024x2816.Idx → EReal)
      = truncf (F := Ideal) (φ := .f32) .bf16 (shapeCast S1024x2816 (m ((c : Thread nD τ).loc main_arg6) : S1x1024x2816.Idx → EReal) shapeCasts_S1x1024x2816_S1024x2816) bitsLt_bf16_f32 := by
    unfold V hostOps0; after_results_simp; rfl
  rw [h]
  exact funext fun k => funext fun f => shapeCast_apply _ shapeCasts_S1x1024x2816_S1024x2816 (ix2 k f) (ix3 0 k f) (by
    rewrite [Shape.rowMajor_val_three, Shape.rowMajor_val_two]
    show (0 * 1024 + k.val) * 2816 + f.val = k.val * 2816 + f.val
    omega)

/-- What the region finds in its weight operand 7. -/
theorem V_v10 (c : Dev nD) : (fun (k : Fin 2816) (f : Fin 1024) => (V m c main_v10 : S2816x1024.Idx → EReal) (ix2 k f)) = fun k f => a7 m c (ix3 0 k f) := by
  have h : (V m c main_v10 : S2816x1024.Idx → EReal)
      = truncf (F := Ideal) (φ := .f32) .bf16 (shapeCast S2816x1024 (m ((c : Thread nD τ).loc main_arg7) : S1x2816x1024.Idx → EReal) shapeCasts_S1x2816x1024_S2816x1024) bitsLt_bf16_f32 := by
    unfold V hostOps0; after_results_simp; rfl
  rw [h]
  exact funext fun k => funext fun f => shapeCast_apply _ shapeCasts_S1x2816x1024_S2816x1024 (ix2 k f) (ix3 0 k f) (by
    rewrite [Shape.rowMajor_val_three, Shape.rowMajor_val_two]
    show (0 * 2816 + k.val) * 1024 + f.val = k.val * 1024 + f.val
    omega)

/-- What the region finds in one half of the output projection's weights. -/
theorem V_v13 (c : Dev nD) : (fun (j : Fin 512) (n : Fin 1024) => (V m c main_v13 : S512x1024.Idx → EReal) (ix2 j n)) = fun j n => a3 m c (ix3 0 ⟨j.val, by omega⟩ n) := by
  have h : (V m c main_v13 : S512x1024.Idx → EReal)
      = extractStridedSlice S512x1024 ![0, 0] (truncf (F := Ideal) (φ := .f32) .bf16 (shapeCast S1024x1024 (m ((c : Thread nD τ).loc main_arg3) : S1x1024x1024.Idx → EReal) shapeCasts_S1x1024x1024_S1024x1024) bitsLt_bf16_f32) slices_S1024x1024_S512x1024_0_0 := by
    unfold V hostOps0; after_results_simp; rfl
  rw [h]
  refine funext fun j => funext fun n => ?_
  have h2 : ∀ q : Fin 1024, shapeCast S1024x1024 (a3 m c : S1x1024x1024.Idx → EReal) shapeCasts_S1x1024x1024_S1024x1024 (ix2 q n) = a3 m c (ix3 0 q n) := fun q =>
    shapeCast_apply _ shapeCasts_S1x1024x1024_S1024x1024 (ix2 q n) (ix3 0 q n) (by
      rewrite [Shape.rowMajor_val_three, Shape.rowMajor_val_two]
      show (0 * 1024 + q.val) * 1024 + n.val = q.val * 1024 + n.val
      omega)
  rw [← h2 ⟨j.val, by omega⟩]
  unfold a3
  generalize shapeCast S1024x1024 (m ((c : Thread nD τ).loc main_arg3) : S1x1024x1024.Idx → EReal) shapeCasts_S1x1024x1024_S1024x1024 = y
  pointwise

/-- What the region finds in one half of the output projection's weights. -/
theorem V_v14 (c : Dev nD) : (fun (j : Fin 512) (n : Fin 1024) => (V m c main_v14 : S512x1024.Idx → EReal) (ix2 j n)) = fun j n => a3 m c (ix3 0 ⟨512 + j.val, by omega⟩ n) := by
  have h : (V m c main_v14 : S512x1024.Idx → EReal)
      = extractStridedSlice S512x1024 ![512, 0] (truncf (F := Ideal) (φ := .f32) .bf16 (shapeCast S1024x1024 (m ((c : Thread nD τ).loc main_arg3) : S1x1024x1024.Idx → EReal) shapeCasts_S1x1024x1024_S1024x1024) bitsLt_bf16_f32) slices_S1024x1024_S512x1024_512_0 := by
    unfold V hostOps0; after_results_simp; rfl
  rw [h]
  refine funext fun j => funext fun n => ?_
  have h2 : ∀ q : Fin 1024, shapeCast S1024x1024 (a3 m c : S1x1024x1024.Idx → EReal) shapeCasts_S1x1024x1024_S1024x1024 (ix2 q n) = a3 m c (ix3 0 q n) := fun q =>
    shapeCast_apply _ shapeCasts_S1x1024x1024_S1024x1024 (ix2 q n) (ix3 0 q n) (by
      rewrite [Shape.rowMajor_val_three, Shape.rowMajor_val_two]
      show (0 * 1024 + q.val) * 1024 + n.val = q.val * 1024 + n.val
      omega)
  rw [← h2 ⟨512 + j.val, by omega⟩]
  unfold a3
  generalize shapeCast S1024x1024 (m ((c : Thread nD τ).loc main_arg3) : S1x1024x1024.Idx → EReal) shapeCasts_S1x1024x1024_S1024x1024 = y
  pointwise

/-- The kernel's result at a row and a column. -/
theorem G_apply (c : Dev nD) (r : Fin 32768) (n : Fin 1024) : (G m c : S32768x1024.Idx → EReal) (ix2 r n)
    = ffnRow (mixRow (fun k => (V m c main_v2 : S32768x1024.Idx → EReal) (ix2 r k)) (fun j => (V m c main_v11 : S32768x512.Idx → EReal) (ix2 r j))
      (fun j => (V m c main_v12 : S32768x512.Idx → EReal) (ix2 r j)) (fun j n => (V m c main_v13 : S512x1024.Idx → EReal) (ix2 j n))
      (fun j n => (V m c main_v14 : S512x1024.Idx → EReal) (ix2 j n)))
    (fun k => (V m c main_v4 : S1x1024.Idx → EReal) (ix2 0 k))
    (fun k f => (V m c main_v6 : S1024x2816.Idx → EReal) (ix2 k f)) (fun k f => (V m c main_v8 : S1024x2816.Idx → EReal) (ix2 k f))
    (fun f n => (V m c main_v10 : S2816x1024.Idx → EReal) (ix2 f n)) n := rfl

/-- The kernel's result array is the reference's composed term of the same arguments. -/
theorem G_eq (c : Dev nD) : (G m c : S32768x1024.Idx → EReal)
    = Cert.ReferenceIdeal.Read.val_main_v29 (F := Ideal) (a0 m c) (a1 m c) (a2 m c) (a3 m c) (a4 m c) (a5 m c) (a6 m c) (a7 m c) := by
  funext i
  obtain ⟨r, n, rfl⟩ : ∃ (r : Fin 32768) (n : Fin 1024), i = ix2 r n := ⟨i 0, i 1, by funext k; fin_cases k <;> rfl⟩
  rw [G_apply, V_v2, V_v11, V_v12, V_v13, V_v14, V_v4, V_v6, V_v8, V_v10]
  exact (Ffn2Ref.ref_apply (a0 m c) (a1 m c) (a2 m c) (a3 m c) (a4 m c) (a5 m c) (a6 m c) (a7 m c) r n).symm

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- `algebraic`: the second feed-forward call and its reference leave equal results from equal arguments. -/
theorem algebraic : Cert.algebraic_KernelIdeal_ReferenceIdeal := by
  intro m ρ m' ρ' _ hagree
  refine ⟨fun c => G m c, ?_, ?_⟩
  · exact (θ_run Cert.KernelIdeal.defs _ _).mono (fun _ h c => ⟨(h c).1.trans (final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v29_eq, e0, e1, e2, e3, e4, e5, e6, e7]
    exact (G_eq m c).symm

end Cert.Proof.Ffn2

end
-- ==== Proof.Ffn1Block.lean ====
/-
  The first feed-forward call: what one grid point writes, read at a row and a column at the extended reals, and the
  result array assembled from the 64 points' blocks of 512 rows.
-/
module

public import proofs.«01_k».proof.Proof.FfnSpec
public import proofs.«01_k».proof.Proof.Gen.Kernel2Ideal.Value
public import Idealize.ShloMosaic.Lib.Pointwise

@[expose] public section

noncomputable section

namespace Cert.Proof.Ffn1

open Cert.Kernel2Ideal Cert.Kernel2Ideal.Gen Idealize.ShloMosaic Idealize.ShloMosaic.TcCoe Cert.Proof.Ffn

theorem hz : (![0, 0] : Fin 2 → Nat) = fun _ => 0 := funext fun a => by fin_cases a <;> rfl

/-- The normalised block at row `r`. -/
theorem pay3_apply (x : Vec Ideal S512x1024 .f32) (g : Vec Ideal S1x1024 .f32) (r : Fin 512) (k : Fin 1024) :
    k0_pay3 (F := Ideal) x g (ix2 r k) = rms (fun j => x (ix2 r j)) (fun j => g (ix2 0 j)) k := by
  unfold_payloads
  unfold rms
  pointwise

/-- The gate product over the last 1280 hidden units. -/
theorem pay5_apply (x : Vec Ideal S512x1024 .f32) (g : Vec Ideal S1x1024 .f32) (w : Vec Ideal S1024x1280 .bf16) (r : Fin 512) (f : Fin 1280) :
    k0_pay5 (F := Ideal) x g w (ix2 r f) = ∑ k : Fin 1024, rms (fun j => x (ix2 r j)) (fun j => g (ix2 0 j)) k * w (ix2 k f) := by
  simp only [← pay3_apply x g r]
  unfold k0_pay5
  generalize k0_pay3 (F := Ideal) x g = h
  pointwise [dot_S512x1024_S1024x1280_S512x1280_1_0_0_1_n_n]

/-- The up product over the last 1280 hidden units. -/
theorem pay6_apply (x : Vec Ideal S512x1024 .f32) (g : Vec Ideal S1x1024 .f32) (w : Vec Ideal S1024x1280 .bf16) (r : Fin 512) (f : Fin 1280) :
    k0_pay6 (F := Ideal) x g w (ix2 r f) = ∑ k : Fin 1024, rms (fun j => x (ix2 r j)) (fun j => g (ix2 0 j)) k * w (ix2 k f) := by
  simp only [← pay3_apply x g r]
  unfold k0_pay6
  generalize k0_pay3 (F := Ideal) x g = h
  pointwise [dot_S512x1024_S1024x1280_S512x1280_1_0_0_1_n_n]

/-- The logistic of the gate product over the last 1280 hidden units. -/
theorem pay7_apply (x : Vec Ideal S512x1024 .f32) (g : Vec Ideal S1x1024 .f32) (w : Vec Ideal S1024x1280 .bf16) (r : Fin 512) (f : Fin 1280) :
    k0_pay7 (F := Ideal) x g w (ix2 r f) = Ideal.logistic (k0_pay5 (F := Ideal) x g w (ix2 r f)) := by
  unfold k0_pay7
  pointwise

/-- The down product over the first 1536 hidden units. -/
theorem pay4_apply (x : Vec Ideal S512x1024 .f32) (g : Vec Ideal S1x1024 .f32) (wg wu : Vec Ideal S1024x1536 .bf16)
    (wd : Vec Ideal S1536x1024 .bf16) (r : Fin 512) (n : Fin 1024) :
    k0_pay4 (F := Ideal) x g wg wu wd (ix2 r n)
      = ∑ f : Fin 1536, hidUnit (rms (fun j => x (ix2 r j)) (fun j => g (ix2 0 j))) (fun k f => wg (ix2 k f)) (fun k f => wu (ix2 k f)) f * wd (ix2 f n) := by
  unfold hidUnit silu
  simp only [← pay3_apply x g r]
  unfold k0_pay4
  generalize k0_pay3 (F := Ideal) x g = h
  pointwise [dot_S512x1024_S1024x1536_S512x1536_1_0_0_1_n_n, dot_S512x1536_S1536x1024_S512x1024_1_0_0_1_n_n]

/-- The stored block: the row plus half of the two down products. -/
theorem pay1_apply (x v29 : FVec Ideal S512x1024 .f32) (a b c : FVec Ideal S512x1280 .f32) (wd : Vec Ideal S1280x1024 .bf16) (r : Fin 512) (n : Fin 1024) :
    k0_pay1 (F := Ideal) x v29 a b c wd (ix2 r n)
      = x (ix2 r n) + Ideal.ofBits .f32 0x3F000000#32 * (v29 (ix2 r n) + ∑ f : Fin 1280, a (ix2 r f) * c (ix2 r f) * b (ix2 r f) * wd (ix2 f n)) := by
  unfold k0_pay1
  pointwise [dot_S512x1280_S1280x1024_S512x1024_1_0_0_1_n_n]

/-- What a grid point leaves in the result's block: one feed-forward half-step of each of its 512 rows. -/
theorem out_apply (x0 : Vec Ideal S512x1024 .f32) (x1 : Vec Ideal S1x1024 .f32) (x2 x3 : Vec Ideal S1024x2816 .bf16)
    (x4 : Vec Ideal S2816x1024 .bf16) (r : Fin 512) (n : Fin 1024) :
    out0_5 (F := Ideal) x0 x1 x2 x3 x4 (ix2 r n)
      = ffnRow (fun k => x0 (ix2 r k)) (fun k => x1 (ix2 0 k)) (fun k f => x2 (ix2 k f)) (fun k f => x3 (ix2 k f)) (fun f n => x4 (ix2 f n)) n := by
  unfold out0_5
  rw [View.canon_unit_zero hz, pay1_apply, pay4_apply]
  simp only [pay5_apply, pay6_apply, pay7_apply]
  unfold ffnRow
  rw [sum_hidden]
  unfold hidUnit silu k0_pay2
  pointwise

variable (m : (ℓ : Loc nD τ sig) → Buf (Elt Ideal) ℓ)

/-- The result array as one function of the arrays the region finds: each row's half-step. -/
def G (c : Dev nD) : Buf (Elt Ideal) ((c : Thread nD τ).loc main_v9) := fun i : S32768x1024.Idx =>
  ffnRow (fun k => (V m c main_v0 : S32768x1024.Idx → EReal) (ix2 (i 0) k)) (fun k => (V m c main_v2 : S1x1024.Idx → EReal) (ix2 0 k))
    (fun k f => (V m c main_v4 : S1024x2816.Idx → EReal) (ix2 k f)) (fun k f => (V m c main_v6 : S1024x2816.Idx → EReal) (ix2 k f))
    (fun f n => (V m c main_v8 : S2816x1024.Idx → EReal) (ix2 f n)) (i 1)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])

theorem row_lt (t : Fin cfg0.N) (r : Fin 512) : t.val * 512 + r.val < 32768 := by
  have h := t.isLt; have e : cfg0.N = 64 := N_0; omega

/-- The input's block at point `t` is rows `512·t …` of the array. -/
theorem iblk0_apply (c : Dev nD) (t : Fin cfg0.N) (r : Fin 512) (k : Fin 1024) :
    (iblk m c 0 t : Vec Ideal S512x1024 .f32) (ix2 r k) = (V m c main_v0 : S32768x1024.Idx → EReal) (ix2 ⟨t.val * 512 + r.val, row_lt t r⟩ k) := by
  unfold iblk
  rw [View.read_apply]
  refine congrArg (V m c main_v0) (funext fun a => Fin.ext ?_)
  match a with
  | ⟨0, _⟩ => show win0_0.index t 0 * 512 + 1 * r.val = t.val * 512 + r.val; rw [idx0]; show t.val * 512 + 1 * r.val = _; omega
  | ⟨1, _⟩ => show win0_0.index t 1 * 1024 + 1 * k.val = k.val; rw [idx0]; show 0 * 1024 + 1 * k.val = _; omega

theorem iblk1_eq (c : Dev nD) (t : Fin cfg0.N) : (iblk m c 1 t : Vec Ideal S1x1024 .f32) = (V m c main_v2 : S1x1024.Idx → EReal) := by
  funext j
  unfold iblk
  rw [View.read_apply]
  refine congrArg (V m c main_v2) (funext fun a => Fin.ext ?_)
  match a with
  | ⟨0, _⟩ => show win0_1.index t 0 * 1 + 1 * (j 0).val = (j 0).val; rw [idx1]; show 0 * 1 + 1 * (j 0).val = _; omega
  | ⟨1, _⟩ => show win0_1.index t 1 * 1024 + 1 * (j 1).val = (j 1).val; rw [idx1]; show 0 * 1024 + 1 * (j 1).val = _; omega

theorem iblk2_eq (c : Dev nD) (t : Fin cfg0.N) : (iblk m c 2 t : Vec Ideal S1024x2816 .bf16) = (V m c main_v4 : S1024x2816.Idx → EReal) := by
  funext j
  unfold iblk
  rw [View.read_apply]
  refine congrArg (V m c main_v4) (funext fun a => Fin.ext ?_)
  match a with
  | ⟨0, _⟩ => show win0_2.index t 0 * 1024 + 1 * (j 0).val = (j 0).val; rw [idx2]; show 0 * 1024 + 1 * (j 0).val = _; omega
  | ⟨1, _⟩ => show win0_2.index t 1 * 2816 + 1 * (j 1).val = (j 1).val; rw [idx2]; show 0 * 2816 + 1 * (j 1).val = _; omega

theorem iblk3_eq (c : Dev nD) (t : Fin cfg0.N) : (iblk m c 3 t : Vec Ideal S1024x2816 .bf16) = (V m c main_v6 : S1024x2816.Idx → EReal) := by
  funext j
  unfold iblk
  rw [View.read_apply]
  refine congrArg (V m c main_v6) (funext fun a => Fin.ext ?_)
  match a with
  | ⟨0, _⟩ => show win0_3.index t 0 * 1024 + 1 * (j 0).val = (j 0).val; rw [idx3]; show 0 * 1024 + 1 * (j 0).val = _; omega
  | ⟨1, _⟩ => show win0_3.index t 1 * 2816 + 1 * (j 1).val = (j 1).val; rw [idx3]; show 0 * 2816 + 1 * (j 1).val = _; omega

theorem iblk4_eq (c : Dev nD) (t : Fin cfg0.N) : (iblk m c 4 t : Vec Ideal S2816x1024 .bf16) = (V m c main_v8 : S2816x1024.Idx → EReal) := by
  funext j
  unfold iblk
  rw [View.read_apply]
  refine congrArg (V m c main_v8) (funext fun a => Fin.ext ?_)
  match a with
  | ⟨0, _⟩ => show win0_4.index t 0 * 2816 + 1 * (j 0).val = (j 0).val; rw [idx4]; show 0 * 2816 + 1 * (j 0).val = _; omega
  | ⟨1, _⟩ => show win0_4.index t 1 * 1024 + 1 * (j 1).val = (j 1).val; rw [idx4]; show 0 * 1024 + 1 * (j 1).val = _; omega

/-- Where an element of point `t`'s result block sits in the array. -/
theorem emb5 (t : Fin cfg0.N) (r : Fin 512) (n : Fin 1024) :
    (((cfg0.win 5).blk t).view.emb (ix2 r n : S512x1024.Idx) : S32768x1024.Idx) = ix2 ⟨t.val * 512 + r.val, row_lt t r⟩ n := by
  refine funext fun a => Fin.ext ?_
  match a with
  | ⟨0, _⟩ => show win0_5.index t 0 * 512 + 1 * r.val = t.val * 512 + r.val; rw [idx5]; show t.val * 512 + 1 * r.val = _; omega
  | ⟨1, _⟩ => show win0_5.index t 1 * 1024 + 1 * n.val = n.val; rw [idx5]; show 0 * 1024 + 1 * n.val = _; omega

theorem out_block (c : Dev nD) (t : Fin cfg0.N) (r : Fin 512) (n : Fin 1024) :
    out0_5 (F := Ideal) (iblk m c 0 t) (iblk m c 1 t) (iblk m c 2 t) (iblk m c 3 t) (iblk m c 4 t) (ix2 r n)
      = (G m c : S32768x1024.Idx → EReal) (ix2 ⟨t.val * 512 + r.val, row_lt t r⟩ n) := by
  rw [out_apply, iblk1_eq, iblk2_eq, iblk3_eq, iblk4_eq]
  simp only [iblk0_apply]
  rfl

/-- The result array after the run, at an element of point `t`'s block. -/
theorem final_at (c : Dev nD) (t : Fin cfg0.N) (r : Fin 512) (n : Fin 1024) :
    ((dats m 0 c).arrAt 5 cfg0.N : S32768x1024.Idx → EReal) (ix2 ⟨t.val * 512 + r.val, row_lt t r⟩ n)
      = (G m c : S32768x1024.Idx → EReal) (ix2 ⟨t.val * 512 + r.val, row_lt t r⟩ n) := by
  have h := (dats m 0 c).arrAt_emb_eq_flushed 5 Cert.Kernel2Ideal.Value.disjoint5 t (flush0_5 t) (ix2 r n : S512x1024.Idx)
  rw [Cert.Kernel2Ideal.Value.flushed5] at h
  refine (congrArg ((dats m 0 c).arrAt 5 cfg0.N) (emb5 t r n).symm).trans (h.trans ?_)
  exact (cast_eq _ _).trans (out_block m c t r n)

/-- The result array after the run. -/
theorem final (c : Dev nD) : (dats m 0 c).arrAt 5 cfg0.N = G m c := by
  refine funext fun (i : S32768x1024.Idx) => ?_
  have hi0 : (i 0).val < 32768 := (i 0).isLt
  have e64 : cfg0.N = 64 := N_0
  have ht : (i 0).val / 512 < cfg0.N := by omega
  have hr : (i 0).val % 512 < 512 := Nat.mod_lt _ (by decide)
  have e : i = ix2 (n0 := 32768) (n1 := 1024) ⟨(i 0).val / 512 * 512 + (i 0).val % 512, by omega⟩ (i 1) := by
    refine funext fun a => Fin.ext ?_
    match a with
    | ⟨0, _⟩ => show (i 0).val = (i 0).val / 512 * 512 + (i 0).val % 512; omega
    | ⟨1, _⟩ => rfl
  have h := final_at m c ⟨(i 0).val / 512, ht⟩ ⟨(i 0).val % 512, hr⟩ (i 1)
  exact (congrArg ((dats m 0 c).arrAt 5 cfg0.N) e).trans (h.trans (congrArg (G m c) e.symm))

end Cert.Proof.Ffn1

end
-- ==== Proof.Ffn1Ref.lean ====
/-
  The first feed-forward half-step's reference, read at a row and a column, and the equation of the two result arrays.
-/
module

public import proofs.«01_k».proof.Defs
public import proofs.«01_k».proof.Proof.FfnSpec
public import proofs.«01_k».proof.Proof.Ffn1Block
public import proofs.«01_k».proof.Proof.Gen.Reference2Ideal.Read
public import proofs.«01_k».proof.Proof.Gen.Kernel2.Frame
public import Idealize.ShloMosaic.Lib.Pointwise
public import Idealize.ShloMosaic.Lib.Quiescent
public import Idealize.ShloMosaic.Lib.StableHlo.Run

@[expose] public section

noncomputable section

namespace Cert.Proof.Ffn1Ref

open Cert.Reference2Ideal Cert.Reference2Ideal.Gen Cert.Reference2Ideal.Read Idealize.ShloMosaic Idealize.ShloMosaic.TcCoe Cert.Proof.Ffn

abbrev X := (⟨S8x4096x1024, .f32⟩ : BufTy).Contents (Elt Ideal)
abbrev W := (⟨S1x1024, .f32⟩ : BufTy).Contents (Elt Ideal)
abbrev U := (⟨S1x1024x2816, .f32⟩ : BufTy).Contents (Elt Ideal)
abbrev D := (⟨S1x2816x1024, .f32⟩ : BufTy).Contents (Elt Ideal)

/-- The reference's normalised row. -/
theorem v16_apply (x0 : X) (x1 : W) (b : Fin 8) (s : Fin 4096) (k : Fin 1024) :
    val_main_v16 (F := Ideal) x0 x1 (ix3 b s k) = rms (fun j => x0 (ix3 b s j)) (fun j => x1 (ix2 0 j)) k := by
  unfold val_main_v16 val_main_v15 val_main_v14 val_main_v13 val_main_v12 val_main_v11 val_main_v10 val_main_v9 val_main_cst_1
    val_main_v8 val_main_v7 val_main_cst_0 val_main_v6 val_main_v5 val_main_cst val_main_v4 val_main_v0
  unfold rms
  pointwise

/-- The reference's gate product. -/
theorem v17_apply (x0 : X) (x1 : W) (x2 : U) (b : Fin 8) (s : Fin 4096) (f : Fin 2816) :
    val_main_v17 (F := Ideal) x0 x1 x2 (ix3 b s f) = ∑ k : Fin 1024, rms (fun j => x0 (ix3 b s j)) (fun j => x1 (ix2 0 j)) k * x2 (ix3 0 k f) := by
  simp only [← v16_apply x0 x1 b s]
  unfold val_main_v17 val_main_v1
  generalize val_main_v16 (F := Ideal) x0 x1 = h
  pointwise [dot_S8x4096x1024_S1024x2816_S8x4096x2816_2_0_01_1_n_n]

/-- The reference's up product. -/
theorem v19_apply (x0 : X) (x1 : W) (x3 : U) (b : Fin 8) (s : Fin 4096) (f : Fin 2816) :
    val_main_v19 (F := Ideal) x0 x1 x3 (ix3 b s f) = ∑ k : Fin 1024, rms (fun j => x0 (ix3 b s j)) (fun j => x1 (ix2 0 j)) k * x3 (ix3 0 k f) := by
  simp only [← v16_apply x0 x1 b s]
  unfold val_main_v19 val_main_v2
  generalize val_main_v16 (F := Ideal) x0 x1 = h
  pointwise [dot_S8x4096x1024_S1024x2816_S8x4096x2816_2_0_01_1_n_n]

/-- The constant `1.0` is the real one. -/
theorem one_word : Ideal.ofBits .f32 0x3F800000#32 = 1 := by pointwise

/-- The reference's SiLU of the gate. -/
theorem v18_apply (x0 : X) (x1 : W) (x2 : U) (i : S8x4096x2816.Idx) :
    val_main_v18 (F := Ideal) x0 x1 x2 i = silu (val_main_v17 (F := Ideal) x0 x1 x2 i) := by
  unfold val_main_v18 val_main_call0_v5 val_main_call0_v4 val_main_call0_cst_0 val_main_call0_v3 val_main_call0_v2 val_main_call0_cst
    val_main_call0_v1 val_main_call0_v0
  generalize val_main_v17 (F := Ideal) x0 x1 x2 = h
  unfold silu Ideal.logistic
  pointwise

/-- The reference's result before its last reshape: one half-step of each token's row. -/
theorem v24_apply (x0 : X) (x1 : W) (x2 x3 : U) (x4 : D) (b : Fin 8) (s : Fin 4096) (n : Fin 1024) :
    val_main_v24 (F := Ideal) x0 x1 x2 x3 x4 (ix3 b s n)
      = ffnRow (fun k => x0 (ix3 b s k)) (fun k => x1 (ix2 0 k)) (fun k f => x2 (ix3 0 k f)) (fun k f => x3 (ix3 0 k f)) (fun f n => x4 (ix3 0 f n)) n := by
  have hh : ∀ f : Fin 2816, val_main_v20 (F := Ideal) x0 x1 x2 x3 (ix3 b s f)
      = hidUnit (rms (fun k => x0 (ix3 b s k)) (fun k => x1 (ix2 0 k))) (fun k f => x2 (ix3 0 k f)) (fun k f => x3 (ix3 0 k f)) f := fun f => by
    unfold val_main_v20 hidUnit
    rw [mulf_apply, v18_apply, v17_apply, v19_apply, Ideal.mulf_def]
  unfold ffnRow
  simp only [← hh]
  unfold val_main_v24 val_main_v23 val_main_v22 val_main_cst_2 val_main_v21 val_main_v3
  generalize val_main_v20 (F := Ideal) x0 x1 x2 x3 = h
  pointwise [dot_S8x4096x2816_S2816x1024_S8x4096x1024_2_0_01_1_n_n]

/-- The reference's result: row `b · 4096 + s` is the half-step of token `s` of sequence `b`. -/
theorem ref_apply (x0 : X) (x1 : W) (x2 x3 : U) (x4 : D) (r : Fin 32768) (n : Fin 1024) :
    val_main_v25 (F := Ideal) x0 x1 x2 x3 x4 (ix2 r n)
      = ffnRow (fun k => shapeCast S32768x1024 x0 shapeCasts_S8x4096x1024_S32768x1024 (ix2 r k)) (fun k => x1 (ix2 0 k)) (fun k f => x2 (ix3 0 k f)) (fun k f => x3 (ix3 0 k f)) (fun f n => x4 (ix3 0 f n)) n := by
  have hc : ∀ (y : X) (k : Fin 1024), shapeCast S32768x1024 y shapeCasts_S8x4096x1024_S32768x1024 (ix2 r k)
      = y (ix3 ⟨r.val / 4096, by omega⟩ ⟨r.val % 4096, Nat.mod_lt _ (by decide)⟩ k) := fun y k =>
    shapeCast_apply y shapeCasts_S8x4096x1024_S32768x1024 _ _ (by
      rewrite [Shape.rowMajor_val_three, Shape.rowMajor_val_two]
      show (r.val / 4096 * 4096 + r.val % 4096) * 1024 + k.val = r.val * 1024 + k.val
      omega)
  simp only [hc]
  rw [← v24_apply]
  exact hc _ n

end Cert.Proof.Ffn1Ref

namespace Cert.Proof.Ffn1

open Cert.Kernel2Ideal Cert.Kernel2Ideal.Gen Idealize.ShloMosaic Idealize.ShloMosaic.TcCoe Cert.Proof.Ffn Idealize.SL.Sem

variable (m : (ℓ : Loc nD τ sig) → Buf (Elt Ideal) ℓ)

/-- What the region finds in its first operand: the launched activations, flattened to rows. -/
theorem V_v0 (c : Dev nD) : (V m c main_v0 : S32768x1024.Idx → EReal)
    = shapeCast S32768x1024 (m ((c : Thread nD τ).loc main_arg0) : S8x4096x1024.Idx → EReal) shapeCasts_S8x4096x1024_S32768x1024 := by
  unfold V hostOps0; after_results_simp; rfl

/-- What the region finds in its norm weight. -/
theorem V_v2 (c : Dev nD) (k : Fin 1024) : (V m c main_v2 : S1x1024.Idx → EReal) (ix2 0 k)
    = (m ((c : Thread nD τ).loc main_arg1) : S1x1024.Idx → EReal) (ix2 0 k) := by
  have h : (V m c main_v2 : S1x1024.Idx → EReal)
      = broadcastInDim S1x1024 ![1] bcast_S1024_S1x1024_1 (shapeCast S1024 (m ((c : Thread nD τ).loc main_arg1) : S1x1024.Idx → EReal) shapeCasts_S1x1024_S1024) := by
    unfold V hostOps0; after_results_simp; rfl
  rw [h]
  pointwise

/-- What the region finds in its gate weights. -/
theorem V_v4 (c : Dev nD) (k : Fin 1024) (f : Fin 2816) : (V m c main_v4 : S1024x2816.Idx → EReal) (ix2 k f)
    = (m ((c : Thread nD τ).loc main_arg2) : S1x1024x2816.Idx → EReal) (ix3 0 k f) := by
  have h : (V m c main_v4 : S1024x2816.Idx → EReal)
      = truncf (F := Ideal) (φ := .f32) .bf16 (shapeCast S1024x2816 (m ((c : Thread nD τ).loc main_arg2) : S1x1024x2816.Idx → EReal) shapeCasts_S1x1024x2816_S1024x2816) bitsLt_bf16_f32 := by
    unfold V hostOps0; after_results_simp; rfl
  rw [h]
  exact shapeCast_apply _ shapeCasts_S1x1024x2816_S1024x2816 (ix2 k f) (ix3 0 k f) (by
    rewrite [Shape.rowMajor_val_three, Shape.rowMajor_val_two]
    show (0 * 1024 + k.val) * 2816 + f.val = k.val * 2816 + f.val
    omega)

/-- What the region finds in its up weights. -/
theorem V_v6 (c : Dev nD) (k : Fin 1024) (f : Fin 2816) : (V m c main_v6 : S1024x2816.Idx → EReal) (ix2 k f)
    = (m ((c : Thread nD τ).loc main_arg3) : S1x1024x2816.Idx → EReal) (ix3 0 k f) := by
  have h : (V m c main_v6 : S1024x2816.Idx → EReal)
      = truncf (F := Ideal) (φ := .f32) .bf16 (shapeCast S1024x2816 (m ((c : Thread nD τ).loc main_arg3) : S1x1024x2816.Idx → EReal) shapeCasts_S1x1024x2816_S1024x2816) bitsLt_bf16_f32 := by
    unfold V hostOps0; after_results_simp; rfl
  rw [h]
  exact shapeCast_apply _ shapeCasts_S1x1024x2816_S1024x2816 (ix2 k f) (ix3 0 k f) (by
    rewrite [Shape.rowMajor_val_three, Shape.rowMajor_val_two]
    show (0 * 1024 + k.val) * 2816 + f.val = k.val * 2816 + f.val
    omega)

/-- What the region finds in its down weights. -/
theorem V_v8 (c : Dev nD) (f : Fin 2816) (n : Fin 1024) : (V m c main_v8 : S2816x1024.Idx → EReal) (ix2 f n)
    = (m ((c : Thread nD τ).loc main_arg4) : S1x2816x1024.Idx → EReal) (ix3 0 f n) := by
  have h : (V m c main_v8 : S2816x1024.Idx → EReal)
      = truncf (F := Ideal) (φ := .f32) .bf16 (shapeCast S2816x1024 (m ((c : Thread nD τ).loc main_arg4) : S1x2816x1024.Idx → EReal) shapeCasts_S1x2816x1024_S2816x1024) bitsLt_bf16_f32 := by
    unfold V hostOps0; after_results_simp; rfl
  rw [h]
  exact shapeCast_apply _ shapeCasts_S1x2816x1024_S2816x1024 (ix2 f n) (ix3 0 f n) (by
    rewrite [Shape.rowMajor_val_three, Shape.rowMajor_val_two]
    show (0 * 2816 + f.val) * 1024 + n.val = f.val * 1024 + n.val
    omega)

/-- The launched arguments, at the reference's types. -/
def a0 (c : Dev nD) : Ffn1Ref.X := m ((c : Thread nD τ).loc main_arg0)
def a1 (c : Dev nD) : Ffn1Ref.W := m ((c : Thread nD τ).loc main_arg1)
def a2 (c : Dev nD) : Ffn1Ref.U := m ((c : Thread nD τ).loc main_arg2)
def a3 (c : Dev nD) : Ffn1Ref.U := m ((c : Thread nD τ).loc main_arg3)
def a4 (c : Dev nD) : Ffn1Ref.D := m ((c : Thread nD τ).loc main_arg4)

theorem r0 (c : Dev nD) (r : Fin 32768) : (fun k : Fin 1024 => (V m c main_v0 : S32768x1024.Idx → EReal) (ix2 r k))
    = fun k => shapeCast Cert.Reference2Ideal.S32768x1024 (a0 m c) Cert.Reference2Ideal.Gen.shapeCasts_S8x4096x1024_S32768x1024 (ix2 r k) :=
  funext fun k => congrFun (V_v0 m c) (ix2 r k)
theorem r1 (c : Dev nD) : (fun k : Fin 1024 => (V m c main_v2 : S1x1024.Idx → EReal) (ix2 0 k)) = fun k => a1 m c (ix2 0 k) :=
  funext fun k => V_v2 m c k
theorem r2 (c : Dev nD) : (fun (k : Fin 1024) (f : Fin 2816) => (V m c main_v4 : S1024x2816.Idx → EReal) (ix2 k f)) = fun k f => a2 m c (ix3 0 k f) :=
  funext fun k => funext fun f => V_v4 m c k f
theorem r3 (c : Dev nD) : (fun (k : Fin 1024) (f : Fin 2816) => (V m c main_v6 : S1024x2816.Idx → EReal) (ix2 k f)) = fun k f => a3 m c (ix3 0 k f) :=
  funext fun k => funext fun f => V_v6 m c k f
theorem r4 (c : Dev nD) : (fun (f : Fin 2816) (n : Fin 1024) => (V m c main_v8 : S2816x1024.Idx → EReal) (ix2 f n)) = fun f n => a4 m c (ix3 0 f n) :=
  funext fun f => funext fun n => V_v8 m c f n

/-- The kernel's result at a row and a column. -/
theorem G_apply (c : Dev nD) (r : Fin 32768) (n : Fin 1024) : (G m c : S32768x1024.Idx → EReal) (ix2 r n)
    = ffnRow (fun k => (V m c main_v0 : S32768x1024.Idx → EReal) (ix2 r k)) (fun k => (V m c main_v2 : S1x1024.Idx → EReal) (ix2 0 k))
      (fun k f => (V m c main_v4 : S1024x2816.Idx → EReal) (ix2 k f)) (fun k f => (V m c main_v6 : S1024x2816.Idx → EReal) (ix2 k f))
      (fun f n => (V m c main_v8 : S2816x1024.Idx → EReal) (ix2 f n)) n := rfl

/-- The kernel's result array is the reference's composed term of the same arguments. -/
theorem G_eq (c : Dev nD) : (G m c : S32768x1024.Idx → EReal)
    = Cert.Reference2Ideal.Read.val_main_v25 (F := Ideal) (a0 m c) (a1 m c) (a2 m c) (a3 m c) (a4 m c) := by
  funext i
  obtain ⟨r, n, rfl⟩ : ∃ (r : Fin 32768) (n : Fin 1024), i = ix2 r n := ⟨i 0, i 1, by funext k; fin_cases k <;> rfl⟩
  rw [G_apply, r0, r1, r2, r3, r4]
  exact (Ffn1Ref.ref_apply (a0 m c) (a1 m c) (a2 m c) (a3 m c) (a4 m c) r n).symm

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- `algebraic`: the first feed-forward call and its reference leave equal results from equal arguments. -/
theorem algebraic : Cert.algebraic_Kernel2Ideal_Reference2Ideal := by
  intro m ρ m' ρ' _ hagree
  refine ⟨fun c => G m c, ?_, ?_⟩
  · exact (θ_run Cert.Kernel2Ideal.defs _ _).mono (fun _ h c => ⟨(h c).1.trans (final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨e0, e1, e2, e3, e4⟩ := hagree c
    rw [e0, e1, e2, e3, e4]
    exact (G_eq m c).symm

end Cert.Proof.Ffn1

end
-- ==== Proof.InprojPieces.lean ====
/-
  The input projection's call: what each store of a grid point leaves, as the printed values of the point's blocks. Case A
  is the first point, which clears the carried scratch first; case B is every other point.
-/
module

public import proofs.«01_k».proof.Proof.Gen.Kernel3Ideal.Value
public import Idealize.ShloMosaic.Lib.Pipeline.Value
public import Idealize.ShloMosaic.Lib.Pointwise

@[expose] public section

noncomputable section

namespace Cert.Proof.Inproj

open Cert.Kernel3Ideal Cert.Kernel3Ideal.Gen Idealize.ShloMosaic Idealize.ShloMosaic.TcCoe

variable {F : FTy → Type} [FloatOps F]

theorem hz : (![0, 0] : Fin 2 → Nat) = fun _ => 0 := funext fun a => by fin_cases a <;> rfl

/-- The scratch's last 512 rows are what the last store, of those rows, wrote. -/
theorem canon_hi (inb : ∀ a, (![8, 0] : Fin 2 → Nat) a + (![512, 1536] : Fin 2 → Nat) a ≤ S520x1536.size a) (w : Vec F S512x1536 .f32)
    (L : List (View.Piece (Elt F) S520x1536 .f32)) (r : Fin 512) (n : Fin 1536) :
    View.canon ((⟨Rect.unit ![8, 0] ![512, 1536] inb, w⟩ : View.Piece (Elt F) S520x1536 .f32) :: L) (ix2 (n0 := 520) (n1 := 1536) ⟨8 + r.val, by omega⟩ n) = w (ix2 r n) := by
  have he : (Rect.unit (s := S520x1536) ![8, 0] ![512, 1536] inb).emb (ix2 r n : S512x1536.Idx) = ix2 (n0 := 520) (n1 := 1536) ⟨8 + r.val, by omega⟩ n := by
    funext x; apply Fin.ext
    fin_cases x
    · show 8 + 1 * r.val = 8 + r.val; omega
    · show 0 + 1 * n.val = n.val; omega
  rw [← he]
  exact View.canon_cons_emb (Rect.unit (s := S520x1536) ![8, 0] ![512, 1536] inb) w L (ix2 r n : S512x1536.Idx)

/-- The scratch's first 8 rows are what the store before the last, of those rows, wrote. -/
theorem canon_lo (inb : ∀ a, (![8, 0] : Fin 2 → Nat) a + (![512, 1536] : Fin 2 → Nat) a ≤ S520x1536.size a) (w : Vec F S512x1536 .f32)
    (inb' : ∀ a, (![0, 0] : Fin 2 → Nat) a + (![8, 1536] : Fin 2 → Nat) a ≤ S520x1536.size a) (w' : Vec F S8x1536 .f32)
    (L : List (View.Piece (Elt F) S520x1536 .f32)) (r : Fin 8) (n : Fin 1536) :
    View.canon ((⟨Rect.unit ![8, 0] ![512, 1536] inb, w⟩ : View.Piece (Elt F) S520x1536 .f32) :: ⟨Rect.unit ![0, 0] ![8, 1536] inb', w'⟩ :: L)
      (ix2 (n0 := 520) (n1 := 1536) ⟨r.val, by omega⟩ n) = w' (ix2 r n) := by
  rw [View.canon_cons_of_not_mem]
  · have he : (Rect.unit (s := S520x1536) ![0, 0] ![8, 1536] inb').emb (ix2 r n : S8x1536.Idx) = ix2 (n0 := 520) (n1 := 1536) ⟨r.val, by omega⟩ n := by
      funext x; apply Fin.ext
      fin_cases x
      · show 0 + 1 * r.val = r.val; omega
      · show 0 + 1 * n.val = n.val; omega
    rw [← he]
    exact View.canon_cons_emb (Rect.unit (s := S520x1536) ![0, 0] ![8, 1536] inb') w' L (ix2 r n : S8x1536.Idx)
  · intro hm
    obtain ⟨i, hi, he⟩ := (LoadRect.mem_set _).mp hm (0 : Fin 2)
    have he' : r.val = 8 + 1 * i := he
    omega

/-- Result window 5 at a point of case A. -/
theorem out_A_5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : cond0_0 i) (x0 : Vec F S512x1024 .f32) (x1 : Vec F S1x1024 .f32) (x2 : Vec F S1024x3712 .bf16) (x3 : Vec F S4x1536 .f32) :
    out0_A_5 c i arg1 harg1 arg2 harg2 arg3 harg3 arg4 harg4 arg5 harg5 arg6 harg6 arg7 harg7 arg8 harg8 arg9 harg9 arg10 harg10 arg11 harg11 hc0 x0 x1 x2 x3 = k0_pay11 (k0_pay5 x0) (k0_pay6 x1) (k0_pay7 x0) x2 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_unit_zero (S := S512x512) hz]
  simp only [View.readAt_eq_ld, harg1.read_unread, harg2.read_unread, harg3.read_unread, View.ld_unit_zero (S := S512x1024) hz, View.ld_unit_zero (S := S1x1024) hz, View.ld_unit_zero (S := S1024x3712) hz]

/-- Result window 6 at a point of case A. -/
theorem out_A_6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : cond0_0 i) (x0 : Vec F S512x1024 .f32) (x1 : Vec F S1x1024 .f32) (x2 : Vec F S1024x3712 .bf16) (x3 : Vec F S4x1536 .f32) :
    out0_A_6 c i arg1 harg1 arg2 harg2 arg3 harg3 arg4 harg4 arg5 harg5 arg6 harg6 arg7 harg7 arg8 harg8 arg9 harg9 arg10 harg10 arg11 harg11 hc0 x0 x1 x2 x3 = k0_pay12 (k0_pay5 x0) (k0_pay6 x1) (k0_pay7 x0) x2 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_unit_zero (S := S512x128) hz]
  simp only [View.readAt_eq_ld, harg1.read_unread, harg2.read_unread, harg3.read_unread, View.ld_unit_zero (S := S512x1024) hz, View.ld_unit_zero (S := S1x1024) hz, View.ld_unit_zero (S := S1024x3712) hz]

/-- Result window 7 at a point of case A. -/
theorem out_A_7 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : cond0_0 i) (x0 : Vec F S512x1024 .f32) (x1 : Vec F S1x1024 .f32) (x2 : Vec F S1024x3712 .bf16) (x3 : Vec F S4x1536 .f32) :
    out0_A_7 c i arg1 harg1 arg2 harg2 arg3 harg3 arg4 harg4 arg5 harg5 arg6 harg6 arg7 harg7 arg8 harg8 arg9 harg9 arg10 harg10 arg11 harg11 hc0 x0 x1 x2 x3 = k0_pay13 (k0_pay5 x0) (k0_pay6 x1) (k0_pay7 x0) x2 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_unit_zero (S := S512x512) hz]
  simp only [View.readAt_eq_ld, harg1.read_unread, harg2.read_unread, harg3.read_unread, View.ld_unit_zero (S := S512x1024) hz, View.ld_unit_zero (S := S1x1024) hz, View.ld_unit_zero (S := S1024x3712) hz]

/-- Result window 8 at a point of case A. -/
theorem out_A_8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : cond0_0 i) (x0 : Vec F S512x1024 .f32) (x1 : Vec F S1x1024 .f32) (x2 : Vec F S1024x3712 .bf16) (x3 : Vec F S4x1536 .f32) :
    out0_A_8 c i arg1 harg1 arg2 harg2 arg3 harg3 arg4 harg4 arg5 harg5 arg6 harg6 arg7 harg7 arg8 harg8 arg9 harg9 arg10 harg10 arg11 harg11 hc0 x0 x1 x2 x3 = k0_pay1 (k0_pay8 (k0_pay5 x0) (k0_pay6 x1) (k0_pay7 x0) x2) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_unit_zero (S := S512x512) hz]
  simp only [View.readAt_eq_ld, harg1.read_unread, harg2.read_unread, harg3.read_unread, View.ld_unit_zero (S := S512x1024) hz, View.ld_unit_zero (S := S1x1024) hz, View.ld_unit_zero (S := S1024x3712) hz]

/-- Result window 9 at a point of case A. -/
theorem out_A_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : cond0_0 i) (x0 : Vec F S512x1024 .f32) (x1 : Vec F S1x1024 .f32) (x2 : Vec F S1024x3712 .bf16) (x3 : Vec F S4x1536 .f32) :
    out0_A_9 c i arg1 harg1 arg2 harg2 arg3 harg3 arg4 harg4 arg5 harg5 arg6 harg6 arg7 harg7 arg8 harg8 arg9 harg9 arg10 harg10 arg11 harg11 hc0 x0 x1 x2 x3 = k0_pay2 (k0_pay8 (k0_pay5 x0) (k0_pay6 x1) (k0_pay7 x0) x2) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_unit_zero (S := S512x512) hz]
  simp only [View.readAt_eq_ld, harg1.read_unread, harg2.read_unread, harg3.read_unread, View.ld_unit_zero (S := S512x1024) hz, View.ld_unit_zero (S := S1x1024) hz, View.ld_unit_zero (S := S1024x3712) hz]

/-- Result window 5 at a point of case B. -/
theorem out_B_5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : ¬cond0_0 i) (x0 : Vec F S512x1024 .f32) (x1 : Vec F S1x1024 .f32) (x2 : Vec F S1024x3712 .bf16) (x3 : Vec F S4x1536 .f32) (xs0 : Vec F S520x1536 .f32) :
    out0_B_5 c i arg1 harg1 arg2 harg2 arg3 harg3 arg4 harg4 arg5 harg5 arg6 harg6 arg7 harg7 arg8 harg8 arg9 harg9 arg10 harg10 arg11 harg11 hc0 x0 x1 x2 x3 xs0 = k0_pay11 (k0_pay5 x0) (k0_pay6 x1) (k0_pay7 x0) x2 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 hc0 x0 x1 x2 x3 xs0)]
  unfold kernelRun0_B
  dsimp only
  sl_unfold_words
  rw [View.canon_unit_zero (S := S512x512) hz]
  simp only [View.readAt_eq_ld, harg1.read_unread, harg2.read_unread, harg3.read_unread, View.ld_unit_zero (S := S512x1024) hz, View.ld_unit_zero (S := S1x1024) hz, View.ld_unit_zero (S := S1024x3712) hz]

/-- Result window 6 at a point of case B. -/
theorem out_B_6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : ¬cond0_0 i) (x0 : Vec F S512x1024 .f32) (x1 : Vec F S1x1024 .f32) (x2 : Vec F S1024x3712 .bf16) (x3 : Vec F S4x1536 .f32) (xs0 : Vec F S520x1536 .f32) :
    out0_B_6 c i arg1 harg1 arg2 harg2 arg3 harg3 arg4 harg4 arg5 harg5 arg6 harg6 arg7 harg7 arg8 harg8 arg9 harg9 arg10 harg10 arg11 harg11 hc0 x0 x1 x2 x3 xs0 = k0_pay12 (k0_pay5 x0) (k0_pay6 x1) (k0_pay7 x0) x2 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 x0 x1 x2 x3 xs0)]
  unfold kernelRun0_B
  dsimp only
  sl_unfold_words
  rw [View.canon_unit_zero (S := S512x128) hz]
  simp only [View.readAt_eq_ld, harg1.read_unread, harg2.read_unread, harg3.read_unread, View.ld_unit_zero (S := S512x1024) hz, View.ld_unit_zero (S := S1x1024) hz, View.ld_unit_zero (S := S1024x3712) hz]

/-- Result window 7 at a point of case B. -/
theorem out_B_7 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : ¬cond0_0 i) (x0 : Vec F S512x1024 .f32) (x1 : Vec F S1x1024 .f32) (x2 : Vec F S1024x3712 .bf16) (x3 : Vec F S4x1536 .f32) (xs0 : Vec F S520x1536 .f32) :
    out0_B_7 c i arg1 harg1 arg2 harg2 arg3 harg3 arg4 harg4 arg5 harg5 arg6 harg6 arg7 harg7 arg8 harg8 arg9 harg9 arg10 harg10 arg11 harg11 hc0 x0 x1 x2 x3 xs0 = k0_pay13 (k0_pay5 x0) (k0_pay6 x1) (k0_pay7 x0) x2 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 xs0)]
  unfold kernelRun0_B
  dsimp only
  sl_unfold_words
  rw [View.canon_unit_zero (S := S512x512) hz]
  simp only [View.readAt_eq_ld, harg1.read_unread, harg2.read_unread, harg3.read_unread, View.ld_unit_zero (S := S512x1024) hz, View.ld_unit_zero (S := S1x1024) hz, View.ld_unit_zero (S := S1024x3712) hz]

/-- Result window 8 at a point of case B. -/
theorem out_B_8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : ¬cond0_0 i) (x0 : Vec F S512x1024 .f32) (x1 : Vec F S1x1024 .f32) (x2 : Vec F S1024x3712 .bf16) (x3 : Vec F S4x1536 .f32) (xs0 : Vec F S520x1536 .f32) :
    out0_B_8 c i arg1 harg1 arg2 harg2 arg3 harg3 arg4 harg4 arg5 harg5 arg6 harg6 arg7 harg7 arg8 harg8 arg9 harg9 arg10 harg10 arg11 harg11 hc0 x0 x1 x2 x3 xs0 = k0_pay1 (k0_pay8 (k0_pay5 x0) (k0_pay6 x1) (k0_pay7 x0) x2) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 xs0)]
  unfold kernelRun0_B
  dsimp only
  sl_unfold_words
  rw [View.canon_unit_zero (S := S512x512) hz]
  simp only [View.readAt_eq_ld, harg1.read_unread, harg2.read_unread, harg3.read_unread, View.ld_unit_zero (S := S512x1024) hz, View.ld_unit_zero (S := S1x1024) hz, View.ld_unit_zero (S := S1024x3712) hz]

/-- Result window 9 at a point of case B. -/
theorem out_B_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : ¬cond0_0 i) (x0 : Vec F S512x1024 .f32) (x1 : Vec F S1x1024 .f32) (x2 : Vec F S1024x3712 .bf16) (x3 : Vec F S4x1536 .f32) (xs0 : Vec F S520x1536 .f32) :
    out0_B_9 c i arg1 harg1 arg2 harg2 arg3 harg3 arg4 harg4 arg5 harg5 arg6 harg6 arg7 harg7 arg8 harg8 arg9 harg9 arg10 harg10 arg11 harg11 hc0 x0 x1 x2 x3 xs0 = k0_pay2 (k0_pay8 (k0_pay5 x0) (k0_pay6 x1) (k0_pay7 x0) x2) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 xs0)]
  unfold kernelRun0_B
  dsimp only
  sl_unfold_words
  rw [View.canon_unit_zero (S := S512x512) hz]
  simp only [View.readAt_eq_ld, harg1.read_unread, harg2.read_unread, harg3.read_unread, View.ld_unit_zero (S := S512x1024) hz, View.ld_unit_zero (S := S1x1024) hz, View.ld_unit_zero (S := S1024x3712) hz]

/-- The convolution's result window at a point of case B: over what the point before left in the scratch. -/
theorem out_B_4 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : ¬cond0_0 i) (x0 : Vec F S512x1024 .f32) (x1 : Vec F S1x1024 .f32) (x2 : Vec F S1024x3712 .bf16) (x3 : Vec F S4x1536 .f32) (xs0 : Vec F S520x1536 .f32) :
    out0_B_4 c i arg1 harg1 arg2 harg2 arg3 harg3 arg4 harg4 arg5 harg5 arg6 harg6 arg7 harg7 arg8 harg8 arg9 harg9 arg10 harg10 arg11 harg11 hc0 x0 x1 x2 x3 xs0 = k0_pay4 xs0 x3 := by
  unfold out0_B_4
  rw [View.read_writes_eq_canon _ _ _ (cover0_B_4 c i arg1 harg1 arg2 harg2 arg3 harg3 arg4 harg4 arg5 harg5 arg6 harg6 arg7 harg7 arg8 harg8 arg9 harg9 arg10 harg10 arg11 harg11 hc0 x0 x1 x2 x3 xs0)]
  unfold kernelRun0_B
  dsimp only
  sl_unfold_words
  rw [View.canon_unit_zero (S := S512x1536) hz]
  simp only [View.readAt_eq_ld, harg11.read_unread, harg4.read_unread, View.ld_unit_zero (S := S520x1536) hz, View.ld_unit_zero (S := S4x1536) hz]

/-- The carried scratch after a point of case A: the first 8 rows. -/
theorem sout_A_lo (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : cond0_0 i) (x0 : Vec F S512x1024 .f32) (x1 : Vec F S1x1024 .f32) (x2 : Vec F S1024x3712 .bf16) (x3 : Vec F S4x1536 .f32) (r : Fin 8) (n : Fin 1536) :
    sout0_A_0 c i arg1 harg1 arg2 harg2 arg3 harg3 arg4 harg4 arg5 harg5 arg6 harg6 arg7 harg7 arg8 harg8 arg9 harg9 arg10 harg10 arg11 harg11 hc0 x0 x1 x2 x3 (ix2 (n0 := 520) (n1 := 1536) ⟨r.val, by omega⟩ n) = k0_pay9 (BitVec.ofNat 32 (i 0).val) k0_pay3 (ix2 r n) := by
  unfold sout0_A_0
  rw [View.read_writes_junk_eq_canon]
  unfold kernelRun0_A
  dsimp only
  sl_unfold_words
  rw [canon_lo]
  simp only [View.readAt_eq_ld, View.readCov_unit_zero (S := S520x1536) _ hz, View.ld_unit_zero (S := S512x1024) hz, View.ld_unit_zero (S := S1x1024) hz, View.ld_unit_zero (S := S1024x3712) hz, View.ld_unit_zero (S := S520x1536) hz]

/-- The carried scratch after a point of case A: the last 512 rows. -/
theorem sout_A_hi (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : cond0_0 i) (x0 : Vec F S512x1024 .f32) (x1 : Vec F S1x1024 .f32) (x2 : Vec F S1024x3712 .bf16) (x3 : Vec F S4x1536 .f32) (r : Fin 512) (n : Fin 1536) :
    sout0_A_0 c i arg1 harg1 arg2 harg2 arg3 harg3 arg4 harg4 arg5 harg5 arg6 harg6 arg7 harg7 arg8 harg8 arg9 harg9 arg10 harg10 arg11 harg11 hc0 x0 x1 x2 x3 (ix2 (n0 := 520) (n1 := 1536) ⟨8 + r.val, by omega⟩ n) = k0_pay10 (k0_pay5 x0) (k0_pay6 x1) (k0_pay7 x0) x2 (ix2 r n) := by
  unfold sout0_A_0
  rw [View.read_writes_junk_eq_canon]
  unfold kernelRun0_A
  dsimp only
  sl_unfold_words
  rw [canon_hi]
  simp only [View.readAt_eq_ld, harg1.read_unread, harg2.read_unread, harg3.read_unread, View.ld_unit_zero (S := S512x1024) hz, View.ld_unit_zero (S := S1x1024) hz, View.ld_unit_zero (S := S1024x3712) hz, View.ld_unit_zero (S := S520x1536) hz]

/-- The carried scratch after a point of case B: the first 8 rows. -/
theorem sout_B_lo (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : ¬cond0_0 i) (x0 : Vec F S512x1024 .f32) (x1 : Vec F S1x1024 .f32) (x2 : Vec F S1024x3712 .bf16) (x3 : Vec F S4x1536 .f32) (xs0 : Vec F S520x1536 .f32) (r : Fin 8) (n : Fin 1536) :
    sout0_B_0 c i arg1 harg1 arg2 harg2 arg3 harg3 arg4 harg4 arg5 harg5 arg6 harg6 arg7 harg7 arg8 harg8 arg9 harg9 arg10 harg10 arg11 harg11 hc0 x0 x1 x2 x3 xs0 (ix2 (n0 := 520) (n1 := 1536) ⟨r.val, by omega⟩ n) = k0_pay9 (BitVec.ofNat 32 (i 0).val) xs0 (ix2 r n) := by
  unfold sout0_B_0
  rw [View.read_writes_junk_eq_canon]
  unfold kernelRun0_B
  dsimp only
  sl_unfold_words
  rw [canon_lo]
  simp only [View.readAt_eq_ld, harg11.read_unread, View.ld_unit_zero (S := S512x1024) hz, View.ld_unit_zero (S := S1x1024) hz, View.ld_unit_zero (S := S1024x3712) hz, View.ld_unit_zero (S := S520x1536) hz]

/-- The carried scratch after a point of case B: the last 512 rows. -/
theorem sout_B_hi (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S4x1536 .f32) (harg4 : arg4.IsWhole) (arg5 : Memref sig .tc .vmem S512x1536 .f32) (harg5 : arg5.IsWhole) (arg6 : Memref sig .tc .vmem S512x512 .f32) (harg6 : arg6.IsWhole) (arg7 : Memref sig .tc .vmem S512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S520x1536 .f32) (harg11 : arg11.IsWhole) (hc0 : ¬cond0_0 i) (x0 : Vec F S512x1024 .f32) (x1 : Vec F S1x1024 .f32) (x2 : Vec F S1024x3712 .bf16) (x3 : Vec F S4x1536 .f32) (xs0 : Vec F S520x1536 .f32) (r : Fin 512) (n : Fin 1536) :
    sout0_B_0 c i arg1 harg1 arg2 harg2 arg3 harg3 arg4 harg4 arg5 harg5 arg6 harg6 arg7 harg7 arg8 harg8 arg9 harg9 arg10 harg10 arg11 harg11 hc0 x0 x1 x2 x3 xs0 (ix2 (n0 := 520) (n1 := 1536) ⟨8 + r.val, by omega⟩ n) = k0_pay10 (k0_pay5 x0) (k0_pay6 x1) (k0_pay7 x0) x2 (ix2 r n) := by
  unfold sout0_B_0
  rw [View.read_writes_junk_eq_canon]
  unfold kernelRun0_B
  dsimp only
  sl_unfold_words
  rw [canon_hi]
  simp only [View.readAt_eq_ld, harg1.read_unread, harg2.read_unread, harg3.read_unread, View.ld_unit_zero (S := S512x1024) hz, View.ld_unit_zero (S := S1x1024) hz, View.ld_unit_zero (S := S1024x3712) hz, View.ld_unit_zero (S := S520x1536) hz]

end Cert.Proof.Inproj

end
-- ==== Proof.InprojBlock.lean ====
/-
  The input projection's call, read at a row and a column at the extended reals: the normalised row times the projection's
  columns, the causal convolution over the rows the scratch carries from one point to the next, and the six result arrays
  assembled from the points' blocks of 512 rows.
-/
module

public import proofs.«01_k».proof.Proof.FfnSpec
public import proofs.«01_k».proof.Proof.InprojPieces
public import Idealize.ShloMosaic.Lib.KernelVsHost
public import Idealize.ShloMosaic.Lib.Pointwise

@[expose] public section

noncomputable section

namespace Cert.Proof.Inproj

open Cert.Kernel3Ideal Cert.Kernel3Ideal.Gen Idealize.ShloMosaic Idealize.ShloMosaic.TcCoe Cert.Proof.Ffn

/-- Four taps of a causal convolution: `a0` is the oldest of the four rows' entries, `a3` the row's own. -/
def conv4 (a0 a1 a2 a3 w0 w1 w2 w3 : EReal) : EReal := a0 * w0 + a1 * w1 + a2 * w2 + a3 * w3

/-! ## The payloads at an index -/

/-- The product: the normalised row times a column of the weights. -/
theorem pay8_apply (x0 : Vec Ideal S512x1024 .f32) (x1 : Vec Ideal S1x1024 .f32) (x2 : Vec Ideal S1024x3712 .bf16) (r : Fin 512) (q : Fin 3712) :
    k0_pay8 (F := Ideal) (k0_pay5 x0) (k0_pay6 x1) (k0_pay7 x0) x2 (ix2 r q)
      = ∑ k : Fin 1024, rms (fun j => x0 (ix2 r j)) (fun j => x1 (ix2 0 j)) k * x2 (ix2 k q) := by
  unfold k0_pay8 k0_pay7 k0_pay6 k0_pay5 rms
  pointwise [dot_S512x1024_S1024x3712_S512x3712_1_0_0_1_n_n]

theorem pay10_apply (v29 : FVec Ideal S512x1024 .f32) (v31 : FVec Ideal S1x1024 .f32) (v38 : FVec Ideal S512x1 .f32) (v45 : Vec Ideal S1024x3712 .bf16) (r : Fin 512) (n : Fin 1536) :
    k0_pay10 (F := Ideal) v29 v31 v38 v45 (ix2 r n) = k0_pay8 (F := Ideal) v29 v31 v38 v45 (ix2 r ⟨0 + n.val, by omega⟩) := by
  unfold k0_pay10
  generalize k0_pay8 (F := Ideal) v29 v31 v38 v45 = p
  pointwise

theorem pay11_apply (v29 : FVec Ideal S512x1024 .f32) (v31 : FVec Ideal S1x1024 .f32) (v38 : FVec Ideal S512x1 .f32) (v45 : Vec Ideal S1024x3712 .bf16) (r : Fin 512) (n : Fin 512) :
    k0_pay11 (F := Ideal) v29 v31 v38 v45 (ix2 r n) = k0_pay8 (F := Ideal) v29 v31 v38 v45 (ix2 r ⟨1536 + n.val, by omega⟩) := by
  unfold k0_pay11
  generalize k0_pay8 (F := Ideal) v29 v31 v38 v45 = p
  pointwise

theorem pay12_apply (v29 : FVec Ideal S512x1024 .f32) (v31 : FVec Ideal S1x1024 .f32) (v38 : FVec Ideal S512x1 .f32) (v45 : Vec Ideal S1024x3712 .bf16) (r : Fin 512) (n : Fin 128) :
    k0_pay12 (F := Ideal) v29 v31 v38 v45 (ix2 r n) = k0_pay8 (F := Ideal) v29 v31 v38 v45 (ix2 r ⟨2048 + n.val, by omega⟩) := by
  unfold k0_pay12
  generalize k0_pay8 (F := Ideal) v29 v31 v38 v45 = p
  pointwise

theorem pay13_apply (v29 : FVec Ideal S512x1024 .f32) (v31 : FVec Ideal S1x1024 .f32) (v38 : FVec Ideal S512x1 .f32) (v45 : Vec Ideal S1024x3712 .bf16) (r : Fin 512) (n : Fin 512) :
    k0_pay13 (F := Ideal) v29 v31 v38 v45 (ix2 r n) = k0_pay8 (F := Ideal) v29 v31 v38 v45 (ix2 r ⟨2176 + n.val, by omega⟩) := by
  unfold k0_pay13
  generalize k0_pay8 (F := Ideal) v29 v31 v38 v45 = p
  pointwise

theorem pay1_apply (p : FVec Ideal S512x3712 .f32) (r : Fin 512) (n : Fin 512) :
    k0_pay1 (F := Ideal) p (ix2 r n) = p (ix2 r ⟨2688 + n.val, by omega⟩) := by
  unfold k0_pay1
  pointwise

theorem pay2_apply (p : FVec Ideal S512x3712 .f32) (r : Fin 512) (n : Fin 512) :
    k0_pay2 (F := Ideal) p (ix2 r n) = p (ix2 r ⟨3200 + n.val, by omega⟩) := by
  unfold k0_pay2
  pointwise

/-- A rotation by `k` rows, read `k` rows or more down: the row `k` above. -/
theorem rot_apply (k : Nat) (w : BitVec 32) (hw : w.toNat = k) (hk : k ≤ 8) (v : Vec Ideal S520x1536 .f32) (r : Fin 512) (n : Fin 1536) :
    dynamicRotate 0 w none v rotates_S520x1536_d0 (ix2 (n0 := 520) (n1 := 1536) ⟨8 + r.val, by omega⟩ n)
      = v (ix2 (n0 := 520) (n1 := 1536) ⟨8 + r.val - k, by omega⟩ n) := by
  refine dynamicRotate_apply (s := S520x1536) 0 w v rotates_S520x1536_d0 _ _ fun b => ?_
  match b with
  | ⟨0, _⟩ =>
    show 8 + r.val - k = ((8 + r.val) + 520 - w.toNat % 520) % 520
    rw [hw]; omega
  | ⟨1, _⟩ => rfl

/-- The convolution's block: SiLU of four taps over the carried scratch. -/
theorem pay4_apply (v : Vec Ideal S520x1536 .f32) (w : Vec Ideal S4x1536 .f32) (r : Fin 512) (n : Fin 1536) :
    k0_pay4 (F := Ideal) v w (ix2 r n)
      = silu (conv4 (v (ix2 ⟨8 + r.val - 3, by omega⟩ n)) (v (ix2 ⟨8 + r.val - 2, by omega⟩ n)) (v (ix2 ⟨8 + r.val - 1, by omega⟩ n)) (v (ix2 ⟨8 + r.val, by omega⟩ n))
          (w (ix2 0 n)) (w (ix2 1 n)) (w (ix2 2 n)) (w (ix2 3 n))) := by
  have e : conv4 (v (ix2 ⟨8 + r.val - 3, by omega⟩ n)) (v (ix2 ⟨8 + r.val - 2, by omega⟩ n)) (v (ix2 ⟨8 + r.val - 1, by omega⟩ n)) (v (ix2 ⟨8 + r.val, by omega⟩ n))
          (w (ix2 0 n)) (w (ix2 1 n)) (w (ix2 2 n)) (w (ix2 3 n))
      = v (ix2 ⟨8 + r.val, by omega⟩ n) * w (ix2 3 n) + v (ix2 ⟨8 + r.val - 1, by omega⟩ n) * w (ix2 2 n) + v (ix2 ⟨8 + r.val - 2, by omega⟩ n) * w (ix2 1 n) + v (ix2 ⟨8 + r.val - 3, by omega⟩ n) * w (ix2 0 n) := by
    unfold conv4
    ac_rfl
  rw [e, ← rot_apply 1 1#32 rfl (by omega) v r n, ← rot_apply 2 2#32 rfl (by omega) v r n, ← rot_apply 3 3#32 rfl (by omega) v r n]
  unfold k0_pay4
  generalize dynamicRotate 0 1#32 none v rotates_S520x1536_d0 = u1
  generalize dynamicRotate 0 2#32 none v rotates_S520x1536_d0 = u2
  generalize dynamicRotate 0 3#32 none v rotates_S520x1536_d0 = u3
  unfold silu
  pointwise

/-- The rows carried over at a sequence's first block: zero. -/
theorem pay9_reset (t : Fin 65) (ht : t.val % 8 = 0) (v : Vec Ideal S520x1536 .f32) (r : Fin 8) (n : Fin 1536) :
    k0_pay9 (F := Ideal) (BitVec.ofNat 32 t.val) v (ix2 r n) = 0 := by
  have key : ∀ t : Fin 65, t.val % 8 = 0 → Scalar.cmpi .eq (Scalar.select (Scalar.andi (Scalar.xori (Scalar.cmpi .slt (Scalar.remsi (BitVec.ofNat 32 t.val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 t.val) (Scalar.select (Scalar.cmpi .eq 8#32 0#32) 1#32 8#32)) 0#32)) (Scalar.addi (Scalar.remsi (BitVec.ofNat 32 t.val) (Scalar.select (Scalar.cmpi .eq 8#32 0#32) 1#32 8#32)) (Scalar.select (Scalar.cmpi .eq 8#32 0#32) 1#32 8#32)) (Scalar.remsi (BitVec.ofNat 32 t.val) (Scalar.select (Scalar.cmpi .eq 8#32 0#32) 1#32 8#32))) 0#32 = 1#1 := by decide +kernel
  unfold k0_pay9
  rw [key t ht]
  show shapeCast S8x1536 (broadcast S8x1536 (Scalar.ofBits (F := Ideal) .f32 0x00000000#32)) shapeCasts_S8x1536_S8x1536 (ix2 r n) = 0
  pointwise

/-- The rows carried over inside a sequence: the scratch's last 8 rows. -/
theorem pay9_carry (t : Fin 65) (ht : ¬t.val % 8 = 0) (v : Vec Ideal S520x1536 .f32) (r : Fin 8) (n : Fin 1536) :
    k0_pay9 (F := Ideal) (BitVec.ofNat 32 t.val) v (ix2 r n) = v (ix2 ⟨512 + r.val, by omega⟩ n) := by
  have key : ∀ t : Fin 65, ¬t.val % 8 = 0 → Scalar.cmpi .eq (Scalar.select (Scalar.andi (Scalar.xori (Scalar.cmpi .slt (Scalar.remsi (BitVec.ofNat 32 t.val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 t.val) (Scalar.select (Scalar.cmpi .eq 8#32 0#32) 1#32 8#32)) 0#32)) (Scalar.addi (Scalar.remsi (BitVec.ofNat 32 t.val) (Scalar.select (Scalar.cmpi .eq 8#32 0#32) 1#32 8#32)) (Scalar.select (Scalar.cmpi .eq 8#32 0#32) 1#32 8#32)) (Scalar.remsi (BitVec.ofNat 32 t.val) (Scalar.select (Scalar.cmpi .eq 8#32 0#32) 1#32 8#32))) 0#32 = 0#1 := by decide +kernel
  unfold k0_pay9
  rw [key t ht]
  show shapeCast S8x1536 (extractStridedSlice S8x1536 ![512, 0] v slices_S520x1536_o512_0_S8x1536) shapeCasts_S8x1536_S8x1536 (ix2 r n) = _
  pointwise

/-! ## The blocks -/

variable (m : (ℓ : Loc nD τ sig) → Buf (Elt Ideal) ℓ)

/-- The row block a point works on: its own number, the last block again at the extra point. -/
def blkOf (t : Nat) : Nat := min t 63

/-- The projection at row `r`, column `q` of the arrays the region finds. -/
def P (c : Dev nD) (r : Fin 32768) (q : Fin 3712) : EReal :=
  ∑ k : Fin 1024, rms (fun j => (V m c main_v7 : S32768x1024.Idx → EReal) (ix2 r j)) (fun j => (V m c main_v9 : S1x1024.Idx → EReal) (ix2 0 j)) k
    * (V m c main_v6 : S1024x3712.Idx → EReal) (ix2 k q)

/-- The projection `j` rows above row `r`, zero before the sequence's first row. -/
def lag (c : Dev nD) (j : Nat) (r : Fin 32768) (n : Fin 1536) : EReal :=
  if j ≤ r.val % 4096 then P m c ⟨r.val - j, by omega⟩ ⟨n.val, by omega⟩ else 0

/-- The convolved and activated columns. -/
def G4 (c : Dev nD) : Buf (Elt Ideal) ((c : Thread nD τ).loc main_v11_0) := fun i : S32768x1536.Idx =>
  silu (conv4 (lag m c 3 (i 0) (i 1)) (lag m c 2 (i 0) (i 1)) (lag m c 1 (i 0) (i 1)) (lag m c 0 (i 0) (i 1))
    ((V m c main_v10 : S4x1536.Idx → EReal) (ix2 0 (i 1))) ((V m c main_v10 : S4x1536.Idx → EReal) (ix2 1 (i 1)))
    ((V m c main_v10 : S4x1536.Idx → EReal) (ix2 2 (i 1))) ((V m c main_v10 : S4x1536.Idx → EReal) (ix2 3 (i 1))))

/-- Columns 1536 to 2048 of the projection. -/
def G5 (c : Dev nD) : Buf (Elt Ideal) ((c : Thread nD τ).loc main_v11_1) := fun i : S32768x512.Idx =>
  P m c (i 0) ⟨1536 + (i 1).val, by have h : (i 1).val < 512 := (i 1).isLt; omega⟩

/-- Columns 2048 to 2176 of the projection. -/
def G6 (c : Dev nD) : Buf (Elt Ideal) ((c : Thread nD τ).loc main_v11_2) := fun i : S32768x128.Idx =>
  P m c (i 0) ⟨2048 + (i 1).val, by have h : (i 1).val < 128 := (i 1).isLt; omega⟩

/-- Columns 2176 to 2688 of the projection. -/
def G7 (c : Dev nD) : Buf (Elt Ideal) ((c : Thread nD τ).loc main_v11_3) := fun i : S32768x512.Idx =>
  P m c (i 0) ⟨2176 + (i 1).val, by have h : (i 1).val < 512 := (i 1).isLt; omega⟩

/-- Columns 2688 to 3200 of the projection. -/
def G8 (c : Dev nD) : Buf (Elt Ideal) ((c : Thread nD τ).loc main_v11_4) := fun i : S32768x512.Idx =>
  P m c (i 0) ⟨2688 + (i 1).val, by have h : (i 1).val < 512 := (i 1).isLt; omega⟩

/-- Columns 3200 to 3712 of the projection. -/
def G9 (c : Dev nD) : Buf (Elt Ideal) ((c : Thread nD τ).loc main_v11_5) := fun i : S32768x512.Idx =>
  P m c (i 0) ⟨3200 + (i 1).val, by have h : (i 1).val < 512 := (i 1).isLt; omega⟩

theorem idx0 : ∀ t : Fin cfg0.N, win0_0.index t = ![blkOf t.val, 0] := (by decide +kernel : ∀ t : Fin grid0.N, win0_0.index t = ![blkOf t.val, 0])
theorem idx5 : ∀ t : Fin cfg0.N, win0_5.index t = ![blkOf t.val, 0] := (by decide +kernel : ∀ t : Fin grid0.N, win0_5.index t = ![blkOf t.val, 0])
theorem idx6 : ∀ t : Fin cfg0.N, win0_6.index t = ![blkOf t.val, 0] := (by decide +kernel : ∀ t : Fin grid0.N, win0_6.index t = ![blkOf t.val, 0])
theorem idx7 : ∀ t : Fin cfg0.N, win0_7.index t = ![blkOf t.val, 0] := (by decide +kernel : ∀ t : Fin grid0.N, win0_7.index t = ![blkOf t.val, 0])
theorem idx8 : ∀ t : Fin cfg0.N, win0_8.index t = ![blkOf t.val, 0] := (by decide +kernel : ∀ t : Fin grid0.N, win0_8.index t = ![blkOf t.val, 0])
theorem idx9 : ∀ t : Fin cfg0.N, win0_9.index t = ![blkOf t.val, 0] := (by decide +kernel : ∀ t : Fin grid0.N, win0_9.index t = ![blkOf t.val, 0])
theorem idx4 : ∀ t : Fin cfg0.N, win0_4.index t = ![t.val - 1, 0] := (by decide +kernel : ∀ t : Fin grid0.N, win0_4.index t = ![t.val - 1, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem flush4 : ∀ t : Fin cfg0.N, (cfg0.win 4).flush t = true ↔ t.val ≠ 0 := (by decide +kernel : ∀ t : Fin grid0.N, win0_4.flush t = true ↔ t.val ≠ 0)
theorem flush5 : ∀ t : Fin cfg0.N, (cfg0.win 5).flush t = true ↔ t.val ≠ 63 := (by decide +kernel : ∀ t : Fin grid0.N, win0_5.flush t = true ↔ t.val ≠ 63)
theorem flush6 : ∀ t : Fin cfg0.N, (cfg0.win 6).flush t = true ↔ t.val ≠ 63 := (by decide +kernel : ∀ t : Fin grid0.N, win0_6.flush t = true ↔ t.val ≠ 63)
theorem flush7 : ∀ t : Fin cfg0.N, (cfg0.win 7).flush t = true ↔ t.val ≠ 63 := (by decide +kernel : ∀ t : Fin grid0.N, win0_7.flush t = true ↔ t.val ≠ 63)
theorem flush8 : ∀ t : Fin cfg0.N, (cfg0.win 8).flush t = true ↔ t.val ≠ 63 := (by decide +kernel : ∀ t : Fin grid0.N, win0_8.flush t = true ↔ t.val ≠ 63)
theorem flush9 : ∀ t : Fin cfg0.N, (cfg0.win 9).flush t = true ↔ t.val ≠ 63 := (by decide +kernel : ∀ t : Fin grid0.N, win0_9.flush t = true ↔ t.val ≠ 63)
theorem coord : ∀ t : Fin cfg0.N, (grid0.coords t 0).val = t.val := (by decide +kernel : ∀ t : Fin grid0.N, (grid0.coords t 0).val = t.val)

theorem blk_lt (t : Nat) (r : Fin 512) : blkOf t * 512 + r.val < 32768 := by unfold blkOf; omega

theorem t_lt (t : Fin cfg0.N) : t.val < 65 := by have h := t.isLt; have e : cfg0.N = 65 := N_0; omega

/-- The rows' block at point `t`. -/
theorem iblk0_apply (c : Dev nD) (t : Fin cfg0.N) (r : Fin 512) (k : Fin 1024) :
    (iblk m c 0 t : Vec Ideal S512x1024 .f32) (ix2 r k) = (V m c main_v7 : S32768x1024.Idx → EReal) (ix2 ⟨blkOf t.val * 512 + r.val, blk_lt _ r⟩ k) := by
  unfold iblk
  rw [View.read_apply]
  refine congrArg (V m c main_v7) (funext fun a => Fin.ext ?_)
  match a with
  | ⟨0, _⟩ => show win0_0.index t 0 * 512 + 1 * r.val = blkOf t.val * 512 + r.val; rw [idx0]; show blkOf t.val * 512 + 1 * r.val = _; omega
  | ⟨1, _⟩ => show win0_0.index t 1 * 1024 + 1 * k.val = k.val; rw [idx0]; show 0 * 1024 + 1 * k.val = _; omega

theorem iblk1_eq (c : Dev nD) (t : Fin cfg0.N) : (iblk m c 1 t : Vec Ideal S1x1024 .f32) = (V m c main_v9 : S1x1024.Idx → EReal) := by
  funext j
  unfold iblk
  rw [View.read_apply]
  refine congrArg (V m c main_v9) (funext fun a => Fin.ext ?_)
  match a with
  | ⟨0, _⟩ => show win0_1.index t 0 * 1 + 1 * (j 0).val = (j 0).val; rw [idx1]; show 0 * 1 + 1 * (j 0).val = _; omega
  | ⟨1, _⟩ => show win0_1.index t 1 * 1024 + 1 * (j 1).val = (j 1).val; rw [idx1]; show 0 * 1024 + 1 * (j 1).val = _; omega

theorem iblk2_eq (c : Dev nD) (t : Fin cfg0.N) : (iblk m c 2 t : Vec Ideal S1024x3712 .bf16) = (V m c main_v6 : S1024x3712.Idx → EReal) := by
  funext j
  unfold iblk
  rw [View.read_apply]
  refine congrArg (V m c main_v6) (funext fun a => Fin.ext ?_)
  match a with
  | ⟨0, _⟩ => show win0_2.index t 0 * 1024 + 1 * (j 0).val = (j 0).val; rw [idx2]; show 0 * 1024 + 1 * (j 0).val = _; omega
  | ⟨1, _⟩ => show win0_2.index t 1 * 3712 + 1 * (j 1).val = (j 1).val; rw [idx2]; show 0 * 3712 + 1 * (j 1).val = _; omega

theorem iblk3_eq (c : Dev nD) (t : Fin cfg0.N) : (iblk m c 3 t : Vec Ideal S4x1536 .f32) = (V m c main_v10 : S4x1536.Idx → EReal) := by
  funext j
  unfold iblk
  rw [View.read_apply]
  refine congrArg (V m c main_v10) (funext fun a => Fin.ext ?_)
  match a with
  | ⟨0, _⟩ => show win0_3.index t 0 * 4 + 1 * (j 0).val = (j 0).val; rw [idx3]; show 0 * 4 + 1 * (j 0).val = _; omega
  | ⟨1, _⟩ => show win0_3.index t 1 * 1536 + 1 * (j 1).val = (j 1).val; rw [idx3]; show 0 * 1536 + 1 * (j 1).val = _; omega

/-- The product of point `t`'s blocks is the projection of its rows. -/
theorem prod_apply (c : Dev nD) (t : Fin cfg0.N) (r : Fin 512) (q : Fin 3712) :
    k0_pay8 (F := Ideal) (k0_pay5 (iblk m c 0 t)) (k0_pay6 (iblk m c 1 t)) (k0_pay7 (iblk m c 0 t)) (iblk m c 2 t) (ix2 r q)
      = P m c ⟨blkOf t.val * 512 + r.val, blk_lt _ r⟩ q := by
  rw [pay8_apply, iblk1_eq, iblk2_eq]
  simp only [iblk0_apply]
  rfl

/-! ## What each point leaves -/

theorem left5 (c : Dev nD) (t : Fin cfg0.N) (r : Fin 512) (n : Fin 512) :
    ((outsAt0 m c t.val t.isLt).2.1 : Vec Ideal S512x512 .f32) (ix2 r n) = P m c ⟨blkOf t.val * 512 + r.val, blk_lt _ r⟩ ⟨1536 + n.val, by omega⟩ := by
  by_cases h0 : t.val % 65 = 0
  · rw [outsAt0_A m c t h0]
    dsimp only
    rw [out_A_5, pay11_apply, prod_apply]
  · rw [outsAt0_B m c t h0]
    dsimp only
    rw [out_B_5, pay11_apply, prod_apply]

theorem left6 (c : Dev nD) (t : Fin cfg0.N) (r : Fin 512) (n : Fin 128) :
    ((outsAt0 m c t.val t.isLt).2.2.1 : Vec Ideal S512x128 .f32) (ix2 r n) = P m c ⟨blkOf t.val * 512 + r.val, blk_lt _ r⟩ ⟨2048 + n.val, by omega⟩ := by
  by_cases h0 : t.val % 65 = 0
  · rw [outsAt0_A m c t h0]
    dsimp only
    rw [out_A_6, pay12_apply, prod_apply]
  · rw [outsAt0_B m c t h0]
    dsimp only
    rw [out_B_6, pay12_apply, prod_apply]

theorem left7 (c : Dev nD) (t : Fin cfg0.N) (r : Fin 512) (n : Fin 512) :
    ((outsAt0 m c t.val t.isLt).2.2.2.1 : Vec Ideal S512x512 .f32) (ix2 r n) = P m c ⟨blkOf t.val * 512 + r.val, blk_lt _ r⟩ ⟨2176 + n.val, by omega⟩ := by
  by_cases h0 : t.val % 65 = 0
  · rw [outsAt0_A m c t h0]
    dsimp only
    rw [out_A_7, pay13_apply, prod_apply]
  · rw [outsAt0_B m c t h0]
    dsimp only
    rw [out_B_7, pay13_apply, prod_apply]

theorem left8 (c : Dev nD) (t : Fin cfg0.N) (r : Fin 512) (n : Fin 512) :
    ((outsAt0 m c t.val t.isLt).2.2.2.2.1 : Vec Ideal S512x512 .f32) (ix2 r n) = P m c ⟨blkOf t.val * 512 + r.val, blk_lt _ r⟩ ⟨2688 + n.val, by omega⟩ := by
  by_cases h0 : t.val % 65 = 0
  · rw [outsAt0_A m c t h0]
    dsimp only
    rw [out_A_8, pay1_apply, prod_apply]
  · rw [outsAt0_B m c t h0]
    dsimp only
    rw [out_B_8, pay1_apply, prod_apply]

theorem left9 (c : Dev nD) (t : Fin cfg0.N) (r : Fin 512) (n : Fin 512) :
    ((outsAt0 m c t.val t.isLt).2.2.2.2.2.1 : Vec Ideal S512x512 .bf16) (ix2 r n) = P m c ⟨blkOf t.val * 512 + r.val, blk_lt _ r⟩ ⟨3200 + n.val, by omega⟩ := by
  by_cases h0 : t.val % 65 = 0
  · rw [outsAt0_A m c t h0]
    dsimp only
    rw [out_A_9, pay2_apply, prod_apply]
  · rw [outsAt0_B m c t h0]
    dsimp only
    rw [out_B_9, pay2_apply, prod_apply]

/-- The carried scratch's last 512 rows after point `t`: the projection of the point's rows. -/
theorem scr_hi (c : Dev nD) (t : Fin cfg0.N) (r : Fin 512) (n : Fin 1536) :
    ((outsAt0 m c t.val t.isLt).2.2.2.2.2.2 : Vec Ideal S520x1536 .f32) (ix2 ⟨8 + r.val, by omega⟩ n) = P m c ⟨blkOf t.val * 512 + r.val, blk_lt _ r⟩ ⟨0 + n.val, by omega⟩ := by
  by_cases h0 : t.val % 65 = 0
  · rw [outsAt0_A m c t h0]
    dsimp only
    rw [sout_A_hi, pay10_apply, prod_apply]
  · rw [outsAt0_B m c t h0]
    dsimp only
    rw [sout_B_hi, pay10_apply, prod_apply]

/-- The carried scratch's first 8 rows after a sequence's first block: zero. -/
theorem scr_lo_reset (c : Dev nD) (t : Fin cfg0.N) (ht : t.val % 8 = 0) (r : Fin 8) (n : Fin 1536) :
    ((outsAt0 m c t.val t.isLt).2.2.2.2.2.2 : Vec Ideal S520x1536 .f32) (ix2 ⟨r.val, by omega⟩ n) = 0 := by
  by_cases h0 : t.val % 65 = 0
  · rw [outsAt0_A m c t h0]
    dsimp only
    rw [sout_A_lo, coord]
    exact pay9_reset ⟨t.val, t_lt t⟩ ht _ r n
  · rw [outsAt0_B m c t h0]
    dsimp only
    rw [sout_B_lo, coord]
    exact pay9_reset ⟨t.val, t_lt t⟩ ht _ r n

/-- The carried scratch's first 8 rows after a later block: the last 8 rows of the block before. -/
theorem scr_lo_carry (c : Dev nD) (t : Fin cfg0.N) (ht : ¬t.val % 8 = 0) (r : Fin 8) (n : Fin 1536) :
    ((outsAt0 m c t.val t.isLt).2.2.2.2.2.2 : Vec Ideal S520x1536 .f32) (ix2 ⟨r.val, by omega⟩ n)
      = P m c ⟨blkOf (t.val - 1) * 512 + (504 + r.val), blk_lt _ ⟨504 + r.val, by omega⟩⟩ ⟨0 + n.val, by omega⟩ := by
  have h0 : ¬t.val % 65 = 0 := by have h := t_lt t; omega
  rw [outsAt0_B m c t h0]
  dsimp only
  rw [sout_B_lo, coord]
  refine (pay9_carry ⟨t.val, t_lt t⟩ ht _ r n).trans ?_
  refine Eq.trans ?_ (scr_hi m c ⟨t.val - 1, Nat.lt_of_le_of_lt (Nat.sub_le _ _) t.isLt⟩ ⟨504 + r.val, by omega⟩ n)
  refine congrArg (fun ρ : Fin 520 => ((outsAt0 m c (t.val - 1) (Nat.lt_of_le_of_lt (Nat.sub_le _ _) t.isLt)).2.2.2.2.2.2 : Vec Ideal S520x1536 .f32) (ix2 ρ n)) (Fin.ext ?_)
  show 512 + r.val = 8 + (504 + r.val)
  omega

theorem P_congr (c : Dev nD) {r r' : Fin 32768} {q q' : Fin 3712} (h : r.val = r'.val) (h' : q.val = q'.val) : P m c r q = P m c r' q' := by
  rw [Fin.ext h, Fin.ext h']

/-- The scratch after block `b`, `j ≤ 8` rows above the block's row `r`: the projection there, zero before the sequence. -/
theorem scr_lag (c : Dev nD) (b : Fin cfg0.N) (hb : b.val ≤ 63) (j : Nat) (hj : j ≤ 3) (r : Fin 512) (n : Fin 1536) :
    ((outsAt0 m c b.val b.isLt).2.2.2.2.2.2 : Vec Ideal S520x1536 .f32) (ix2 ⟨8 + r.val - j, by omega⟩ n)
      = lag m c j ⟨b.val * 512 + r.val, by omega⟩ n := by
  have hbl : blkOf b.val = b.val := by unfold blkOf; omega
  unfold lag
  dsimp only
  by_cases hr : j ≤ r.val
  · rw [if_pos (by omega)]
    refine Eq.trans ?_ ((scr_hi m c b ⟨r.val - j, by omega⟩ n).trans (P_congr m c ?_ ?_))
    · refine congrArg (fun ρ : Fin 520 => ((outsAt0 m c b.val b.isLt).2.2.2.2.2.2 : Vec Ideal S520x1536 .f32) (ix2 ρ n)) (Fin.ext ?_)
      show 8 + r.val - j = 8 + (r.val - j)
      omega
    · show blkOf b.val * 512 + (r.val - j) = b.val * 512 + r.val - j
      rw [hbl]; omega
    · show 0 + n.val = n.val
      omega
  · by_cases hs : b.val % 8 = 0
    · rw [if_neg (by omega)]
      exact scr_lo_reset m c b hs ⟨8 + r.val - j, by omega⟩ n
    · rw [if_pos (by omega)]
      refine (scr_lo_carry m c b hs ⟨8 + r.val - j, by omega⟩ n).trans (P_congr m c ?_ ?_)
      · have hbl' : blkOf (b.val - 1) = b.val - 1 := by unfold blkOf; omega
        show blkOf (b.val - 1) * 512 + (504 + (8 + r.val - j)) = b.val * 512 + r.val - j
        rw [hbl']; omega
      · show 0 + n.val = n.val
        omega

/-- What point `t ≥ 1` leaves in the convolution's window. -/
theorem left4 (c : Dev nD) (t : Fin cfg0.N) (ht : t.val ≠ 0) (r : Fin 512) (n : Fin 1536) :
    ((outsAt0 m c t.val t.isLt).1 : Vec Ideal S512x1536 .f32) (ix2 r n)
      = (G4 m c : S32768x1536.Idx → EReal) (ix2 ⟨(t.val - 1) * 512 + r.val, by have h := t_lt t; omega⟩ n) := by
  have h := t_lt t
  have h0 : ¬t.val % 65 = 0 := by omega
  rw [outsAt0_B m c t h0]
  dsimp only
  rw [out_B_4, pay4_apply, iblk3_eq]
  have hl := fun j hj => scr_lag m c ⟨t.val - 1, Nat.lt_of_le_of_lt (Nat.sub_le _ _) t.isLt⟩ (by show t.val - 1 ≤ 63; omega) j hj r n
  have h3 := hl 3 (by omega)
  have h2 := hl 2 (by omega)
  have h1 := hl 1 (by omega)
  have h00 := hl 0 (by omega)
  dsimp only at h3 h2 h1 h00
  have h00' : ((outsAt0 m c (t.val - 1) (Nat.lt_of_le_of_lt (Nat.sub_le _ _) t.isLt)).2.2.2.2.2.2 : Vec Ideal S520x1536 .f32) (ix2 ⟨8 + r.val, by omega⟩ n) = _ := h00
  rw [h3, h2, h1, h00']
  rfl

/-! ## The result arrays -/

/-- Where an element of point `t`'s block of window 4 sits in the array. -/
theorem emb4 (t : Fin cfg0.N) (r : Fin 512) (n : Fin 1536) :
    (((cfg0.win 4).blk t).view.emb (ix2 r n : S512x1536.Idx) : S32768x1536.Idx) = ix2 ⟨(t.val - 1) * 512 + r.val, by have h := t_lt t; omega⟩ n := by
  refine funext fun a => Fin.ext ?_
  match a with
  | ⟨0, _⟩ => show win0_4.index t 0 * 512 + 1 * r.val = (t.val - 1) * 512 + r.val; rw [idx4]; show (t.val - 1) * 512 + 1 * r.val = _; omega
  | ⟨1, _⟩ => show win0_4.index t 1 * 1536 + 1 * n.val = n.val; rw [idx4]; show 0 * 1536 + 1 * n.val = _; omega

/-- What a flushing point writes back is its block of the result. -/
theorem flushed_eq4 (c : Dev nD) (t : Fin cfg0.N) (hf : (cfg0.win 4).flush t = true) :
    (dats m 0 c).flushed 4 t = ((cfg0.win 4).blk t).view.read (Elt Ideal) (G4 m c) := by
  rw [Cert.Kernel3Ideal.Value.flushed4]
  refine funext fun (y : S512x1536.Idx) => ?_
  obtain ⟨r, n, rfl⟩ : ∃ (r : Fin 512) (n : Fin 1536), y = ix2 r n := ⟨y 0, y 1, by funext k; fin_cases k <;> rfl⟩
  rw [View.read_apply]
  refine Eq.trans (left4 m c t ((flush4 t).mp hf) r n) ?_
  exact ((cast_eq _ _).trans (congrArg (G4 m c : S32768x1536.Idx → EReal) (emb4 t r n))).symm

/-- The result array of window 4 after the run. -/
theorem final4 (c : Dev nD) : (dats m 0 c).arrAt 4 cfg0.N = G4 m c :=
  (dats m 0 c).arrAt_eq_of_cover 4 (G4 m c) (flushed_eq4 m c) fun (i : S32768x1536.Idx) => by
    have hi0 : (i 0).val < 32768 := (i 0).isLt
    have hi1 : (i 1).val < 1536 := (i 1).isLt
    have e65 : cfg0.N = 65 := N_0
    have ht : (i 0).val / 512 + 1 < cfg0.N := by omega
    refine ⟨⟨(i 0).val / 512 + 1, ht⟩, (flush4 _).mpr (by show (i 0).val / 512 + 1 ≠ 0; omega), ?_⟩
    have hb : win0_4.index ⟨(i 0).val / 512 + 1, ht⟩ 0 = (i 0).val / 512 := by rw [idx4]; rfl
    have hb1 : win0_4.index ⟨(i 0).val / 512 + 1, ht⟩ 1 = 0 := by rw [idx4]; rfl
    generalize (⟨(i 0).val / 512 + 1, ht⟩ : Fin cfg0.N) = t at hb hb1
    show i ∈ ((View.whole main_v11_0).slice (win0_4.rect t)).set
    rw [View.set_slice_whole, Rect.mem_set_unit]
    intro a
    match a with
    | ⟨0, _⟩ =>
      show win0_4.index t 0 * 512 ≤ (i 0).val ∧ (i 0).val < win0_4.index t 0 * 512 + 512
      rw [hb]; omega
    | ⟨1, _⟩ =>
      show win0_4.index t 1 * 1536 ≤ (i 1).val ∧ (i 1).val < win0_4.index t 1 * 1536 + 1536
      rw [hb1]; omega

/-- Where an element of point `t`'s block of window 5 sits in the array. -/
theorem emb5 (t : Fin cfg0.N) (r : Fin 512) (n : Fin 512) :
    (((cfg0.win 5).blk t).view.emb (ix2 r n : S512x512.Idx) : S32768x512.Idx) = ix2 ⟨blkOf t.val * 512 + r.val, blk_lt _ r⟩ n := by
  refine funext fun a => Fin.ext ?_
  match a with
  | ⟨0, _⟩ => show win0_5.index t 0 * 512 + 1 * r.val = blkOf t.val * 512 + r.val; rw [idx5]; show blkOf t.val * 512 + 1 * r.val = _; omega
  | ⟨1, _⟩ => show win0_5.index t 1 * 512 + 1 * n.val = n.val; rw [idx5]; show 0 * 512 + 1 * n.val = _; omega

/-- What a flushing point writes back is its block of the result. -/
theorem flushed_eq5 (c : Dev nD) (t : Fin cfg0.N) (hf : (cfg0.win 5).flush t = true) :
    (dats m 0 c).flushed 5 t = ((cfg0.win 5).blk t).view.read (Elt Ideal) (G5 m c) := by
  rw [Cert.Kernel3Ideal.Value.flushed5]
  refine funext fun (y : S512x512.Idx) => ?_
  obtain ⟨r, n, rfl⟩ : ∃ (r : Fin 512) (n : Fin 512), y = ix2 r n := ⟨y 0, y 1, by funext k; fin_cases k <;> rfl⟩
  rw [View.read_apply]
  refine Eq.trans (left5 m c t r n) ?_
  exact ((cast_eq _ _).trans (congrArg (G5 m c : S32768x512.Idx → EReal) (emb5 t r n))).symm

/-- The result array of window 5 after the run. -/
theorem final5 (c : Dev nD) : (dats m 0 c).arrAt 5 cfg0.N = G5 m c :=
  (dats m 0 c).arrAt_eq_of_cover 5 (G5 m c) (flushed_eq5 m c) fun (i : S32768x512.Idx) => by
    have hi0 : (i 0).val < 32768 := (i 0).isLt
    have hi1 : (i 1).val < 512 := (i 1).isLt
    have e65 : cfg0.N = 65 := N_0
    have hd : ∃ t : Fin cfg0.N, t.val ≠ 63 ∧ blkOf t.val = (i 0).val / 512 := by
      by_cases h63 : (i 0).val / 512 = 63
      · exact ⟨⟨64, by omega⟩, by show (64 : Nat) ≠ 63; omega, by rw [h63]; rfl⟩
      · exact ⟨⟨(i 0).val / 512, by omega⟩, h63, by show min ((i 0).val / 512) 63 = (i 0).val / 512; omega⟩
    obtain ⟨t, ht63, htb⟩ := hd
    refine ⟨t, (flush5 t).mpr ht63, ?_⟩
    have hb : win0_5.index t 0 = (i 0).val / 512 := by rw [idx5]; exact htb
    have hb1 : win0_5.index t 1 = 0 := by rw [idx5]; rfl
    show i ∈ ((View.whole main_v11_1).slice (win0_5.rect t)).set
    rw [View.set_slice_whole, Rect.mem_set_unit]
    intro a
    match a with
    | ⟨0, _⟩ =>
      show win0_5.index t 0 * 512 ≤ (i 0).val ∧ (i 0).val < win0_5.index t 0 * 512 + 512
      rw [hb]; omega
    | ⟨1, _⟩ =>
      show win0_5.index t 1 * 512 ≤ (i 1).val ∧ (i 1).val < win0_5.index t 1 * 512 + 512
      rw [hb1]; omega

/-- Where an element of point `t`'s block of window 6 sits in the array. -/
theorem emb6 (t : Fin cfg0.N) (r : Fin 512) (n : Fin 128) :
    (((cfg0.win 6).blk t).view.emb (ix2 r n : S512x128.Idx) : S32768x128.Idx) = ix2 ⟨blkOf t.val * 512 + r.val, blk_lt _ r⟩ n := by
  refine funext fun a => Fin.ext ?_
  match a with
  | ⟨0, _⟩ => show win0_6.index t 0 * 512 + 1 * r.val = blkOf t.val * 512 + r.val; rw [idx6]; show blkOf t.val * 512 + 1 * r.val = _; omega
  | ⟨1, _⟩ => show win0_6.index t 1 * 128 + 1 * n.val = n.val; rw [idx6]; show 0 * 128 + 1 * n.val = _; omega

/-- What a flushing point writes back is its block of the result. -/
theorem flushed_eq6 (c : Dev nD) (t : Fin cfg0.N) (hf : (cfg0.win 6).flush t = true) :
    (dats m 0 c).flushed 6 t = ((cfg0.win 6).blk t).view.read (Elt Ideal) (G6 m c) := by
  rw [Cert.Kernel3Ideal.Value.flushed6]
  refine funext fun (y : S512x128.Idx) => ?_
  obtain ⟨r, n, rfl⟩ : ∃ (r : Fin 512) (n : Fin 128), y = ix2 r n := ⟨y 0, y 1, by funext k; fin_cases k <;> rfl⟩
  rw [View.read_apply]
  refine Eq.trans (left6 m c t r n) ?_
  exact ((cast_eq _ _).trans (congrArg (G6 m c : S32768x128.Idx → EReal) (emb6 t r n))).symm

/-- The result array of window 6 after the run. -/
theorem final6 (c : Dev nD) : (dats m 0 c).arrAt 6 cfg0.N = G6 m c :=
  (dats m 0 c).arrAt_eq_of_cover 6 (G6 m c) (flushed_eq6 m c) fun (i : S32768x128.Idx) => by
    have hi0 : (i 0).val < 32768 := (i 0).isLt
    have hi1 : (i 1).val < 128 := (i 1).isLt
    have e65 : cfg0.N = 65 := N_0
    have hd : ∃ t : Fin cfg0.N, t.val ≠ 63 ∧ blkOf t.val = (i 0).val / 512 := by
      by_cases h63 : (i 0).val / 512 = 63
      · exact ⟨⟨64, by omega⟩, by show (64 : Nat) ≠ 63; omega, by rw [h63]; rfl⟩
      · exact ⟨⟨(i 0).val / 512, by omega⟩, h63, by show min ((i 0).val / 512) 63 = (i 0).val / 512; omega⟩
    obtain ⟨t, ht63, htb⟩ := hd
    refine ⟨t, (flush6 t).mpr ht63, ?_⟩
    have hb : win0_6.index t 0 = (i 0).val / 512 := by rw [idx6]; exact htb
    have hb1 : win0_6.index t 1 = 0 := by rw [idx6]; rfl
    show i ∈ ((View.whole main_v11_2).slice (win0_6.rect t)).set
    rw [View.set_slice_whole, Rect.mem_set_unit]
    intro a
    match a with
    | ⟨0, _⟩ =>
      show win0_6.index t 0 * 512 ≤ (i 0).val ∧ (i 0).val < win0_6.index t 0 * 512 + 512
      rw [hb]; omega
    | ⟨1, _⟩ =>
      show win0_6.index t 1 * 128 ≤ (i 1).val ∧ (i 1).val < win0_6.index t 1 * 128 + 128
      rw [hb1]; omega

/-- Where an element of point `t`'s block of window 7 sits in the array. -/
theorem emb7 (t : Fin cfg0.N) (r : Fin 512) (n : Fin 512) :
    (((cfg0.win 7).blk t).view.emb (ix2 r n : S512x512.Idx) : S32768x512.Idx) = ix2 ⟨blkOf t.val * 512 + r.val, blk_lt _ r⟩ n := by
  refine funext fun a => Fin.ext ?_
  match a with
  | ⟨0, _⟩ => show win0_7.index t 0 * 512 + 1 * r.val = blkOf t.val * 512 + r.val; rw [idx7]; show blkOf t.val * 512 + 1 * r.val = _; omega
  | ⟨1, _⟩ => show win0_7.index t 1 * 512 + 1 * n.val = n.val; rw [idx7]; show 0 * 512 + 1 * n.val = _; omega

/-- What a flushing point writes back is its block of the result. -/
theorem flushed_eq7 (c : Dev nD) (t : Fin cfg0.N) (hf : (cfg0.win 7).flush t = true) :
    (dats m 0 c).flushed 7 t = ((cfg0.win 7).blk t).view.read (Elt Ideal) (G7 m c) := by
  rw [Cert.Kernel3Ideal.Value.flushed7]
  refine funext fun (y : S512x512.Idx) => ?_
  obtain ⟨r, n, rfl⟩ : ∃ (r : Fin 512) (n : Fin 512), y = ix2 r n := ⟨y 0, y 1, by funext k; fin_cases k <;> rfl⟩
  rw [View.read_apply]
  refine Eq.trans (left7 m c t r n) ?_
  exact ((cast_eq _ _).trans (congrArg (G7 m c : S32768x512.Idx → EReal) (emb7 t r n))).symm

/-- The result array of window 7 after the run. -/
theorem final7 (c : Dev nD) : (dats m 0 c).arrAt 7 cfg0.N = G7 m c :=
  (dats m 0 c).arrAt_eq_of_cover 7 (G7 m c) (flushed_eq7 m c) fun (i : S32768x512.Idx) => by
    have hi0 : (i 0).val < 32768 := (i 0).isLt
    have hi1 : (i 1).val < 512 := (i 1).isLt
    have e65 : cfg0.N = 65 := N_0
    have hd : ∃ t : Fin cfg0.N, t.val ≠ 63 ∧ blkOf t.val = (i 0).val / 512 := by
      by_cases h63 : (i 0).val / 512 = 63
      · exact ⟨⟨64, by omega⟩, by show (64 : Nat) ≠ 63; omega, by rw [h63]; rfl⟩
      · exact ⟨⟨(i 0).val / 512, by omega⟩, h63, by show min ((i 0).val / 512) 63 = (i 0).val / 512; omega⟩
    obtain ⟨t, ht63, htb⟩ := hd
    refine ⟨t, (flush7 t).mpr ht63, ?_⟩
    have hb : win0_7.index t 0 = (i 0).val / 512 := by rw [idx7]; exact htb
    have hb1 : win0_7.index t 1 = 0 := by rw [idx7]; rfl
    show i ∈ ((View.whole main_v11_3).slice (win0_7.rect t)).set
    rw [View.set_slice_whole, Rect.mem_set_unit]
    intro a
    match a with
    | ⟨0, _⟩ =>
      show win0_7.index t 0 * 512 ≤ (i 0).val ∧ (i 0).val < win0_7.index t 0 * 512 + 512
      rw [hb]; omega
    | ⟨1, _⟩ =>
      show win0_7.index t 1 * 512 ≤ (i 1).val ∧ (i 1).val < win0_7.index t 1 * 512 + 512
      rw [hb1]; omega

/-- Where an element of point `t`'s block of window 8 sits in the array. -/
theorem emb8 (t : Fin cfg0.N) (r : Fin 512) (n : Fin 512) :
    (((cfg0.win 8).blk t).view.emb (ix2 r n : S512x512.Idx) : S32768x512.Idx) = ix2 ⟨blkOf t.val * 512 + r.val, blk_lt _ r⟩ n := by
  refine funext fun a => Fin.ext ?_
  match a with
  | ⟨0, _⟩ => show win0_8.index t 0 * 512 + 1 * r.val = blkOf t.val * 512 + r.val; rw [idx8]; show blkOf t.val * 512 + 1 * r.val = _; omega
  | ⟨1, _⟩ => show win0_8.index t 1 * 512 + 1 * n.val = n.val; rw [idx8]; show 0 * 512 + 1 * n.val = _; omega

/-- What a flushing point writes back is its block of the result. -/
theorem flushed_eq8 (c : Dev nD) (t : Fin cfg0.N) (hf : (cfg0.win 8).flush t = true) :
    (dats m 0 c).flushed 8 t = ((cfg0.win 8).blk t).view.read (Elt Ideal) (G8 m c) := by
  rw [Cert.Kernel3Ideal.Value.flushed8]
  refine funext fun (y : S512x512.Idx) => ?_
  obtain ⟨r, n, rfl⟩ : ∃ (r : Fin 512) (n : Fin 512), y = ix2 r n := ⟨y 0, y 1, by funext k; fin_cases k <;> rfl⟩
  rw [View.read_apply]
  refine Eq.trans (left8 m c t r n) ?_
  exact ((cast_eq _ _).trans (congrArg (G8 m c : S32768x512.Idx → EReal) (emb8 t r n))).symm

/-- The result array of window 8 after the run. -/
theorem final8 (c : Dev nD) : (dats m 0 c).arrAt 8 cfg0.N = G8 m c :=
  (dats m 0 c).arrAt_eq_of_cover 8 (G8 m c) (flushed_eq8 m c) fun (i : S32768x512.Idx) => by
    have hi0 : (i 0).val < 32768 := (i 0).isLt
    have hi1 : (i 1).val < 512 := (i 1).isLt
    have e65 : cfg0.N = 65 := N_0
    have hd : ∃ t : Fin cfg0.N, t.val ≠ 63 ∧ blkOf t.val = (i 0).val / 512 := by
      by_cases h63 : (i 0).val / 512 = 63
      · exact ⟨⟨64, by omega⟩, by show (64 : Nat) ≠ 63; omega, by rw [h63]; rfl⟩
      · exact ⟨⟨(i 0).val / 512, by omega⟩, h63, by show min ((i 0).val / 512) 63 = (i 0).val / 512; omega⟩
    obtain ⟨t, ht63, htb⟩ := hd
    refine ⟨t, (flush8 t).mpr ht63, ?_⟩
    have hb : win0_8.index t 0 = (i 0).val / 512 := by rw [idx8]; exact htb
    have hb1 : win0_8.index t 1 = 0 := by rw [idx8]; rfl
    show i ∈ ((View.whole main_v11_4).slice (win0_8.rect t)).set
    rw [View.set_slice_whole, Rect.mem_set_unit]
    intro a
    match a with
    | ⟨0, _⟩ =>
      show win0_8.index t 0 * 512 ≤ (i 0).val ∧ (i 0).val < win0_8.index t 0 * 512 + 512
      rw [hb]; omega
    | ⟨1, _⟩ =>
      show win0_8.index t 1 * 512 ≤ (i 1).val ∧ (i 1).val < win0_8.index t 1 * 512 + 512
      rw [hb1]; omega

/-- Where an element of point `t`'s block of window 9 sits in the array. -/
theorem emb9 (t : Fin cfg0.N) (r : Fin 512) (n : Fin 512) :
    (((cfg0.win 9).blk t).view.emb (ix2 r n : S512x512.Idx) : S32768x512.Idx) = ix2 ⟨blkOf t.val * 512 + r.val, blk_lt _ r⟩ n := by
  refine funext fun a => Fin.ext ?_
  match a with
  | ⟨0, _⟩ => show win0_9.index t 0 * 512 + 1 * r.val = blkOf t.val * 512 + r.val; rw [idx9]; show blkOf t.val * 512 + 1 * r.val = _; omega
  | ⟨1, _⟩ => show win0_9.index t 1 * 512 + 1 * n.val = n.val; rw [idx9]; show 0 * 512 + 1 * n.val = _; omega

/-- What a flushing point writes back is its block of the result. -/
theorem flushed_eq9 (c : Dev nD) (t : Fin cfg0.N) (hf : (cfg0.win 9).flush t = true) :
    (dats m 0 c).flushed 9 t = ((cfg0.win 9).blk t).view.read (Elt Ideal) (G9 m c) := by
  rw [Cert.Kernel3Ideal.Value.flushed9]
  refine funext fun (y : S512x512.Idx) => ?_
  obtain ⟨r, n, rfl⟩ : ∃ (r : Fin 512) (n : Fin 512), y = ix2 r n := ⟨y 0, y 1, by funext k; fin_cases k <;> rfl⟩
  rw [View.read_apply]
  refine Eq.trans (left9 m c t r n) ?_
  exact ((cast_eq _ _).trans (congrArg (G9 m c : S32768x512.Idx → EReal) (emb9 t r n))).symm

/-- The result array of window 9 after the run. -/
theorem final9 (c : Dev nD) : (dats m 0 c).arrAt 9 cfg0.N = G9 m c :=
  (dats m 0 c).arrAt_eq_of_cover 9 (G9 m c) (flushed_eq9 m c) fun (i : S32768x512.Idx) => by
    have hi0 : (i 0).val < 32768 := (i 0).isLt
    have hi1 : (i 1).val < 512 := (i 1).isLt
    have e65 : cfg0.N = 65 := N_0
    have hd : ∃ t : Fin cfg0.N, t.val ≠ 63 ∧ blkOf t.val = (i 0).val / 512 := by
      by_cases h63 : (i 0).val / 512 = 63
      · exact ⟨⟨64, by omega⟩, by show (64 : Nat) ≠ 63; omega, by rw [h63]; rfl⟩
      · exact ⟨⟨(i 0).val / 512, by omega⟩, h63, by show min ((i 0).val / 512) 63 = (i 0).val / 512; omega⟩
    obtain ⟨t, ht63, htb⟩ := hd
    refine ⟨t, (flush9 t).mpr ht63, ?_⟩
    have hb : win0_9.index t 0 = (i 0).val / 512 := by rw [idx9]; exact htb
    have hb1 : win0_9.index t 1 = 0 := by rw [idx9]; rfl
    show i ∈ ((View.whole main_v11_5).slice (win0_9.rect t)).set
    rw [View.set_slice_whole, Rect.mem_set_unit]
    intro a
    match a with
    | ⟨0, _⟩ =>
      show win0_9.index t 0 * 512 ≤ (i 0).val ∧ (i 0).val < win0_9.index t 0 * 512 + 512
      rw [hb]; omega
    | ⟨1, _⟩ =>
      show win0_9.index t 1 * 512 ≤ (i 1).val ∧ (i 1).val < win0_9.index t 1 * 512 + 512
      rw [hb1]; omega

end Cert.Proof.Inproj

end
-- ==== Proof.InprojRef.lean ====
/-
  The input projection's reference, read at a row and a column, and the equation of the six result arrays.
-/
module

public import proofs.«01_k».proof.Defs
public import proofs.«01_k».proof.Proof.FfnSpec
public import proofs.«01_k».proof.Proof.InprojBlock
public import proofs.«01_k».proof.Proof.Gen.Reference3Ideal.Read
public import proofs.«01_k».proof.Proof.Gen.Kernel3.Frame
public import Idealize.ShloMosaic.Lib.KernelVsHost
public import Idealize.ShloMosaic.Lib.Pointwise
public import Idealize.ShloMosaic.Lib.Quiescent
public import Idealize.ShloMosaic.Lib.StableHlo.Run

@[expose] public section

noncomputable section

namespace Cert.Proof.InprojRef

open Cert.Reference3Ideal Cert.Reference3Ideal.Gen Cert.Reference3Ideal.Read Idealize.ShloMosaic Idealize.ShloMosaic.TcCoe Cert.Proof.Ffn Cert.Proof.Inproj

abbrev X := (⟨S8x4096x1024, .f32⟩ : BufTy).Contents (Elt Ideal)
abbrev N := (⟨S1x1024, .f32⟩ : BufTy).Contents (Elt Ideal)
abbrev W := (⟨S1x1024x3592, .f32⟩ : BufTy).Contents (Elt Ideal)
abbrev C := (⟨S1x4x1536, .f32⟩ : BufTy).Contents (Elt Ideal)

/-- The projection of token `s` of sequence `b`, column `q`. -/
def R (x0 : X) (x1 : N) (x2 : W) (b : Fin 8) (s : Fin 4096) (q : Fin 3592) : EReal :=
  ∑ k : Fin 1024, rms (fun j => x0 (ix3 b s j)) (fun j => x1 (ix2 0 j)) k * x2 (ix3 0 k q)

/-- The reference's normalised row. -/
theorem v13_apply (x0 : X) (x1 : N) (b : Fin 8) (s : Fin 4096) (k : Fin 1024) :
    val_main_v13 (F := Ideal) x0 x1 (ix3 b s k) = rms (fun j => x0 (ix3 b s j)) (fun j => x1 (ix2 0 j)) k := by
  unfold val_main_v13 val_main_v12 val_main_v11 val_main_v10 val_main_v9 val_main_v8 val_main_v7 val_main_v6 val_main_cst_1
    val_main_v5 val_main_v4 val_main_cst_0 val_main_v3 val_main_v2 val_main_cst val_main_v1 val_main_v0
  unfold rms
  pointwise

/-- The reference's projection. -/
theorem v15_apply (x0 : X) (x1 : N) (x2 : W) (b : Fin 8) (s : Fin 4096) (q : Fin 3592) :
    val_main_v15 (F := Ideal) x0 x1 x2 (ix3 b s q) = R x0 x1 x2 b s q := by
  unfold R
  simp only [← v13_apply x0 x1 b s]
  unfold val_main_v15 val_main_v14
  generalize val_main_v13 (F := Ideal) x0 x1 = h
  pointwise [dot_S8x4096x1024_S1024x3592_S8x4096x3592_2_0_01_1_n_n]

/-- The columns the convolution takes. -/
theorem v16_apply (x0 : X) (x1 : N) (x2 : W) (b : Fin 8) (s : Fin 4096) (n : Fin 1536) :
    val_main_v16 (F := Ideal) x0 x1 x2 (ix3 b s n) = R x0 x1 x2 b s ⟨n.val, by omega⟩ := by
  rw [← v15_apply]
  unfold val_main_v16
  generalize val_main_v15 (F := Ideal) x0 x1 x2 = h
  pointwise

/-- The padding value of the convolution's operand is zero. -/
theorem pad0 (i : S_.Idx) : val_main_call0_v0 (F := Ideal) i = 0 := by
  unfold val_main_call0_v0 val_main_c
  show (((0#32 : BitVec 32).toInt : ℝ) : EReal) = 0
  simp
theorem pad2 (i : S_.Idx) : val_main_call2_v0 (F := Ideal) i = 0 := by
  unfold val_main_call2_v0 val_main_c_3
  show (((0#32 : BitVec 32).toInt : ℝ) : EReal) = 0
  simp

/-- The padded columns, past the padding. -/
theorem v18_in (x0 : X) (x1 : N) (x2 : W) (b : Fin 8) (s : Fin 4096) (n : Fin 1536) :
    val_main_v18 (F := Ideal) x0 x1 x2 (ix3 b ⟨3 + s.val, by omega⟩ n) = R x0 x1 x2 b s ⟨n.val, by omega⟩ := by
  rw [← v16_apply]
  unfold val_main_v18
  exact pad_apply_of_inside (s := S8x4096x1536) _ _ _ _ _ _ _ _ (ix3 b s n) fun a => by
    match a with
    | ⟨0, _⟩ => show b.val = 0 + b.val * (0 + 1); omega
    | ⟨1, _⟩ => show 3 + s.val = 3 + s.val * (0 + 1); omega
    | ⟨2, _⟩ => show n.val = 0 + n.val * (0 + 1); omega

/-- The padded columns, in the padding. -/
theorem v18_out (x0 : X) (x1 : N) (x2 : W) (b : Fin 8) (s : Fin 4099) (hs : s.val < 3) (n : Fin 1536) :
    val_main_v18 (F := Ideal) x0 x1 x2 (ix3 b s n) = 0 := by
  rw [← pad0 (Shape.Idx.first h_S_)]
  unfold val_main_v18
  exact pad_apply_of_not_inside (s := S8x4096x1536) _ _ _ _ _ _ _ _ 1 (fun h => by
    have h1 : 3 ≤ s.val := h.1
    omega)

/-- The row `j` above token `s`, zero before the sequence. -/
def back (x0 : X) (x1 : N) (x2 : W) (j : Nat) (b : Fin 8) (s : Fin 4096) (n : Fin 1536) : EReal :=
  if j ≤ s.val then R x0 x1 x2 b ⟨s.val - j, by omega⟩ ⟨n.val, by omega⟩ else 0

theorem v18_back (x0 : X) (x1 : N) (x2 : W) (j : Nat) (hj : j ≤ 3) (b : Fin 8) (s : Fin 4096) (n : Fin 1536) :
    val_main_v18 (F := Ideal) x0 x1 x2 (ix3 b ⟨3 - j + s.val, by omega⟩ n) = back x0 x1 x2 j b s n := by
  unfold back
  by_cases h : j ≤ s.val
  · rw [if_pos h, ← v18_in]
    congr 2
    apply Fin.ext
    show 3 - j + s.val = 3 + (s.val - j)
    omega
  · rw [if_neg h]
    exact v18_out _ _ _ b _ (by show 3 - j + s.val < 3; omega) n

theorem v19_apply (x0 : X) (x1 : N) (x2 : W) (b : Fin 8) (s : Fin 4096) (n : Fin 1536) :
    val_main_v19 (F := Ideal) x0 x1 x2 (ix3 b s n) = back x0 x1 x2 3 b s n := by
  rw [← v18_back x0 x1 x2 3 (by omega)]
  unfold val_main_v19
  generalize val_main_v18 (F := Ideal) x0 x1 x2 = h
  pointwise

theorem v27_apply (x0 : X) (x1 : N) (x2 : W) (b : Fin 8) (s : Fin 4096) (n : Fin 1536) :
    val_main_v27 (F := Ideal) x0 x1 x2 (ix3 b s n) = back x0 x1 x2 2 b s n := by
  rw [← v18_back x0 x1 x2 2 (by omega)]
  unfold val_main_v27
  generalize val_main_v18 (F := Ideal) x0 x1 x2 = h
  pointwise

theorem v34_apply (x0 : X) (x1 : N) (x2 : W) (b : Fin 8) (s : Fin 4096) (n : Fin 1536) :
    val_main_v34 (F := Ideal) x0 x1 x2 (ix3 b s n) = back x0 x1 x2 1 b s n := by
  rw [← v18_back x0 x1 x2 1 (by omega)]
  unfold val_main_v34
  generalize val_main_v18 (F := Ideal) x0 x1 x2 = h
  pointwise

theorem v41_apply (x0 : X) (x1 : N) (x2 : W) (b : Fin 8) (s : Fin 4096) (n : Fin 1536) :
    val_main_v41 (F := Ideal) x0 x1 x2 (ix3 b s n) = back x0 x1 x2 0 b s n := by
  rw [← v18_back x0 x1 x2 0 (by omega)]
  unfold val_main_v41
  generalize val_main_v18 (F := Ideal) x0 x1 x2 = h
  pointwise

theorem v23_apply (x3 : C) (b : Fin 8) (s : Fin 4096) (n : Fin 1536) :
    val_main_v23 (F := Ideal) x3 (ix3 b s n) = x3 (ix3 0 0 n) := by
  unfold val_main_v23 val_main_v22 val_main_v21 val_main_v20 val_main_v17
  pointwise

theorem v31_apply (x3 : C) (b : Fin 8) (s : Fin 4096) (n : Fin 1536) :
    val_main_v31 (F := Ideal) x3 (ix3 b s n) = x3 (ix3 0 1 n) := by
  unfold val_main_v31 val_main_v30 val_main_v29 val_main_v28 val_main_v17
  pointwise

theorem v38_apply (x3 : C) (b : Fin 8) (s : Fin 4096) (n : Fin 1536) :
    val_main_v38 (F := Ideal) x3 (ix3 b s n) = x3 (ix3 0 2 n) := by
  unfold val_main_v38 val_main_v37 val_main_v36 val_main_v35 val_main_v17
  pointwise

theorem v45_apply (x3 : C) (b : Fin 8) (s : Fin 4096) (n : Fin 1536) :
    val_main_v45 (F := Ideal) x3 (ix3 b s n) = x3 (ix3 0 3 n) := by
  unfold val_main_v45 val_main_v44 val_main_v43 val_main_v42 val_main_v17
  pointwise

/-- The four taps. -/
theorem v47_apply (x0 : X) (x1 : N) (x2 : W) (x3 : C) (b : Fin 8) (s : Fin 4096) (n : Fin 1536) :
    val_main_v47 (F := Ideal) x0 x1 x2 x3 (ix3 b s n)
      = conv4 (back x0 x1 x2 3 b s n) (back x0 x1 x2 2 b s n) (back x0 x1 x2 1 b s n) (back x0 x1 x2 0 b s n)
          (x3 (ix3 0 0 n)) (x3 (ix3 0 1 n)) (x3 (ix3 0 2 n)) (x3 (ix3 0 3 n)) := by
  rw [← v19_apply, ← v27_apply, ← v34_apply, ← v41_apply, ← v23_apply x3 b s n, ← v31_apply x3 b s n, ← v38_apply x3 b s n, ← v45_apply x3 b s n]
  unfold val_main_v47 val_main_v46 val_main_v40 val_main_v39 val_main_v33 val_main_v32 val_main_v26 val_main_v25 val_main_cst_2 val_main_v24 conv4
  generalize val_main_v19 (F := Ideal) x0 x1 x2 = a0
  generalize val_main_v27 (F := Ideal) x0 x1 x2 = a1
  generalize val_main_v34 (F := Ideal) x0 x1 x2 = a2
  generalize val_main_v41 (F := Ideal) x0 x1 x2 = a3
  generalize val_main_v23 (F := Ideal) x3 = w0
  generalize val_main_v31 (F := Ideal) x3 = w1
  generalize val_main_v38 (F := Ideal) x3 = w2
  generalize val_main_v45 (F := Ideal) x3 = w3
  pointwise

/-- The convolved columns, through SiLU. -/
theorem v48_apply (x0 : X) (x1 : N) (x2 : W) (x3 : C) (i : S8x4096x1536.Idx) :
    val_main_v48 (F := Ideal) x0 x1 x2 x3 i = silu (val_main_v47 (F := Ideal) x0 x1 x2 x3 i) := by
  unfold val_main_v48 val_main_call1_v5 val_main_call1_v4 val_main_call1_cst_0 val_main_call1_v3 val_main_call1_v2 val_main_call1_cst
    val_main_call1_v1 val_main_call1_v0
  generalize val_main_v47 (F := Ideal) x0 x1 x2 x3 = h
  unfold silu Ideal.logistic
  pointwise

/-- The sequence and the position of row `r`. -/
abbrev sq (r : Fin 32768) : Fin 8 := ⟨r.val / 4096, by omega⟩
abbrev ps (r : Fin 32768) : Fin 4096 := ⟨r.val % 4096, Nat.mod_lt _ (by decide)⟩

theorem cast1536 (y : S8x4096x1536.Idx → EReal) (r : Fin 32768) (n : Fin 1536) :
    shapeCast S32768x1536 y shapeCasts_S8x4096x1536_S32768x1536 (ix2 r n) = y (ix3 (sq r) (ps r) n) :=
  shapeCast_apply y shapeCasts_S8x4096x1536_S32768x1536 _ _ (by
    rewrite [Shape.rowMajor_val_three, Shape.rowMajor_val_two]
    show (r.val / 4096 * 4096 + r.val % 4096) * 1536 + n.val = r.val * 1536 + n.val
    omega)

theorem cast512 (y : S8x4096x512.Idx → EReal) (r : Fin 32768) (n : Fin 512) :
    shapeCast S32768x512 y shapeCasts_S8x4096x512_S32768x512 (ix2 r n) = y (ix3 (sq r) (ps r) n) :=
  shapeCast_apply y shapeCasts_S8x4096x512_S32768x512 _ _ (by
    rewrite [Shape.rowMajor_val_three, Shape.rowMajor_val_two]
    show (r.val / 4096 * 4096 + r.val % 4096) * 512 + n.val = r.val * 512 + n.val
    omega)

theorem cast128 (y : S8x4096x128.Idx → EReal) (r : Fin 32768) (n : Fin 128) :
    shapeCast S32768x128 y shapeCasts_S8x4096x128_S32768x128 (ix2 r n) = y (ix3 (sq r) (ps r) n) :=
  shapeCast_apply y shapeCasts_S8x4096x128_S32768x128 _ _ (by
    rewrite [Shape.rowMajor_val_three, Shape.rowMajor_val_two]
    show (r.val / 4096 * 4096 + r.val % 4096) * 128 + n.val = r.val * 128 + n.val
    omega)

/-- The reference's first result: the convolved and activated columns. -/
theorem v51_apply (x0 : X) (x1 : N) (x2 : W) (x3 : C) (r : Fin 32768) (n : Fin 1536) :
    val_main_v51 (F := Ideal) x0 x1 x2 x3 (ix2 r n)
      = silu (conv4 (back x0 x1 x2 3 (sq r) (ps r) n) (back x0 x1 x2 2 (sq r) (ps r) n) (back x0 x1 x2 1 (sq r) (ps r) n) (back x0 x1 x2 0 (sq r) (ps r) n)
          (x3 (ix3 0 0 n)) (x3 (ix3 0 1 n)) (x3 (ix3 0 2 n)) (x3 (ix3 0 3 n))) := by
  rw [← v47_apply, ← v48_apply]
  exact cast1536 _ r n

/-- Columns 1536 to 2048 of the projection. -/
theorem v53_apply (x0 : X) (x1 : N) (x2 : W) (r : Fin 32768) (n : Fin 512) :
    val_main_v53 (F := Ideal) x0 x1 x2 (ix2 r n) = R x0 x1 x2 (sq r) (ps r) ⟨1536 + n.val, by omega⟩ := by
  rw [← v15_apply]
  refine (cast512 _ r n).trans ?_
  unfold val_main_v52
  generalize val_main_v15 (F := Ideal) x0 x1 x2 = h
  pointwise

/-- Columns 2056 to 2568 of the projection. -/
theorem v56_apply (x0 : X) (x1 : N) (x2 : W) (r : Fin 32768) (n : Fin 512) :
    val_main_v56 (F := Ideal) x0 x1 x2 (ix2 r n) = R x0 x1 x2 (sq r) (ps r) ⟨2056 + n.val, by omega⟩ := by
  rw [← v15_apply]
  refine (cast512 _ r n).trans ?_
  unfold val_main_v55
  generalize val_main_v15 (F := Ideal) x0 x1 x2 = h
  pointwise

/-- Columns 2568 to 3080 of the projection. -/
theorem v58_apply (x0 : X) (x1 : N) (x2 : W) (r : Fin 32768) (n : Fin 512) :
    val_main_v58 (F := Ideal) x0 x1 x2 (ix2 r n) = R x0 x1 x2 (sq r) (ps r) ⟨2568 + n.val, by omega⟩ := by
  rw [← v15_apply]
  refine (cast512 _ r n).trans ?_
  unfold val_main_v57
  generalize val_main_v15 (F := Ideal) x0 x1 x2 = h
  pointwise

/-- Columns 3080 to 3592 of the projection. -/
theorem v61_apply (x0 : X) (x1 : N) (x2 : W) (r : Fin 32768) (n : Fin 512) :
    val_main_v61 (F := Ideal) x0 x1 x2 (ix2 r n) = R x0 x1 x2 (sq r) (ps r) ⟨3080 + n.val, by omega⟩ := by
  rw [← v15_apply]
  refine (cast512 _ r n).trans ?_
  show val_main_v59 (F := Ideal) x0 x1 x2 (ix3 (sq r) (ps r) n) = _
  unfold val_main_v59
  generalize val_main_v15 (F := Ideal) x0 x1 x2 = h
  pointwise

/-- The gates' columns, 8 of them padded with zeros to 128. -/
theorem v54_apply (x0 : X) (x1 : N) (x2 : W) (r : Fin 32768) (n : Fin 128) :
    val_main_v54 (F := Ideal) x0 x1 x2 (ix2 r n) = if n.val < 8 then R x0 x1 x2 (sq r) (ps r) ⟨2048 + n.val, by omega⟩ else 0 := by
  refine (cast128 _ r n).trans ?_
  unfold val_main_v50
  by_cases h : n.val < 8
  · rw [if_pos h, ← v15_apply]
    refine (pad_apply_of_inside (s := S8x4096x8) _ _ _ _ _ _ _ _ (ix3 (sq r) (ps r) (⟨n.val, h⟩ : Fin 8)) fun a => by
      match a with
      | ⟨0, _⟩ => show r.val / 4096 = 0 + r.val / 4096 * (0 + 1); omega
      | ⟨1, _⟩ => show r.val % 4096 = 0 + r.val % 4096 * (0 + 1); omega
      | ⟨2, _⟩ => show n.val = 0 + n.val * (0 + 1); omega).trans ?_
    unfold val_main_v49
    generalize val_main_v15 (F := Ideal) x0 x1 x2 = h
    pointwise
  · rw [if_neg h]
    refine (pad_apply_of_not_inside (s := S8x4096x8) _ _ _ _ _ _ _ _ 2 (fun h' => ?_)).trans (pad2 _)
    have h1 : (n.val - 0) / (0 + 1) < 8 := h'.2.2
    omega

end Cert.Proof.InprojRef

namespace Cert.Proof.Inproj

open Cert.Kernel3Ideal Cert.Kernel3Ideal.Gen Idealize.ShloMosaic Idealize.ShloMosaic.TcCoe Cert.Proof.Ffn Cert.Proof.InprojRef Idealize.SL.Sem

variable (m : (ℓ : Loc nD τ sig) → Buf (Elt Ideal) ℓ)

/-- The launched arguments, at the reference's types. -/
def a0 (c : Dev nD) : InprojRef.X := m ((c : Thread nD τ).loc main_arg0)
def a1 (c : Dev nD) : InprojRef.N := m ((c : Thread nD τ).loc main_arg1)
def a2 (c : Dev nD) : InprojRef.W := m ((c : Thread nD τ).loc main_arg2)
def a3 (c : Dev nD) : InprojRef.C := m ((c : Thread nD τ).loc main_arg3)

/-- What the region finds in its first operand: the launched activations, flattened to rows. -/
theorem V_v7 (c : Dev nD) (r : Fin 32768) (j : Fin 1024) : (V m c main_v7 : S32768x1024.Idx → EReal) (ix2 r j) = a0 m c (ix3 (sq r) (ps r) j) := by
  have h : (V m c main_v7 : S32768x1024.Idx → EReal) = shapeCast S32768x1024 (a0 m c) shapeCasts_S8x4096x1024_S32768x1024 := by
    unfold V hostOps0 hostOps0_1 hostOps0_2; after_results_simp; rfl
  rw [h]
  exact shapeCast_apply (a0 m c) shapeCasts_S8x4096x1024_S32768x1024 _ _ (by
    rewrite [Shape.rowMajor_val_three, Shape.rowMajor_val_two]
    show (r.val / 4096 * 4096 + r.val % 4096) * 1024 + j.val = r.val * 1024 + j.val
    omega)

/-- What the region finds in its norm weight. -/
theorem V_v9 (c : Dev nD) (k : Fin 1024) : (V m c main_v9 : S1x1024.Idx → EReal) (ix2 0 k) = a1 m c (ix2 0 k) := by
  have h : (V m c main_v9 : S1x1024.Idx → EReal)
      = broadcastInDim S1x1024 ![1] bcast_S1024_S1x1024_1 (shapeCast S1024 (a1 m c) shapeCasts_S1x1024_S1024) := by
    unfold V hostOps0 hostOps0_1 hostOps0_2; after_results_simp; rfl
  rw [h]
  pointwise

/-- What the region finds in its convolution weights. -/
theorem V_v10 (c : Dev nD) (k : Fin 4) (n : Fin 1536) : (V m c main_v10 : S4x1536.Idx → EReal) (ix2 k n) = a3 m c (ix3 0 k n) := by
  have h : (V m c main_v10 : S4x1536.Idx → EReal) = shapeCast S4x1536 (a3 m c) shapeCasts_S1x4x1536_S4x1536 := by
    unfold V hostOps0 hostOps0_1 hostOps0_2; after_results_simp; rfl
  rw [h]
  exact shapeCast_apply _ shapeCasts_S1x4x1536_S4x1536 (ix2 k n) (ix3 0 k n) (by
    rewrite [Shape.rowMajor_val_three, Shape.rowMajor_val_two]
    show (0 * 4 + k.val) * 1536 + n.val = k.val * 1536 + n.val
    omega)

/-- The launched weights as one matrix. -/
def w2 (c : Dev nD) : S1024x3592.Idx → EReal := shapeCast S1024x3592 (a2 m c) shapeCasts_S1x1024x3592_S1024x3592

theorem w2_apply (c : Dev nD) (k : Fin 1024) (q : Fin 3592) : w2 m c (ix2 k q) = a2 m c (ix3 0 k q) :=
  shapeCast_apply _ shapeCasts_S1x1024x3592_S1024x3592 (ix2 k q) (ix3 0 k q) (by
    rewrite [Shape.rowMajor_val_three, Shape.rowMajor_val_two]
    show (0 * 1024 + k.val) * 3592 + q.val = k.val * 3592 + q.val
    omega)

/-- The value the gates' columns are padded with. -/
def pv : S_.Idx → EReal := sitofp (F := Ideal) .f32 (constantI S_ 32 0#32)

theorem pv_apply (i : S_.Idx) : pv i = 0 := by
  unfold pv
  show (((0#32 : BitVec 32).toInt : ℝ) : EReal) = 0
  simp

/-- The gates' columns of the weights, padded to 128. -/
def wg (c : Dev nD) : S1024x128.Idx → EReal :=
  pad S1024x128 ![0, 0] ![0, 120] ![0, 0] (extractStridedSlice S1024x8 ![0, 2048] (w2 m c) slices_S1024x3592_S1024x8_0_2048) pv pads_S1024x8_S1024x128_000_01200 h_S_

theorem V_v6 (c : Dev nD) : (V m c main_v6 : S1024x3712.Idx → EReal)
    = concatenate S1024x3712 1 [⟨S1024x2048, extractStridedSlice S1024x2048 ![0, 0] (w2 m c) slices_S1024x3592_S1024x2048_0_0⟩, ⟨S1024x128, wg m c⟩,
        ⟨S1024x1536, extractStridedSlice S1024x1536 ![0, 2056] (w2 m c) slices_S1024x3592_S1024x1536_0_2056⟩] concatenates_S1024x2048_S1024x128_S1024x1536_S1024x3712_d1 := by
  unfold V hostOps0 hostOps0_1 hostOps0_2; after_results_simp; rfl

/-- Three pieces side by side, read in the first, the second and the third. -/
theorem cat_apply (x : S1024x2048.Idx → EReal) (y : S1024x128.Idx → EReal) (z : S1024x1536.Idx → EReal) (k : Fin 1024) (q : Fin 3712) :
    concatenate S1024x3712 1 [⟨S1024x2048, x⟩, ⟨S1024x128, y⟩, ⟨S1024x1536, z⟩] concatenates_S1024x2048_S1024x128_S1024x1536_S1024x3712_d1 (ix2 k q)
      = if h : q.val < 2048 then x (ix2 k ⟨q.val, h⟩) else if h' : q.val - 2048 < 128 then y (ix2 k ⟨q.val - 2048, h'⟩) else z (ix2 k ⟨q.val - 2048 - 128, by omega⟩) := by
  pointwise

/-- The gates' columns: 8 of the launched weights, then zeros. -/
theorem wg_in (c : Dev nD) (k : Fin 1024) (n : Fin 128) (h : n.val < 8) : wg m c (ix2 k n) = a2 m c (ix3 0 k ⟨2048 + n.val, by omega⟩) := by
  rw [← w2_apply]
  unfold wg
  refine (pad_apply_of_inside (s := S1024x8) _ _ _ _ _ _ _ _ (ix2 k (⟨n.val, h⟩ : Fin 8)) fun a => by
    match a with
    | ⟨0, _⟩ => show k.val = 0 + k.val * (0 + 1); omega
    | ⟨1, _⟩ => show n.val = 0 + n.val * (0 + 1); omega).trans ?_
  generalize w2 m c = w
  pointwise

theorem wg_out (c : Dev nD) (k : Fin 1024) (n : Fin 128) (h : ¬ n.val < 8) : wg m c (ix2 k n) = 0 := by
  unfold wg
  refine (pad_apply_of_not_inside (s := S1024x8) _ _ _ _ _ _ _ _ 1 (fun h' => ?_)).trans (pv_apply _)
  have h1 : (n.val - 0) / (0 + 1) < 8 := h'.2.2
  omega

/-- The region's weights, column by column. -/
theorem V_lo (c : Dev nD) (k : Fin 1024) (q : Fin 3712) (h : q.val < 2056) :
    (V m c main_v6 : S1024x3712.Idx → EReal) (ix2 k q) = a2 m c (ix3 0 k ⟨q.val, by omega⟩) := by
  rw [V_v6, cat_apply]
  by_cases h1 : q.val < 2048
  · rw [dif_pos h1, ← w2_apply]
    generalize w2 m c = w
    pointwise
  · rw [dif_neg h1, dif_pos (by omega : q.val - 2048 < 128), wg_in m c k _ (by show q.val - 2048 < 8; omega)]
    exact congrArg (fun z => a2 m c (ix3 0 k z)) (Fin.ext (by show 2048 + (q.val - 2048) = q.val; omega))
theorem V_mid (c : Dev nD) (k : Fin 1024) (q : Fin 3712) (h : 2056 ≤ q.val) (h' : q.val < 2176) :
    (V m c main_v6 : S1024x3712.Idx → EReal) (ix2 k q) = (0 : EReal) := by
  rw [V_v6, cat_apply, dif_neg (by omega), dif_pos (by omega : q.val - 2048 < 128), wg_out m c k _ (by show ¬ q.val - 2048 < 8; omega)]
theorem V_hi (c : Dev nD) (k : Fin 1024) (q : Fin 3712) (h : 2176 ≤ q.val) :
    (V m c main_v6 : S1024x3712.Idx → EReal) (ix2 k q) = a2 m c (ix3 0 k ⟨q.val - 120, by omega⟩) := by
  rw [V_v6, cat_apply, dif_neg (by omega), dif_neg (by omega), ← w2_apply]
  generalize w2 m c = w
  refine (show _ = w (ix2 k ⟨2056 + (q.val - 2048 - 128), by omega⟩) by pointwise).trans ?_
  exact congrArg (fun z => w (ix2 k z)) (Fin.ext (by show 2056 + (q.val - 2048 - 128) = q.val - 120; omega))

/-- The kernel's normalised row is the reference's. -/
theorem rms_eq (c : Dev nD) (r : Fin 32768) (k : Fin 1024) :
    rms (fun j => (V m c main_v7 : S32768x1024.Idx → EReal) (ix2 r j)) (fun j => (V m c main_v9 : S1x1024.Idx → EReal) (ix2 0 j)) k
      = rms (fun j => a0 m c (ix3 (sq r) (ps r) j)) (fun j => a1 m c (ix2 0 j)) k := by
  rw [show (fun j => (V m c main_v7 : S32768x1024.Idx → EReal) (ix2 r j)) = fun j => a0 m c (ix3 (sq r) (ps r) j) from funext fun j => V_v7 m c r j,
    show (fun j => (V m c main_v9 : S1x1024.Idx → EReal) (ix2 0 j)) = fun j => a1 m c (ix2 0 j) from funext fun j => V_v9 m c j]

theorem P_lo (c : Dev nD) (r : Fin 32768) (q : Fin 3712) (h : q.val < 2056) :
    P m c r q = R (a0 m c) (a1 m c) (a2 m c) (sq r) (ps r) ⟨q.val, by omega⟩ :=
  Finset.sum_congr rfl fun k _ => by rw [rms_eq, V_lo m c k q h]
theorem P_mid (c : Dev nD) (r : Fin 32768) (q : Fin 3712) (h : 2056 ≤ q.val) (h' : q.val < 2176) : P m c r q = 0 :=
  Finset.sum_eq_zero fun k _ => by rw [V_mid m c k q h h', mul_zero]
theorem P_hi (c : Dev nD) (r : Fin 32768) (q : Fin 3712) (h : 2176 ≤ q.val) :
    P m c r q = R (a0 m c) (a1 m c) (a2 m c) (sq r) (ps r) ⟨q.val - 120, by omega⟩ :=
  Finset.sum_congr rfl fun k _ => by rw [rms_eq, V_hi m c k q h]

theorem R_congr (x0 : InprojRef.X) (x1 : InprojRef.N) (x2 : InprojRef.W) {b b' : Fin 8} {s s' : Fin 4096} {q q' : Fin 3592}
    (hb : b.val = b'.val) (hs : s.val = s'.val) (hq : q.val = q'.val) : R x0 x1 x2 b s q = R x0 x1 x2 b' s' q' := by
  rw [Fin.ext hb, Fin.ext hs, Fin.ext hq]

theorem lag_eq (c : Dev nD) (j : Nat) (r : Fin 32768) (n : Fin 1536) :
    lag m c j r n = back (a0 m c) (a1 m c) (a2 m c) j (sq r) (ps r) n := by
  unfold lag back
  by_cases h : j ≤ r.val % 4096
  · rw [if_pos h, if_pos h, P_lo m c _ _ (by show n.val < 2056; omega)]
    exact R_congr _ _ _ (by show (r.val - j) / 4096 = r.val / 4096; omega) (by show (r.val - j) % 4096 = r.val % 4096 - j; omega) rfl
  · rw [if_neg h, if_neg h]

theorem ix2_eta {p q : Nat} (i : (⟨2, ![p, q]⟩ : Shape).Idx) : ∃ (r : Fin p) (n : Fin q), i = ix2 r n :=
  ⟨i 0, i 1, by funext k; fin_cases k <;> rfl⟩

theorem G4_apply (c : Dev nD) (r : Fin 32768) (n : Fin 1536) : (G4 m c : S32768x1536.Idx → EReal) (ix2 r n)
    = silu (conv4 (lag m c 3 r n) (lag m c 2 r n) (lag m c 1 r n) (lag m c 0 r n)
    ((V m c main_v10 : S4x1536.Idx → EReal) (ix2 0 n)) ((V m c main_v10 : S4x1536.Idx → EReal) (ix2 1 n))
    ((V m c main_v10 : S4x1536.Idx → EReal) (ix2 2 n)) ((V m c main_v10 : S4x1536.Idx → EReal) (ix2 3 n))) := rfl

theorem G4_eq (c : Dev nD) : (G4 m c : S32768x1536.Idx → EReal)
    = Cert.Reference3Ideal.Read.val_main_v51 (F := Ideal) (a0 m c) (a1 m c) (a2 m c) (a3 m c) := by
  funext i
  obtain ⟨r, n, rfl⟩ := ix2_eta i
  rw [G4_apply, V_v10, V_v10, V_v10, V_v10, lag_eq, lag_eq, lag_eq, lag_eq]
  exact (v51_apply (a0 m c) (a1 m c) (a2 m c) (a3 m c) r n).symm

theorem G6_apply (c : Dev nD) (r : Fin 32768) (n : Fin 128) : (G6 m c : S32768x128.Idx → EReal) (ix2 r n) = P m c r ⟨2048 + n.val, by omega⟩ := rfl

theorem G6_eq (c : Dev nD) : (G6 m c : S32768x128.Idx → EReal)
    = Cert.Reference3Ideal.Read.val_main_v54 (F := Ideal) (a0 m c) (a1 m c) (a2 m c) := by
  funext i
  obtain ⟨r, n, rfl⟩ := ix2_eta i
  refine Eq.trans ?_ (v54_apply (a0 m c) (a1 m c) (a2 m c) r n).symm
  rw [G6_apply]
  by_cases h : n.val < 8
  · rw [if_pos h, P_lo m c _ _ (by show 2048 + n.val < 2056; omega)]
  · rw [if_neg h, P_mid m c _ _ (by show 2056 ≤ 2048 + n.val; omega) (by show 2048 + n.val < 2176; omega)]

theorem G5_apply (c : Dev nD) (r : Fin 32768) (n : Fin 512) : (G5 m c : S32768x512.Idx → EReal) (ix2 r n) = P m c r ⟨1536 + n.val, by omega⟩ := rfl

theorem G5_eq (c : Dev nD) : (G5 m c : S32768x512.Idx → EReal)
    = Cert.Reference3Ideal.Read.val_main_v53 (F := Ideal) (a0 m c) (a1 m c) (a2 m c) := by
  funext i
  obtain ⟨r, n, rfl⟩ := ix2_eta i
  refine Eq.trans ?_ (v53_apply (a0 m c) (a1 m c) (a2 m c) r n).symm
  rw [G5_apply, P_lo m c _ _ (by show 1536 + n.val < 2056; omega)]

theorem G7_apply (c : Dev nD) (r : Fin 32768) (n : Fin 512) : (G7 m c : S32768x512.Idx → EReal) (ix2 r n) = P m c r ⟨2176 + n.val, by omega⟩ := rfl

theorem G7_eq (c : Dev nD) : (G7 m c : S32768x512.Idx → EReal)
    = Cert.Reference3Ideal.Read.val_main_v56 (F := Ideal) (a0 m c) (a1 m c) (a2 m c) := by
  funext i
  obtain ⟨r, n, rfl⟩ := ix2_eta i
  refine Eq.trans ?_ (v56_apply (a0 m c) (a1 m c) (a2 m c) r n).symm
  rw [G7_apply, P_hi m c _ _ (by show 2176 ≤ 2176 + n.val; omega)]
  exact R_congr _ _ _ rfl rfl (by show 2176 + n.val - 120 = 2056 + n.val; omega)

theorem G8_apply (c : Dev nD) (r : Fin 32768) (n : Fin 512) : (G8 m c : S32768x512.Idx → EReal) (ix2 r n) = P m c r ⟨2688 + n.val, by omega⟩ := rfl

theorem G8_eq (c : Dev nD) : (G8 m c : S32768x512.Idx → EReal)
    = Cert.Reference3Ideal.Read.val_main_v58 (F := Ideal) (a0 m c) (a1 m c) (a2 m c) := by
  funext i
  obtain ⟨r, n, rfl⟩ := ix2_eta i
  refine Eq.trans ?_ (v58_apply (a0 m c) (a1 m c) (a2 m c) r n).symm
  rw [G8_apply, P_hi m c _ _ (by show 2176 ≤ 2688 + n.val; omega)]
  exact R_congr _ _ _ rfl rfl (by show 2688 + n.val - 120 = 2568 + n.val; omega)

theorem G9_apply (c : Dev nD) (r : Fin 32768) (n : Fin 512) : (G9 m c : S32768x512.Idx → EReal) (ix2 r n) = P m c r ⟨3200 + n.val, by omega⟩ := rfl

theorem G9_eq (c : Dev nD) : (G9 m c : S32768x512.Idx → EReal)
    = Cert.Reference3Ideal.Read.val_main_v61 (F := Ideal) (a0 m c) (a1 m c) (a2 m c) := by
  funext i
  obtain ⟨r, n, rfl⟩ := ix2_eta i
  refine Eq.trans ?_ (v61_apply (a0 m c) (a1 m c) (a2 m c) r n).symm
  rw [G9_apply, P_hi m c _ _ (by show 2176 ≤ 3200 + n.val; omega)]
  exact R_congr _ _ _ rfl rfl (by show 3200 + n.val - 120 = 3080 + n.val; omega)

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2.2.2.2.2.2,
      Idealize.ShloMosaic.sem_eq_zero_of_no_sems (by decide) r.2⟩)
    (Cert.Reference3Ideal.Value.run (F := Ideal) m ρ)

/-- `algebraic`: the input projection and its reference leave equal results, all six of them, from equal arguments. -/
theorem algebraic : Cert.algebraic_Kernel3Ideal_Reference3Ideal := by
  intro m ρ m' ρ' _ hagree
  refine ⟨fun c => G4 m c, fun c => G5 m c, fun c => G6 m c, fun c => G7 m c, fun c => G8 m c, fun c => G9 m c, ?_, ?_⟩
  · exact (θ_run Cert.Kernel3Ideal.defs _ _).mono (fun _ h c => ⟨(h c).1.trans (final4 m c), (h c).2.1.trans (final5 m c),
        (h c).2.2.1.trans (final6 m c), (h c).2.2.2.1.trans (final7 m c), (h c).2.2.2.2.1.trans (final8 m c),
        (h c).2.2.2.2.2.1.trans (final9 m c), (h c).2.2.2.2.2.2⟩)
      (Cert.Kernel3Ideal.Value.run_blocks (F := Ideal) m ρ)
  · refine (θ_run Cert.Reference3Ideal.defs _ _).mono (fun _ h c => ⟨(h c).1.trans ?_, (h c).2.1.trans ?_, (h c).2.2.1.trans ?_,
        (h c).2.2.2.1.trans ?_, (h c).2.2.2.2.1.trans ?_, (h c).2.2.2.2.2.1.trans ?_, (h c).2.2.2.2.2.2⟩)
      (Cert.Reference3Ideal.Value.run (F := Ideal) m' ρ')
    all_goals obtain ⟨e0, e1, e2, e3⟩ := hagree c
    · rw [Cert.Reference3Ideal.Read.val_main_v51_eq, e0, e1, e2, e3]
      exact (G4_eq m c).symm
    · rw [e0, e1, e2]
      exact (G5_eq m c).symm
    · rw [e0, e1, e2]
      exact (G6_eq m c).symm
    · rw [e0, e1, e2]
      exact (G7_eq m c).symm
    · rw [e0, e1, e2]
      exact (G8_eq m c).symm
    · rw [e0, e1, e2]
      exact (G9_eq m c).symm

end Cert.Proof.Inproj

end
-- ==== Proof.Keeps.lean ====
/- Programs that keep an assertion: a run starting with it held ends with it held, whatever is loaded and stored in
   between. The assertions of interest hold buffers at contents that are not named. -/
module

public import Idealize.ShloMosaic.Lib.Tactic
public import Idealize.ShloMosaic.Lib.Scf
public import Idealize.ShloMosaic.Lib.Memref
public import Idealize.ShloMosaic.Lib.Pipeline.Kit

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Rounds

variable {nD : Nat} {τ : Topo} {sig : RefSig} {Val : EltTy → Type} {Λ : Labels}

local notation "𝕄" => MT nD τ sig Unit Val ℕ (UR sig nD τ) ℕ

/-- The core holds the memref's elements, at contents that are not named. -/
def anyAt (c : Thread nD τ) {sp : Space} {s : Shape} {e : EltTy} (m : Memref sig c.2.kind sp s e) : sProp 𝕄 :=
  iprop(∃ f, (m.view.loc c ↦[m.view.set]{fullShare} f))

/-- `P` lends the memref: it gives the memref's elements and takes them back at any contents. -/
def Lends (P : sProp 𝕄) (c : Thread nD τ) {sp : Space} {s : Shape} {e : EltTy} (m : Memref sig c.2.kind sp s e) : Prop :=
  P ⊢ iprop(anyAt c m ∗ (anyAt c m -∗ P))

/-- The first of several assertions held together lends its memref. -/
theorem Lends.head {R : sProp 𝕄} {c : Thread nD τ} {sp : Space} {s : Shape} {e : EltTy} {m : Memref sig c.2.kind sp s e} :
    Lends iprop(anyAt c m ∗ R) c m := by
  unfold Lends
  iintro ⟨H, HR⟩
  isplitl [H]
  · iexact H
  iintro H
  isplitl [H]
  · iexact H
  iexact HR

/-- What a part of several assertions held together lends, the whole lends. -/
theorem Lends.tail {A R : sProp 𝕄} {c : Thread nD τ} {sp : Space} {s : Shape} {e : EltTy}
    {m : Memref sig c.2.kind sp s e} (h : Lends R c m) : Lends iprop(A ∗ R) c m := by
  unfold Lends at h ⊢
  iintro ⟨HA, HR⟩
  icases h $$ HR with ⟨H, Hk⟩
  isplitl [H]
  · iexact H
  iintro H
  isplitl [HA]
  · iexact HA
  iapply Hk
  iexact H

/-- The last of several assertions held together lends its memref. -/
theorem Lends.last {c : Thread nD τ} {sp : Space} {s : Shape} {e : EltTy} {m : Memref sig c.2.kind sp s e} :
    Lends (anyAt c m : sProp 𝕄) c m := by
  unfold Lends
  iintro H
  isplitl [H]
  · iexact H
  iintro H
  iexact H

/-- The program keeps `P`: run with `P` held, it ends with `P` held. -/
def Keeps (defs : Defs nD τ sig Val Λ) (𝒱 : Variants) (c : Thread nD τ) (bd : Option 𝒱.V) (P : sProp 𝕄) {α : Type}
    (p : Prog (TpuEff nD τ sig Val Λ c.2) α) : Prop :=
  P ⊢ wp frame (wpE defs 𝒱 c bd) (Set.univ : Set ℕ) p (fun _ => P)

variable {defs : Defs nD τ sig Val Λ} {𝒱 : Variants} {c : Thread nD τ} {bd : Option 𝒱.V} {α β : Type}

/-- What keeping an assertion says of a run. -/
theorem Keeps.run {Pr : sProp 𝕄} {p : Prog (TpuEff nD τ sig Val Λ c.2) α} (h : Keeps defs 𝒱 c bd Pr p) :
    Pr ⊢ wp frame (wpE defs 𝒱 c bd) (Set.univ : Set ℕ) p (fun _ => Pr) := h

/-- Returning keeps `Pr`. -/
theorem Keeps.pure {Pr : sProp 𝕄} (a : α) : Keeps defs 𝒱 c bd Pr (pure a) := le_wp_ret _ _ _ a fun _ => Pr

/-- A sequence keeps `Pr` when each of its halves does. -/
theorem Keeps.bind {Pr : sProp 𝕄} {p : Prog (TpuEff nD τ sig Val Λ c.2) α} {k : α → Prog (TpuEff nD τ sig Val Λ c.2) β}
    (hp : Keeps defs 𝒱 c bd Pr p) (hk : ∀ a, Keeps defs 𝒱 c bd Pr (k a)) : Keeps defs 𝒱 c bd Pr (p >>= k) := by
  unfold Keeps; rw [wp_bind]
  exact BIBase.Entails.trans hp (wp_mono _ _ _ fun a => hk a)

/-- A load through a memref that `Pr` lends keeps `Pr`. -/
theorem Keeps.load {Pr : sProp 𝕄} {cs : CoreSpace} {s : Shape} {e : EltTy} {m : Memref sig c.2.kind cs s e} {r : LoadRect s}
    {hl : m.view.LoadsAt r} (hm : Lends Pr c m) :
    Keeps defs 𝒱 c bd Pr (Prog.lift (.load m r hl) : Prog (TpuEff nD τ sig Val Λ c.2) _) := by
  refine BIBase.Entails.trans hm ?_
  unfold anyAt
  iintro ⟨⟨%f, H⟩, Hk⟩
  iapply (wp_load 𝒱 c bd Set.univ (m.view.setOn_subset_set r.set)) $$ H
  iintro H
  iapply (le_wp_ret _ _ _ _ fun _ => Pr)
  iapply Hk
  iexists f
  iexact H

/-- A store through a memref that `Pr` lends keeps `Pr`. -/
theorem Keeps.store {Pr : sProp 𝕄} {cs : CoreSpace} {s : Shape} {e : EltTy} {m : Memref sig c.2.kind cs s e} {r : Rect s}
    {w : r.shape.Idx → Val e} {Mk : Finset r.shape.Idx} {hx : (m.access r).Stores Mk}
    {h1 : Mk = Finset.univ ∨ ∀ a, r.stride a = 1} (hm : Lends Pr c m) :
    Keeps defs 𝒱 c bd Pr (Prog.lift (.store m r w Mk hx h1) : Prog (TpuEff nD τ sig Val Λ c.2) _) := by
  refine BIBase.Entails.trans hm ?_
  unfold anyAt
  iintro ⟨⟨%f, H⟩, Hk⟩
  iapply (wp_store 𝒱 c bd Set.univ (S := m.view.set)
    (((m.access r).setOn_subset_set Mk).trans (m.view.set_slice_subset r))) $$ H
  iintro H
  iapply (le_wp_ret _ _ _ _ fun _ => Pr)
  iapply Hk
  iexists _
  iexact H

/-- A counted loop keeps `Pr` when every trip does. -/
theorem Keeps.loop {Pr : sProp 𝕄} {w : Nat} {σ : Type} (l : Scf.Loop w) (hok : l.OK) (init : σ)
    {body : Fin l.trips → σ → Prog (TpuEff nD τ sig Val Λ c.2) σ} (hb : ∀ k acc, Keeps defs 𝒱 c bd Pr (body k acc)) :
    Keeps defs 𝒱 c bd Pr (Scf.Loop.for l hok init body) := by
  refine BIBase.Entails.trans ?_ (Scf.wp_for _ _ _ l.lb l.ub l.st hok init body (fun _ _ => Pr) hb)
  iintro H
  isplitl [H]
  · iexact H
  iintro %acc H
  iexact H

/-- A branch keeps `Pr` when both of its sides do. -/
theorem Keeps.dite {Pr : sProp 𝕄} {q : Prop} [Decidable q] {x : q → Prog (TpuEff nD τ sig Val Λ c.2) α}
    {y : ¬q → Prog (TpuEff nD τ sig Val Λ c.2) α} (hx : ∀ h, Keeps defs 𝒱 c bd Pr (x h))
    (hy : ∀ h, Keeps defs 𝒱 c bd Pr (y h)) : Keeps defs 𝒱 c bd Pr (if h : q then x h else y h) := by
  split
  · exact hx _
  · exact hy _

end Cert.Proof

end
-- ==== Proof.GdnBody.lean ====
/- The kernel's body keeps its buffers: whatever they hold when it starts, it runs to its end and holds them again. Every
   part of the body is a sequence of loads and stores through the buffers, so this is proved part by part. -/
module

public import proofs.«01_k».proof.Proof.Keeps
public import proofs.«01_k».proof.Proof.Gen.Kernel4Ideal.Frame
public import proofs.«01_k».proof.Proof.Gen.Kernel4Ideal.Skeleton

@[expose] public section

set_option maxRecDepth 65536

noncomputable section

namespace Cert.Proof.Gdn

open Cert.Kernel4Ideal Cert.Kernel4Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers of the body, each held at contents that are not named. -/
abbrev held (c : Dev nD) (arg2 : Memref sig .tc .vmem S2048x1536 .f32) (arg3 : Memref sig .tc .vmem S2048x512 .f32) (arg4 : Memref sig .tc .vmem S2048x128 .f32) (arg5 : Memref sig .tc .vmem S1x128 .f32) (arg6 : Memref sig .tc .vmem S1x128 .f32) (arg7 : Memref sig .tc .vmem S1x128 .f32) (arg8 : Memref sig .tc .vmem S2048x512 .f32) (arg9 : Memref sig .tc .vmem S4x128x128 .f32) (arg10 : Memref sig .tc .vmem S16x64x128 .f32) (arg11 : Memref sig .tc .vmem S16x64x128 .bf16) (arg12 : Memref sig .tc .vmem S16x64x128 .bf16) (arg13 : Memref sig .tc .vmem S16x64x128 .bf16) (arg14 : Memref sig .tc .vmem S16x64x64 .bf16) (arg15 : Memref sig .tc .vmem S16x1x128 .f32) : sProp 𝕄 :=
  iprop(anyAt (c : Thread nD τ) arg2 ∗ anyAt (c : Thread nD τ) arg3 ∗ anyAt (c : Thread nD τ) arg4 ∗ anyAt (c : Thread nD τ) arg5 ∗ anyAt (c : Thread nD τ) arg6 ∗ anyAt (c : Thread nD τ) arg7 ∗ anyAt (c : Thread nD τ) arg8 ∗ anyAt (c : Thread nD τ) arg9 ∗ anyAt (c : Thread nD τ) arg10 ∗ anyAt (c : Thread nD τ) arg11 ∗ anyAt (c : Thread nD τ) arg12 ∗ anyAt (c : Thread nD τ) arg13 ∗ anyAt (c : Thread nD τ) arg14 ∗ anyAt (c : Thread nD τ) arg15)

/-- The program keeps the buffers of the body. -/
abbrev K (F : FTy → Type) [FloatOps F] (c : Dev nD) (arg2 : Memref sig .tc .vmem S2048x1536 .f32) (arg3 : Memref sig .tc .vmem S2048x512 .f32) (arg4 : Memref sig .tc .vmem S2048x128 .f32) (arg5 : Memref sig .tc .vmem S1x128 .f32) (arg6 : Memref sig .tc .vmem S1x128 .f32) (arg7 : Memref sig .tc .vmem S1x128 .f32) (arg8 : Memref sig .tc .vmem S2048x512 .f32) (arg9 : Memref sig .tc .vmem S4x128x128 .f32) (arg10 : Memref sig .tc .vmem S16x64x128 .f32) (arg11 : Memref sig .tc .vmem S16x64x128 .bf16) (arg12 : Memref sig .tc .vmem S16x64x128 .bf16) (arg13 : Memref sig .tc .vmem S16x64x128 .bf16) (arg14 : Memref sig .tc .vmem S16x64x64 .bf16) (arg15 : Memref sig .tc .vmem S16x1x128 .f32) {α : Type}
    (p : Prog (TpuEff nD τ sig (Elt F) Λ₀ .tc) α) : Prop :=
  Keeps (defs₀ (F := F)) Variants.none (c : Thread nD τ) none (held c arg2 arg3 arg4 arg5 arg6 arg7 arg8 arg9 arg10 arg11 arg12 arg13 arg14 arg15) p

variable (c : Dev nD) (i : grid0.Coords) (arg2 : Memref sig .tc .vmem S2048x1536 .f32) (harg2 : arg2.IsWhole) (arg3 : Memref sig .tc .vmem S2048x512 .f32) (harg3 : arg3.IsWhole) (arg4 : Memref sig .tc .vmem S2048x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x512 .f32) (harg8 : arg8.IsWhole) (arg9 : Memref sig .tc .vmem S4x128x128 .f32) (harg9 : arg9.IsWhole) (arg10 : Memref sig .tc .vmem S16x64x128 .f32) (harg10 : arg10.IsWhole) (arg11 : Memref sig .tc .vmem S16x64x128 .bf16) (harg11 : arg11.IsWhole) (arg12 : Memref sig .tc .vmem S16x64x128 .bf16) (harg12 : arg12.IsWhole) (arg13 : Memref sig .tc .vmem S16x64x128 .bf16) (harg13 : arg13.IsWhole) (arg14 : Memref sig .tc .vmem S16x64x64 .bf16) (harg14 : arg14.IsWhole) (arg15 : Memref sig .tc .vmem S16x1x128 .f32) (harg15 : arg15.IsWhole)

/-- `k0_part22` keeps the buffers. -/
theorem keeps_part22 :
    K F c arg2 arg3 arg4 arg5 arg6 arg7 arg8 arg9 arg10 arg11 arg12 arg13 arg14 arg15 (k0_part22 i arg2 harg2 arg3
      harg3 arg4 harg4 arg5 harg5 arg6 harg6 arg7 harg7 arg8 harg8 arg9 harg9 arg10 harg10 arg11 harg11 arg12 harg12
      arg13 harg13 arg14 harg14 arg15 harg15) := by
  rw [k0_part22_eq_skeleton]; unfold k0_part22_skel
  repeat (with_reducible first
    | refine Keeps.bind ?_ fun _ => ?_ | exact Keeps.pure _ | refine Keeps.load ?_ | refine Keeps.store ?_
    | exact Lends.head | exact Lends.last | refine Lends.tail ?_ | refine Keeps.dite (fun _ => ?_) fun _ => ?_
    | refine Keeps.loop _ _ _ fun _ _ => ?_ | split)

/-- `k0_part23` keeps the buffers. -/
theorem keeps_part23 (v31 v34 v36 v37 cst_13 : _) :
    K F c arg2 arg3 arg4 arg5 arg6 arg7 arg8 arg9 arg10 arg11 arg12 arg13 arg14 arg15 (k0_part23 i arg2 harg2 arg3
      harg3 arg4 harg4 arg5 harg5 arg6 harg6 arg7 harg7 arg8 harg8 arg9 harg9 arg10 harg10 arg11 harg11 arg12 harg12
      arg13 harg13 arg14 harg14 arg15 harg15 v31 v34 v36 v37 cst_13) := by
  rw [k0_part23_eq_skeleton]; unfold k0_part23_skel
  repeat (with_reducible first
    | refine Keeps.bind ?_ fun _ => ?_ | exact Keeps.pure _)

/-- `k0_part24` keeps the buffers. -/
theorem keeps_part24 (v70 v73 v76 v79 v82 : _) :
    K F c arg2 arg3 arg4 arg5 arg6 arg7 arg8 arg9 arg10 arg11 arg12 arg13 arg14 arg15 (k0_part24 i arg2 harg2 arg3
      harg3 arg4 harg4 arg5 harg5 arg6 harg6 arg7 harg7 arg8 harg8 arg9 harg9 arg10 harg10 arg11 harg11 arg12 harg12
      arg13 harg13 arg14 harg14 arg15 harg15 v70 v73 v76 v79 v82) := by
  rw [k0_part24_eq_skeleton]; unfold k0_part24_skel
  repeat (with_reducible first
    | refine Keeps.bind ?_ fun _ => ?_ | exact Keeps.pure _)

/-- `k0_part25` keeps the buffers. -/
theorem keeps_part25 (v12 v136 v139 v142 : _) :
    K F c arg2 arg3 arg4 arg5 arg6 arg7 arg8 arg9 arg10 arg11 arg12 arg13 arg14 arg15 (k0_part25 i arg2 harg2 arg3
      harg3 arg4 harg4 arg5 harg5 arg6 harg6 arg7 harg7 arg8 harg8 arg9 harg9 arg10 harg10 arg11 harg11 arg12 harg12
      arg13 harg13 arg14 harg14 arg15 harg15 v12 v136 v139 v142) := by
  rw [k0_part25_eq_skeleton]; unfold k0_part25_skel
  repeat (with_reducible first
    | refine Keeps.bind ?_ fun _ => ?_ | exact Keeps.pure _)

/-- `k0_part26` keeps the buffers. -/
theorem keeps_part26 (v202 : _) :
    K F c arg2 arg3 arg4 arg5 arg6 arg7 arg8 arg9 arg10 arg11 arg12 arg13 arg14 arg15 (k0_part26 i arg2 harg2 arg3
      harg3 arg4 harg4 arg5 harg5 arg6 harg6 arg7 harg7 arg8 harg8 arg9 harg9 arg10 harg10 arg11 harg11 arg12 harg12
      arg13 harg13 arg14 harg14 arg15 harg15 v202) := by
  rw [k0_part26_eq_skeleton]; unfold k0_part26_skel
  repeat (with_reducible first
    | refine Keeps.bind ?_ fun _ => ?_ | exact Keeps.pure _)

/-- `k0_part27` keeps the buffers. -/
theorem keeps_part27 (v10 v241 v244 v247 v250 v251 v252 v253 v254 v255 v256 v257 v258 v259 v260 v261 v262 : _) :
    K F c arg2 arg3 arg4 arg5 arg6 arg7 arg8 arg9 arg10 arg11 arg12 arg13 arg14 arg15 (k0_part27 i arg2 harg2 arg3
      harg3 arg4 harg4 arg5 harg5 arg6 harg6 arg7 harg7 arg8 harg8 arg9 harg9 arg10 harg10 arg11 harg11 arg12 harg12
      arg13 harg13 arg14 harg14 arg15 harg15 v10 v241 v244 v247 v250 v251 v252 v253 v254 v255 v256 v257 v258 v259 v260
      v261 v262) := by
  rw [k0_part27_eq_skeleton]; unfold k0_part27_skel
  repeat (with_reducible first
    | refine Keeps.bind ?_ fun _ => ?_ | exact Keeps.pure _)

/-- `k0_part28` keeps the buffers. -/
theorem keeps_part28 (v10 v300 v307 v308 v309 v310 v311 v312 v313 v314 v315 v316 v317 v318 v319 v320 v321 v322 : _) :
    K F c arg2 arg3 arg4 arg5 arg6 arg7 arg8 arg9 arg10 arg11 arg12 arg13 arg14 arg15 (k0_part28 i arg2 harg2 arg3
      harg3 arg4 harg4 arg5 harg5 arg6 harg6 arg7 harg7 arg8 harg8 arg9 harg9 arg10 harg10 arg11 harg11 arg12 harg12
      arg13 harg13 arg14 harg14 arg15 harg15 v10 v300 v307 v308 v309 v310 v311 v312 v313 v314 v315 v316 v317 v318 v319
      v320 v321 v322) := by
  rw [k0_part28_eq_skeleton]; unfold k0_part28_skel
  repeat (with_reducible first
    | refine Keeps.bind ?_ fun _ => ?_ | exact Keeps.pure _)

/-- `k0_part29` keeps the buffers. -/
theorem keeps_part29 (v5 v6 v135 v201 v267 v333 v376 v378 : _) :
    K F c arg2 arg3 arg4 arg5 arg6 arg7 arg8 arg9 arg10 arg11 arg12 arg13 arg14 arg15 (k0_part29 i arg2 harg2 arg3
      harg3 arg4 harg4 arg5 harg5 arg6 harg6 arg7 harg7 arg8 harg8 arg9 harg9 arg10 harg10 arg11 harg11 arg12 harg12
      arg13 harg13 arg14 harg14 arg15 harg15 v5 v6 v135 v201 v267 v333 v376 v378) := by
  rw [k0_part29_eq_skeleton]; unfold k0_part29_skel
  repeat (with_reducible first
    | refine Keeps.bind ?_ fun _ => ?_ | exact Keeps.pure _)

/-- `k0_part30` keeps the buffers. -/
theorem keeps_part30 (v405 v406 v407 v409 v423 v427 : _) :
    K F c arg2 arg3 arg4 arg5 arg6 arg7 arg8 arg9 arg10 arg11 arg12 arg13 arg14 arg15 (k0_part30 i arg2 harg2 arg3
      harg3 arg4 harg4 arg5 harg5 arg6 harg6 arg7 harg7 arg8 harg8 arg9 harg9 arg10 harg10 arg11 harg11 arg12 harg12
      arg13 harg13 arg14 harg14 arg15 harg15 v405 v406 v407 v409 v423 v427) := by
  rw [k0_part30_eq_skeleton]; unfold k0_part30_skel
  repeat (with_reducible first
    | refine Keeps.bind ?_ fun _ => ?_ | exact Keeps.pure _)

/-- `k0_part31` keeps the buffers. -/
theorem keeps_part31 (v406 v407 v468 v471 v472 v473 cst_52 : _) :
    K F c arg2 arg3 arg4 arg5 arg6 arg7 arg8 arg9 arg10 arg11 arg12 arg13 arg14 arg15 (k0_part31 i arg2 harg2 arg3
      harg3 arg4 harg4 arg5 harg5 arg6 harg6 arg7 harg7 arg8 harg8 arg9 harg9 arg10 harg10 arg11 harg11 arg12 harg12
      arg13 harg13 arg14 harg14 arg15 harg15 v406 v407 v468 v471 v472 v473 cst_52) := by
  rw [k0_part31_eq_skeleton]; unfold k0_part31_skel
  repeat (with_reducible first
    | refine Keeps.bind ?_ fun _ => ?_ | exact Keeps.pure _)

/-- `k0_part32` keeps the buffers. -/
theorem keeps_part32 (v406 v407 v513 c16_i32_64 v515 v518 v519 : _) :
    K F c arg2 arg3 arg4 arg5 arg6 arg7 arg8 arg9 arg10 arg11 arg12 arg13 arg14 arg15 (k0_part32 i arg2 harg2 arg3
      harg3 arg4 harg4 arg5 harg5 arg6 harg6 arg7 harg7 arg8 harg8 arg9 harg9 arg10 harg10 arg11 harg11 arg12 harg12
      arg13 harg13 arg14 harg14 arg15 harg15 v406 v407 v513 c16_i32_64 v515 v518 v519) := by
  rw [k0_part32_eq_skeleton]; unfold k0_part32_skel
  repeat (with_reducible first
    | refine Keeps.bind ?_ fun _ => ?_ | exact Keeps.pure _)

/-- `k0_part33` keeps the buffers. -/
theorem keeps_part33 (v405 v406 v407 v489 v538 v562 c32_i32_78 v564 v566 : _) :
    K F c arg2 arg3 arg4 arg5 arg6 arg7 arg8 arg9 arg10 arg11 arg12 arg13 arg14 arg15 (k0_part33 i arg2 harg2 arg3
      harg3 arg4 harg4 arg5 harg5 arg6 harg6 arg7 harg7 arg8 harg8 arg9 harg9 arg10 harg10 arg11 harg11 arg12 harg12
      arg13 harg13 arg14 harg14 arg15 harg15 v405 v406 v407 v489 v538 v562 c32_i32_78 v564 v566) := by
  rw [k0_part33_eq_skeleton]; unfold k0_part33_skel
  repeat (with_reducible first
    | refine Keeps.bind ?_ fun _ => ?_ | exact Keeps.pure _)

/-- `k0_part34` keeps the buffers. -/
theorem keeps_part34 (v406 v407 c32_i32_89 v604 v611 v613 : _) :
    K F c arg2 arg3 arg4 arg5 arg6 arg7 arg8 arg9 arg10 arg11 arg12 arg13 arg14 arg15 (k0_part34 i arg2 harg2 arg3
      harg3 arg4 harg4 arg5 harg5 arg6 harg6 arg7 harg7 arg8 harg8 arg9 harg9 arg10 harg10 arg11 harg11 arg12 harg12
      arg13 harg13 arg14 harg14 arg15 harg15 v406 v407 c32_i32_89 v604 v611 v613) := by
  rw [k0_part34_eq_skeleton]; unfold k0_part34_skel
  repeat (with_reducible first
    | refine Keeps.bind ?_ fun _ => ?_ | exact Keeps.pure _)

/-- `k0_part35` keeps the buffers. -/
theorem keeps_part35 (v405 v406 v407 v651 c64_i32 v653 v660 : _) :
    K F c arg2 arg3 arg4 arg5 arg6 arg7 arg8 arg9 arg10 arg11 arg12 arg13 arg14 arg15 (k0_part35 i arg2 harg2 arg3
      harg3 arg4 harg4 arg5 harg5 arg6 harg6 arg7 harg7 arg8 harg8 arg9 harg9 arg10 harg10 arg11 harg11 arg12 harg12
      arg13 harg13 arg14 harg14 arg15 harg15 v405 v406 v407 v651 c64_i32 v653 v660) := by
  rw [k0_part35_eq_skeleton]; unfold k0_part35_skel
  repeat (with_reducible first
    | refine Keeps.bind ?_ fun _ => ?_ | exact Keeps.pure _)

/-- `k0_part36` keeps the buffers. -/
theorem keeps_part36 (v135 v267 v366 v376 v384 v385 v386 v393 v394 v400 v602 v704 v706 v707 : _) :
    K F c arg2 arg3 arg4 arg5 arg6 arg7 arg8 arg9 arg10 arg11 arg12 arg13 arg14 arg15 (k0_part36 i arg2 harg2 arg3
      harg3 arg4 harg4 arg5 harg5 arg6 harg6 arg7 harg7 arg8 harg8 arg9 harg9 arg10 harg10 arg11 harg11 arg12 harg12
      arg13 harg13 arg14 harg14 arg15 harg15 v135 v267 v366 v376 v384 v385 v386 v393 v394 v400 v602 v704 v706 v707) :=
      by
  rw [k0_part36_eq_skeleton]; unfold k0_part36_skel
  repeat (with_reducible first
    | refine Keeps.bind ?_ fun _ => ?_ | exact Keeps.pure _ | refine Keeps.load ?_ | refine Keeps.store ?_
    | exact Lends.head | exact Lends.last | refine Lends.tail ?_ | refine Keeps.dite (fun _ => ?_) fun _ => ?_
    | refine Keeps.loop _ _ _ fun _ _ => ?_ | split)

/-- `k0_part1` keeps the buffers. -/
theorem keeps_part1 (c1_i32_139 c1_i32_140 k0_t1 : _) :
    K F c arg2 arg3 arg4 arg5 arg6 arg7 arg8 arg9 arg10 arg11 arg12 arg13 arg14 arg15 (k0_part1 i arg2 harg2 arg3
      harg3 arg4 harg4 arg5 harg5 arg6 harg6 arg7 harg7 arg8 harg8 arg9 harg9 arg10 harg10 arg11 harg11 arg12 harg12
      arg13 harg13 arg14 harg14 arg15 harg15 c1_i32_139 c1_i32_140 k0_t1) := by
  rw [k0_part1_eq_skeleton]; unfold k0_part1_skel
  repeat (with_reducible first
    | refine Keeps.bind ?_ fun _ => ?_ | exact Keeps.pure _ | refine Keeps.load ?_ | refine Keeps.store ?_
    | exact Lends.head | exact Lends.last | refine Lends.tail ?_)

/-- `k0_part2` keeps the buffers. -/
theorem keeps_part2 (v976 v982 v984 v985 v986 : _) :
    K F c arg2 arg3 arg4 arg5 arg6 arg7 arg8 arg9 arg10 arg11 arg12 arg13 arg14 arg15 (k0_part2 i arg2 harg2 arg3
      harg3 arg4 harg4 arg5 harg5 arg6 harg6 arg7 harg7 arg8 harg8 arg9 harg9 arg10 harg10 arg11 harg11 arg12 harg12
      arg13 harg13 arg14 harg14 arg15 harg15 v976 v982 v984 v985 v986) := by
  rw [k0_part2_eq_skeleton]; unfold k0_part2_skel
  repeat (with_reducible first
    | refine Keeps.bind ?_ fun _ => ?_ | exact Keeps.pure _)

/-- `k0_part3` keeps the buffers. -/
theorem keeps_part3 (v1012 v1015 v1018 v1021 v1024 v1027 v1030 v1033 v1034 : _) :
    K F c arg2 arg3 arg4 arg5 arg6 arg7 arg8 arg9 arg10 arg11 arg12 arg13 arg14 arg15 (k0_part3 i arg2 harg2 arg3
      harg3 arg4 harg4 arg5 harg5 arg6 harg6 arg7 harg7 arg8 harg8 arg9 harg9 arg10 harg10 arg11 harg11 arg12 harg12
      arg13 harg13 arg14 harg14 arg15 harg15 v1012 v1015 v1018 v1021 v1024 v1027 v1030 v1033 v1034) := by
  rw [k0_part3_eq_skeleton]; unfold k0_part3_skel
  repeat (with_reducible first
    | refine Keeps.bind ?_ fun _ => ?_ | exact Keeps.pure _)

/-- `k0_part4` keeps the buffers. -/
theorem keeps_part4 (v954 v1078 v1081 v1084 v1087 v1090 v1093 v1094 : _) :
    K F c arg2 arg3 arg4 arg5 arg6 arg7 arg8 arg9 arg10 arg11 arg12 arg13 arg14 arg15 (k0_part4 i arg2 harg2 arg3
      harg3 arg4 harg4 arg5 harg5 arg6 harg6 arg7 harg7 arg8 harg8 arg9 harg9 arg10 harg10 arg11 harg11 arg12 harg12
      arg13 harg13 arg14 harg14 arg15 harg15 v954 v1078 v1081 v1084 v1087 v1090 v1093 v1094) := by
  rw [k0_part4_eq_skeleton]; unfold k0_part4_skel
  repeat (with_reducible first
    | refine Keeps.bind ?_ fun _ => ?_ | exact Keeps.pure _)

/-- `k0_part5` keeps the buffers. -/
theorem keeps_part5 (v951 v1144 v1147 v1150 v1153 v1154 : _) :
    K F c arg2 arg3 arg4 arg5 arg6 arg7 arg8 arg9 arg10 arg11 arg12 arg13 arg14 arg15 (k0_part5 i arg2 harg2 arg3
      harg3 arg4 harg4 arg5 harg5 arg6 harg6 arg7 harg7 arg8 harg8 arg9 harg9 arg10 harg10 arg11 harg11 arg12 harg12
      arg13 harg13 arg14 harg14 arg15 harg15 v951 v1144 v1147 v1150 v1153 v1154) := by
  rw [k0_part5_eq_skeleton]; unfold k0_part5_skel
  repeat (with_reducible first
    | refine Keeps.bind ?_ fun _ => ?_ | exact Keeps.pure _)

/-- `k0_part6` keeps the buffers. -/
theorem keeps_part6 (v951 v1210 v1211 v1212 v1213 v1214 : _) :
    K F c arg2 arg3 arg4 arg5 arg6 arg7 arg8 arg9 arg10 arg11 arg12 arg13 arg14 arg15 (k0_part6 i arg2 harg2 arg3
      harg3 arg4 harg4 arg5 harg5 arg6 harg6 arg7 harg7 arg8 harg8 arg9 harg9 arg10 harg10 arg11 harg11 arg12 harg12
      arg13 harg13 arg14 harg14 arg15 harg15 v951 v1210 v1211 v1212 v1213 v1214) := by
  rw [k0_part6_eq_skeleton]; unfold k0_part6_skel
  repeat (with_reducible first
    | refine Keeps.bind ?_ fun _ => ?_ | exact Keeps.pure _)

/-- `k0_part7` keeps the buffers. -/
theorem keeps_part7 (v951 v1077 v1242 v1259 v1260 v1261 v1262 v1263 v1264 v1265 v1266 v1267 v1268 v1269 v1270 v1271 v1272 v1273 v1274 : _) :
    K F c arg2 arg3 arg4 arg5 arg6 arg7 arg8 arg9 arg10 arg11 arg12 arg13 arg14 arg15 (k0_part7 i arg2 harg2 arg3
      harg3 arg4 harg4 arg5 harg5 arg6 harg6 arg7 harg7 arg8 harg8 arg9 harg9 arg10 harg10 arg11 harg11 arg12 harg12
      arg13 harg13 arg14 harg14 arg15 harg15 v951 v1077 v1242 v1259 v1260 v1261 v1262 v1263 v1264 v1265 v1266 v1267
      v1268 v1269 v1270 v1271 v1272 v1273 v1274) := by
  rw [k0_part7_eq_skeleton]; unfold k0_part7_skel
  repeat (with_reducible first
    | refine Keeps.bind ?_ fun _ => ?_ | exact Keeps.pure _)

/-- `k0_part8` keeps the buffers. -/
theorem keeps_part8 (v5 v6 v946 v1143 v1209 v1318 v1326 v1329 : _) :
    K F c arg2 arg3 arg4 arg5 arg6 arg7 arg8 arg9 arg10 arg11 arg12 arg13 arg14 arg15 (k0_part8 i arg2 harg2 arg3
      harg3 arg4 harg4 arg5 harg5 arg6 harg6 arg7 harg7 arg8 harg8 arg9 harg9 arg10 harg10 arg11 harg11 arg12 harg12
      arg13 harg13 arg14 harg14 arg15 harg15 v5 v6 v946 v1143 v1209 v1318 v1326 v1329) := by
  rw [k0_part8_eq_skeleton]; unfold k0_part8_skel
  repeat (with_reducible first
    | refine Keeps.bind ?_ fun _ => ?_ | exact Keeps.pure _ | refine Keeps.load ?_ | refine Keeps.store ?_
    | exact Lends.head | exact Lends.last | refine Lends.tail ?_)

/-- `k0_part9` keeps the buffers. -/
theorem keeps_part9 (v1356 v1357 v1358 c16_i32_307 v1360 v1367 v1369 : _) :
    K F c arg2 arg3 arg4 arg5 arg6 arg7 arg8 arg9 arg10 arg11 arg12 arg13 arg14 arg15 (k0_part9 i arg2 harg2 arg3
      harg3 arg4 harg4 arg5 harg5 arg6 harg6 arg7 harg7 arg8 harg8 arg9 harg9 arg10 harg10 arg11 harg11 arg12 harg12
      arg13 harg13 arg14 harg14 arg15 harg15 v1356 v1357 v1358 c16_i32_307 v1360 v1367 v1369) := by
  rw [k0_part9_eq_skeleton]; unfold k0_part9_skel
  repeat (with_reducible first
    | refine Keeps.bind ?_ fun _ => ?_ | exact Keeps.pure _)

/-- `k0_part10` keeps the buffers. -/
theorem keeps_part10 (v8 v1345 v1348 v1351 v1413 v1414 cst_324 v1415 : _) :
    K F c arg2 arg3 arg4 arg5 arg6 arg7 arg8 arg9 arg10 arg11 arg12 arg13 arg14 arg15 (k0_part10 i arg2 harg2 arg3
      harg3 arg4 harg4 arg5 harg5 arg6 harg6 arg7 harg7 arg8 harg8 arg9 harg9 arg10 harg10 arg11 harg11 arg12 harg12
      arg13 harg13 arg14 harg14 arg15 harg15 v8 v1345 v1348 v1351 v1413 v1414 cst_324 v1415) := by
  rw [k0_part10_eq_skeleton]; unfold k0_part10_skel
  repeat (with_reducible first
    | refine Keeps.bind ?_ fun _ => ?_ | exact Keeps.pure _ | refine Keeps.load ?_ | refine Keeps.store ?_
    | exact Lends.head | exact Lends.last | refine Lends.tail ?_)

/-- `k0_part11` keeps the buffers. -/
theorem keeps_part11 (k0_t1 v1344 v1419 v1433 v1436 v1440 v1454 c0_i32_345 : _) :
    K F c arg2 arg3 arg4 arg5 arg6 arg7 arg8 arg9 arg10 arg11 arg12 arg13 arg14 arg15 (k0_part11 i arg2 harg2 arg3
      harg3 arg4 harg4 arg5 harg5 arg6 harg6 arg7 harg7 arg8 harg8 arg9 harg9 arg10 harg10 arg11 harg11 arg12 harg12
      arg13 harg13 arg14 harg14 arg15 harg15 k0_t1 v1344 v1419 v1433 v1436 v1440 v1454 c0_i32_345) := by
  rw [k0_part11_eq_skeleton]; unfold k0_part11_skel
  repeat (with_reducible first
    | refine Keeps.bind ?_ fun _ => ?_ | exact Keeps.pure _ | refine Keeps.load ?_ | refine Keeps.store ?_
    | exact Lends.head | exact Lends.last | refine Lends.tail ?_)

/-- `k0_part12` keeps the buffers. -/
theorem keeps_part12 (v8 k0_t1 v1344 v1440 v1479 v1480 v1483 v1486 v1488 v1491 : _) :
    K F c arg2 arg3 arg4 arg5 arg6 arg7 arg8 arg9 arg10 arg11 arg12 arg13 arg14 arg15 (k0_part12 i arg2 harg2 arg3
      harg3 arg4 harg4 arg5 harg5 arg6 harg6 arg7 harg7 arg8 harg8 arg9 harg9 arg10 harg10 arg11 harg11 arg12 harg12
      arg13 harg13 arg14 harg14 arg15 harg15 v8 k0_t1 v1344 v1440 v1479 v1480 v1483 v1486 v1488 v1491) := by
  rw [k0_part12_eq_skeleton]; unfold k0_part12_skel
  repeat (with_reducible first
    | refine Keeps.bind ?_ fun _ => ?_ | exact Keeps.pure _ | refine Keeps.load ?_ | refine Keeps.store ?_
    | exact Lends.head | exact Lends.last | refine Lends.tail ?_)

/-- `k0_part13` keeps the buffers. -/
theorem keeps_part13 (v1357 v1358 v1495 v1498 v1502 : _) :
    K F c arg2 arg3 arg4 arg5 arg6 arg7 arg8 arg9 arg10 arg11 arg12 arg13 arg14 arg15 (k0_part13 i arg2 harg2 arg3
      harg3 arg4 harg4 arg5 harg5 arg6 harg6 arg7 harg7 arg8 harg8 arg9 harg9 arg10 harg10 arg11 harg11 arg12 harg12
      arg13 harg13 arg14 harg14 arg15 harg15 v1357 v1358 v1495 v1498 v1502) := by
  rw [k0_part13_eq_skeleton]; unfold k0_part13_skel
  repeat (with_reducible first
    | refine Keeps.bind ?_ fun _ => ?_ | exact Keeps.pure _ | refine Keeps.load ?_ | refine Keeps.store ?_
    | exact Lends.head | exact Lends.last | refine Lends.tail ?_)

/-- `k0_part14` keeps the buffers. -/
theorem keeps_part14 (v1357 v1358 v1566 c16_i32_396 v1568 v1575 v1577 c0_i32_400 : _) :
    K F c arg2 arg3 arg4 arg5 arg6 arg7 arg8 arg9 arg10 arg11 arg12 arg13 arg14 arg15 (k0_part14 i arg2 harg2 arg3
      harg3 arg4 harg4 arg5 harg5 arg6 harg6 arg7 harg7 arg8 harg8 arg9 harg9 arg10 harg10 arg11 harg11 arg12 harg12
      arg13 harg13 arg14 harg14 arg15 harg15 v1357 v1358 v1566 c16_i32_396 v1568 v1575 v1577 c0_i32_400) := by
  rw [k0_part14_eq_skeleton]; unfold k0_part14_skel
  repeat (with_reducible first
    | refine Keeps.bind ?_ fun _ => ?_ | exact Keeps.pure _)

/-- `k0_part15` keeps the buffers. -/
theorem keeps_part15 (v1356 v1358 v1538 v1542 v1591 v1615 c32_i32_410 v1617 v1624 c0_i32_413 : _) :
    K F c arg2 arg3 arg4 arg5 arg6 arg7 arg8 arg9 arg10 arg11 arg12 arg13 arg14 arg15 (k0_part15 i arg2 harg2 arg3
      harg3 arg4 harg4 arg5 harg5 arg6 harg6 arg7 harg7 arg8 harg8 arg9 harg9 arg10 harg10 arg11 harg11 arg12 harg12
      arg13 harg13 arg14 harg14 arg15 harg15 v1356 v1358 v1538 v1542 v1591 v1615 c32_i32_410 v1617 v1624 c0_i32_413)
      := by
  rw [k0_part15_eq_skeleton]; unfold k0_part15_skel
  repeat (with_reducible first
    | refine Keeps.bind ?_ fun _ => ?_ | exact Keeps.pure _ | refine Keeps.load ?_ | refine Keeps.store ?_
    | exact Lends.head | exact Lends.last | refine Lends.tail ?_)

/-- `k0_part16` keeps the buffers. -/
theorem keeps_part16 (v8 k0_t1 v1344 v1502 v1541 v1542 v1656 v1659 v1662 v1663 : _) :
    K F c arg2 arg3 arg4 arg5 arg6 arg7 arg8 arg9 arg10 arg11 arg12 arg13 arg14 arg15 (k0_part16 i arg2 harg2 arg3
      harg3 arg4 harg4 arg5 harg5 arg6 harg6 arg7 harg7 arg8 harg8 arg9 harg9 arg10 harg10 arg11 harg11 arg12 harg12
      arg13 harg13 arg14 harg14 arg15 harg15 v8 k0_t1 v1344 v1502 v1541 v1542 v1656 v1659 v1662 v1663) := by
  rw [k0_part16_eq_skeleton]; unfold k0_part16_skel
  repeat (with_reducible first
    | refine Keeps.bind ?_ fun _ => ?_ | exact Keeps.pure _ | refine Keeps.load ?_ | refine Keeps.store ?_
    | exact Lends.head | exact Lends.last | refine Lends.tail ?_)

/-- `k0_part17` keeps the buffers. -/
theorem keeps_part17 (v1357 v1358 c32_i32_449 : _) :
    K F c arg2 arg3 arg4 arg5 arg6 arg7 arg8 arg9 arg10 arg11 arg12 arg13 arg14 arg15 (k0_part17 i arg2 harg2 arg3
      harg3 arg4 harg4 arg5 harg5 arg6 harg6 arg7 harg7 arg8 harg8 arg9 harg9 arg10 harg10 arg11 harg11 arg12 harg12
      arg13 harg13 arg14 harg14 arg15 harg15 v1357 v1358 c32_i32_449) := by
  rw [k0_part17_eq_skeleton]; unfold k0_part17_skel
  repeat (with_reducible first
    | refine Keeps.bind ?_ fun _ => ?_ | exact Keeps.pure _)

/-- `k0_part18` keeps the buffers. -/
theorem keeps_part18 (v1357 v1358 v1730 v1732 v1751 v1753 : _) :
    K F c arg2 arg3 arg4 arg5 arg6 arg7 arg8 arg9 arg10 arg11 arg12 arg13 arg14 arg15 (k0_part18 i arg2 harg2 arg3
      harg3 arg4 harg4 arg5 harg5 arg6 harg6 arg7 harg7 arg8 harg8 arg9 harg9 arg10 harg10 arg11 harg11 arg12 harg12
      arg13 harg13 arg14 harg14 arg15 harg15 v1357 v1358 v1730 v1732 v1751 v1753) := by
  rw [k0_part18_eq_skeleton]; unfold k0_part18_skel
  repeat (with_reducible first
    | refine Keeps.bind ?_ fun _ => ?_ | exact Keeps.pure _)

/-- `k0_part19` keeps the buffers. -/
theorem keeps_part19 (v1356 v1666 v1702 v1705 v1706 v1755 v1779 v1781 v1800 : _) :
    K F c arg2 arg3 arg4 arg5 arg6 arg7 arg8 arg9 arg10 arg11 arg12 arg13 arg14 arg15 (k0_part19 i arg2 harg2 arg3
      harg3 arg4 harg4 arg5 harg5 arg6 harg6 arg7 harg7 arg8 harg8 arg9 harg9 arg10 harg10 arg11 harg11 arg12 harg12
      arg13 harg13 arg14 harg14 arg15 harg15 v1356 v1666 v1702 v1705 v1706 v1755 v1779 v1781 v1800) := by
  rw [k0_part19_eq_skeleton]; unfold k0_part19_skel
  repeat (with_reducible first
    | refine Keeps.bind ?_ fun _ => ?_ | exact Keeps.pure _ | refine Keeps.load ?_ | refine Keeps.store ?_
    | exact Lends.head | exact Lends.last | refine Lends.tail ?_)

/-- `k0_part20` keeps the buffers. -/
theorem keeps_part20 (v8 k0_t1 v1209 v1308 v1328 v1336 v1344 v1706 v1826 v1830 v1831 v1838 : _) :
    K F c arg2 arg3 arg4 arg5 arg6 arg7 arg8 arg9 arg10 arg11 arg12 arg13 arg14 arg15 (k0_part20 i arg2 harg2 arg3
      harg3 arg4 harg4 arg5 harg5 arg6 harg6 arg7 harg7 arg8 harg8 arg9 harg9 arg10 harg10 arg11 harg11 arg12 harg12
      arg13 harg13 arg14 harg14 arg15 harg15 v8 k0_t1 v1209 v1308 v1328 v1336 v1344 v1706 v1826 v1830 v1831 v1838) :=
      by
  rw [k0_part20_eq_skeleton]; unfold k0_part20_skel
  repeat (with_reducible first
    | refine Keeps.bind ?_ fun _ => ?_ | exact Keeps.pure _ | refine Keeps.load ?_ | refine Keeps.store ?_
    | exact Lends.head | exact Lends.last | refine Lends.tail ?_)

/-- `k0_part21` keeps the buffers. -/
theorem keeps_part21 (v5 v6 v8 c1_i32_139 c1_i32_140 k0_t1 : _) :
    K F c arg2 arg3 arg4 arg5 arg6 arg7 arg8 arg9 arg10 arg11 arg12 arg13 arg14 arg15 (k0_part21 i arg2 harg2 arg3
      harg3 arg4 harg4 arg5 harg5 arg6 harg6 arg7 harg7 arg8 harg8 arg9 harg9 arg10 harg10 arg11 harg11 arg12 harg12
      arg13 harg13 arg14 harg14 arg15 harg15 v5 v6 v8 c1_i32_139 c1_i32_140 k0_t1) := by
  rw [k0_part21_eq_skeleton]; unfold k0_part21_skel
  repeat (with_reducible first
    | refine Keeps.bind ?_ fun _ => ?_ | exact Keeps.pure _
    | exact keeps_part1 _ _ _ _ _ _ _ _ _ _ _ _ _ _ _ _ _ _ _ _ _ _ _ _ _ _ _ _ _ _ _ _ _
    | exact keeps_part2 _ _ _ _ _ _ _ _ _ _ _ _ _ _ _ _ _ _ _ _ _ _ _ _ _ _ _ _ _ _ _ _ _ _ _
    | exact keeps_part3 _ _ _ _ _ _ _ _ _ _ _ _ _ _ _ _ _ _ _ _ _ _ _ _ _ _ _ _ _ _ _ _ _ _ _ _ _ _ _
    | exact keeps_part4 _ _ _ _ _ _ _ _ _ _ _ _ _ _ _ _ _ _ _ _ _ _ _ _ _ _ _ _ _ _ _ _ _ _ _ _ _ _
    | exact keeps_part5 _ _ _ _ _ _ _ _ _ _ _ _ _ _ _ _ _ _ _ _ _ _ _ _ _ _ _ _ _ _ _ _ _ _ _ _
    | exact keeps_part6 _ _ _ _ _ _ _ _ _ _ _ _ _ _ _ _ _ _ _ _ _ _ _ _ _ _ _ _ _ _ _ _ _ _ _ _
    | exact keeps_part7 _ _ _ _ _ _ _ _ _ _ _ _ _ _ _ _ _ _ _ _ _ _ _ _ _ _ _ _ _ _ _ _ _ _ _ _ _ _ _ _ _ _ _ _ _ _ _ _ _
    | exact keeps_part8 _ _ _ _ _ _ _ _ _ _ _ _ _ _ _ _ _ _ _ _ _ _ _ _ _ _ _ _ _ _ _ _ _ _ _ _ _ _
    | exact keeps_part9 _ _ _ _ _ _ _ _ _ _ _ _ _ _ _ _ _ _ _ _ _ _ _ _ _ _ _ _ _ _ _ _ _ _ _ _ _
    | exact keeps_part10 _ _ _ _ _ _ _ _ _ _ _ _ _ _ _ _ _ _ _ _ _ _ _ _ _ _ _ _ _ _ _ _ _ _ _ _ _ _
    | exact keeps_part11 _ _ _ _ _ _ _ _ _ _ _ _ _ _ _ _ _ _ _ _ _ _ _ _ _ _ _ _ _ _ _ _ _ _ _ _ _ _
    | exact keeps_part12 _ _ _ _ _ _ _ _ _ _ _ _ _ _ _ _ _ _ _ _ _ _ _ _ _ _ _ _ _ _ _ _ _ _ _ _ _ _ _ _
    | exact keeps_part13 _ _ _ _ _ _ _ _ _ _ _ _ _ _ _ _ _ _ _ _ _ _ _ _ _ _ _ _ _ _ _ _ _ _ _
    | exact keeps_part14 _ _ _ _ _ _ _ _ _ _ _ _ _ _ _ _ _ _ _ _ _ _ _ _ _ _ _ _ _ _ _ _ _ _ _ _ _ _
    | exact keeps_part15 _ _ _ _ _ _ _ _ _ _ _ _ _ _ _ _ _ _ _ _ _ _ _ _ _ _ _ _ _ _ _ _ _ _ _ _ _ _ _ _
    | exact keeps_part16 _ _ _ _ _ _ _ _ _ _ _ _ _ _ _ _ _ _ _ _ _ _ _ _ _ _ _ _ _ _ _ _ _ _ _ _ _ _ _ _
    | exact keeps_part17 _ _ _ _ _ _ _ _ _ _ _ _ _ _ _ _ _ _ _ _ _ _ _ _ _ _ _ _ _ _ _ _ _
    | exact keeps_part18 _ _ _ _ _ _ _ _ _ _ _ _ _ _ _ _ _ _ _ _ _ _ _ _ _ _ _ _ _ _ _ _ _ _ _ _
    | exact keeps_part19 _ _ _ _ _ _ _ _ _ _ _ _ _ _ _ _ _ _ _ _ _ _ _ _ _ _ _ _ _ _ _ _ _ _ _ _ _ _ _
    | exact keeps_part20 _ _ _ _ _ _ _ _ _ _ _ _ _ _ _ _ _ _ _ _ _ _ _ _ _ _ _ _ _ _ _ _ _ _ _ _ _ _ _ _ _ _
    | refine Keeps.load ?_ | refine Keeps.store ?_ | exact Lends.head | exact Lends.last | refine Lends.tail ?_)

/-- A trip of the loop keeps the buffers. -/
theorem keeps_t1_body (v5 v6 v8 v385 v745 : _) (k : Fin _) (acc : _) :
    K F c arg2 arg3 arg4 arg5 arg6 arg7 arg8 arg9 arg10 arg11 arg12 arg13 arg14 arg15 (k0_t1_body i arg2 harg2 arg3
      harg3 arg4 harg4 arg5 harg5 arg6 harg6 arg7 harg7 arg8 harg8 arg9 harg9 arg10 harg10 arg11 harg11 arg12 harg12
      arg13 harg13 arg14 harg14 arg15 harg15 v5 v6 v8 v385 v745 k acc) := by
  unfold k0_t1_body
  repeat (with_reducible first
    | refine Keeps.bind ?_ fun _ => ?_ | exact Keeps.pure _
    | exact keeps_part21 _ _ _ _ _ _ _ _ _ _ _ _ _ _ _ _ _ _ _ _ _ _ _ _ _ _ _ _ _ _ _ _ _ _ _ _
    | refine Keeps.dite (fun _ => ?_) fun _ => ?_ | refine Keeps.loop _ _ _ fun _ _ => ?_ | split)

/-- `k0_part37` keeps the buffers. -/
theorem keeps_part37 (v5 v6 v8 v385 v745 : _) :
    K F c arg2 arg3 arg4 arg5 arg6 arg7 arg8 arg9 arg10 arg11 arg12 arg13 arg14 arg15 (k0_part37 i arg2 harg2 arg3
      harg3 arg4 harg4 arg5 harg5 arg6 harg6 arg7 harg7 arg8 harg8 arg9 harg9 arg10 harg10 arg11 harg11 arg12 harg12
      arg13 harg13 arg14 harg14 arg15 harg15 v5 v6 v8 v385 v745) := by
  rw [k0_part37_eq_skeleton]; unfold k0_part37_skel
  repeat (with_reducible first
    | refine Keeps.bind ?_ fun _ => ?_ | exact Keeps.pure _
    | exact keeps_t1_body _ _ _ _ _ _ _ _ _ _ _ _ _ _ _ _ _ _ _ _ _ _ _ _ _ _ _ _ _ _ _ _ _ _ _ _ _
    | refine Keeps.load ?_ | refine Keeps.store ?_ | exact Lends.head | exact Lends.last | refine Lends.tail ?_
    | refine Keeps.dite (fun _ => ?_) fun _ => ?_ | refine Keeps.loop _ _ _ fun _ _ => ?_ | split)

/-- `k0_part38` keeps the buffers. -/
theorem keeps_part38 (v8 v754 v760 v765 v768 v770 : _) :
    K F c arg2 arg3 arg4 arg5 arg6 arg7 arg8 arg9 arg10 arg11 arg12 arg13 arg14 arg15 (k0_part38 i arg2 harg2 arg3
      harg3 arg4 harg4 arg5 harg5 arg6 harg6 arg7 harg7 arg8 harg8 arg9 harg9 arg10 harg10 arg11 harg11 arg12 harg12
      arg13 harg13 arg14 harg14 arg15 harg15 v8 v754 v760 v765 v768 v770) := by
  rw [k0_part38_eq_skeleton]; unfold k0_part38_skel
  repeat (with_reducible first
    | refine Keeps.bind ?_ fun _ => ?_ | exact Keeps.pure _ | refine Keeps.load ?_ | refine Keeps.store ?_
    | exact Lends.head | exact Lends.last | refine Lends.tail ?_)

/-- `k0_part39` keeps the buffers. -/
theorem keeps_part39 (v8 v772 v807 v809 : _) :
    K F c arg2 arg3 arg4 arg5 arg6 arg7 arg8 arg9 arg10 arg11 arg12 arg13 arg14 arg15 (k0_part39 i arg2 harg2 arg3
      harg3 arg4 harg4 arg5 harg5 arg6 harg6 arg7 harg7 arg8 harg8 arg9 harg9 arg10 harg10 arg11 harg11 arg12 harg12
      arg13 harg13 arg14 harg14 arg15 harg15 v8 v772 v807 v809) := by
  rw [k0_part39_eq_skeleton]; unfold k0_part39_skel
  repeat (with_reducible first
    | refine Keeps.bind ?_ fun _ => ?_ | exact Keeps.pure _ | refine Keeps.load ?_ | refine Keeps.store ?_
    | exact Lends.head | exact Lends.last | refine Lends.tail ?_)

/-- `k0_part40` keeps the buffers. -/
theorem keeps_part40 (v8 v819 v849 : _) :
    K F c arg2 arg3 arg4 arg5 arg6 arg7 arg8 arg9 arg10 arg11 arg12 arg13 arg14 arg15 (k0_part40 i arg2 harg2 arg3
      harg3 arg4 harg4 arg5 harg5 arg6 harg6 arg7 harg7 arg8 harg8 arg9 harg9 arg10 harg10 arg11 harg11 arg12 harg12
      arg13 harg13 arg14 harg14 arg15 harg15 v8 v819 v849) := by
  rw [k0_part40_eq_skeleton]; unfold k0_part40_skel
  repeat (with_reducible first
    | refine Keeps.bind ?_ fun _ => ?_ | exact Keeps.pure _ | refine Keeps.load ?_ | refine Keeps.store ?_
    | exact Lends.head | exact Lends.last | refine Lends.tail ?_)

/-- `k0_part41` keeps the buffers. -/
theorem keeps_part41 (v866 v880 v884 v885 : _) :
    K F c arg2 arg3 arg4 arg5 arg6 arg7 arg8 arg9 arg10 arg11 arg12 arg13 arg14 arg15 (k0_part41 i arg2 harg2 arg3
      harg3 arg4 harg4 arg5 harg5 arg6 harg6 arg7 harg7 arg8 harg8 arg9 harg9 arg10 harg10 arg11 harg11 arg12 harg12
      arg13 harg13 arg14 harg14 arg15 harg15 v866 v880 v884 v885) := by
  rw [k0_part41_eq_skeleton]; unfold k0_part41_skel
  repeat (with_reducible first
    | refine Keeps.bind ?_ fun _ => ?_ | exact Keeps.pure _ | refine Keeps.load ?_ | refine Keeps.store ?_
    | exact Lends.head | exact Lends.last | refine Lends.tail ?_)

/-- The body keeps the buffers. -/
theorem keeps_cc0_gdn :
    K F c arg2 arg3 arg4 arg5 arg6 arg7 arg8 arg9 arg10 arg11 arg12 arg13 arg14 arg15 (cc0_gdn i arg2 harg2 arg3 harg3
      arg4 harg4 arg5 harg5 arg6 harg6 arg7 harg7 arg8 harg8 arg9 harg9 arg10 harg10 arg11 harg11 arg12 harg12 arg13
      harg13 arg14 harg14 arg15 harg15) := by
  rw [cc0_gdn_eq_skeleton]; unfold cc0_gdn_skel
  repeat (with_reducible first
    | refine Keeps.bind ?_ fun _ => ?_ | exact Keeps.pure _
    | exact keeps_part22 _ _ _ _ _ _ _ _ _ _ _ _ _ _ _ _ _ _ _ _ _ _ _ _ _ _ _ _ _ _
    | exact keeps_part23 _ _ _ _ _ _ _ _ _ _ _ _ _ _ _ _ _ _ _ _ _ _ _ _ _ _ _ _ _ _ _ _ _ _ _
    | exact keeps_part24 _ _ _ _ _ _ _ _ _ _ _ _ _ _ _ _ _ _ _ _ _ _ _ _ _ _ _ _ _ _ _ _ _ _ _
    | exact keeps_part25 _ _ _ _ _ _ _ _ _ _ _ _ _ _ _ _ _ _ _ _ _ _ _ _ _ _ _ _ _ _ _ _ _ _
    | exact keeps_part26 _ _ _ _ _ _ _ _ _ _ _ _ _ _ _ _ _ _ _ _ _ _ _ _ _ _ _ _ _ _ _
    | exact keeps_part27 _ _ _ _ _ _ _ _ _ _ _ _ _ _ _ _ _ _ _ _ _ _ _ _ _ _ _ _ _ _ _ _ _ _ _ _ _ _ _ _ _ _ _ _ _ _ _
    | exact keeps_part28 _ _ _ _ _ _ _ _ _ _ _ _ _ _ _ _ _ _ _ _ _ _ _ _ _ _ _ _ _ _ _ _ _ _ _ _ _ _ _ _ _ _ _ _ _ _ _ _
    | exact keeps_part29 _ _ _ _ _ _ _ _ _ _ _ _ _ _ _ _ _ _ _ _ _ _ _ _ _ _ _ _ _ _ _ _ _ _ _ _ _ _
    | exact keeps_part30 _ _ _ _ _ _ _ _ _ _ _ _ _ _ _ _ _ _ _ _ _ _ _ _ _ _ _ _ _ _ _ _ _ _ _ _
    | exact keeps_part31 _ _ _ _ _ _ _ _ _ _ _ _ _ _ _ _ _ _ _ _ _ _ _ _ _ _ _ _ _ _ _ _ _ _ _ _ _
    | exact keeps_part32 _ _ _ _ _ _ _ _ _ _ _ _ _ _ _ _ _ _ _ _ _ _ _ _ _ _ _ _ _ _ _ _ _ _ _ _ _
    | exact keeps_part33 _ _ _ _ _ _ _ _ _ _ _ _ _ _ _ _ _ _ _ _ _ _ _ _ _ _ _ _ _ _ _ _ _ _ _ _ _ _ _
    | exact keeps_part34 _ _ _ _ _ _ _ _ _ _ _ _ _ _ _ _ _ _ _ _ _ _ _ _ _ _ _ _ _ _ _ _ _ _ _ _
    | exact keeps_part35 _ _ _ _ _ _ _ _ _ _ _ _ _ _ _ _ _ _ _ _ _ _ _ _ _ _ _ _ _ _ _ _ _ _ _ _ _
    | exact keeps_part36 _ _ _ _ _ _ _ _ _ _ _ _ _ _ _ _ _ _ _ _ _ _ _ _ _ _ _ _ _ _ _ _ _ _ _ _ _ _ _ _ _ _ _ _
    | exact keeps_part37 _ _ _ _ _ _ _ _ _ _ _ _ _ _ _ _ _ _ _ _ _ _ _ _ _ _ _ _ _ _ _ _ _ _ _
    | exact keeps_part38 _ _ _ _ _ _ _ _ _ _ _ _ _ _ _ _ _ _ _ _ _ _ _ _ _ _ _ _ _ _ _ _ _ _ _ _
    | exact keeps_part39 _ _ _ _ _ _ _ _ _ _ _ _ _ _ _ _ _ _ _ _ _ _ _ _ _ _ _ _ _ _ _ _ _ _
    | exact keeps_part40 _ _ _ _ _ _ _ _ _ _ _ _ _ _ _ _ _ _ _ _ _ _ _ _ _ _ _ _ _ _ _ _ _
    | exact keeps_part41 _ _ _ _ _ _ _ _ _ _ _ _ _ _ _ _ _ _ _ _ _ _ _ _ _ _ _ _ _ _ _ _ _ _ | refine Keeps.load ?_
    | refine Keeps.store ?_ | exact Lends.head | exact Lends.last | refine Lends.tail ?_)

end Cert.Proof.Gdn

end
-- ==== Proof.GdnFrame.lean ====
/- The frame of the call: from any memory with zero counters its run ends, its arguments unchanged and its counters zero.
   What the blocks and the scratch buffers hold is never named: the body keeps them, whatever they hold. -/
module

public import proofs.«01_k».proof.Defs
public import proofs.«01_k».proof.Proof.GdnBody
public import proofs.«01_k».proof.Proof.Gen.Kernel4Ideal
public import Idealize.ShloMosaic.Lib.Claim

@[expose] public section

set_option maxRecDepth 16384

noncomputable section

namespace Cert.Proof.Gdn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Holding a memref at some contents read through it is holding its elements at some contents. -/
theorem owns_any (c : Dev nD) {sp : Space} {s : Shape} {e : EltTy} (b : Memref sig .tc sp s e) :
    (iprop(∃ X, owns (c : Thread nD τ) b fullShare X) : sProp 𝕄) = anyAt (c : Thread nD τ) b := by
  have h1 : (iprop(∃ X, owns (c : Thread nD τ) b fullShare X) : sProp 𝕄) ⊢ anyAt (c : Thread nD τ) b := by
    unfold owns anyAt
    iintro ⟨%X, %f, -, H⟩
    iexists f
    iexact H
  have h2 : (anyAt (c : Thread nD τ) b : sProp 𝕄) ⊢ iprop(∃ X, owns (c : Thread nD τ) b fullShare X) := by
    unfold owns anyAt
    iintro ⟨%f, H⟩
    iexists _, f
    isplitr
    · ipureintro; rfl
    iexact H
  exact BI.equiv_iff.mp ⟨h1, h2⟩

/-- The region's data: every array at what the region finds; what the body leaves is not used, every window being taken at
    contents that are not named. -/
def dats (_ : Fin 1) (c : Dev nD) : Dat τ (Elt F) Unit ℕ (UR sig nD τ) ℕ cfg0 c where
  A w := V m c (Pipeline.arrRef spec0 w)
  after _ _ := fun _ => default
  Φ _ := Pipeline.ΦA spec0 c
  q _ := fullShare
  owed _ := 0

/-- The region's arrays are what it finds. -/
theorem A_eq (c : Dev nD) (w : Fin cfg0.W) : (dats m 0 c).A w = V m c (Pipeline.arrRef spec0 w) := by
  dsimp only [dats]

/-- The row of the body table at a grid point is the body there. -/
theorem row (t : Fin cfg0.N) : defs₀ (F := F) .tc cfg0.body (cfg0.bodyArgs t (cfg0.slots t)) = bodyAt0 t := by
  unfold defs₀; rw [Defs.onTc_tc]

/-- The scratch buffers and the generator register at contents that are not named, the buffers as memrefs. -/
theorem rest_eq (c : Dev nD) :
    (Pipeline.ΦA spec0 c : sProp 𝕄)
      = iprop(iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X)) ∗ (∃ r, prngReg c r)) := by
  unfold Pipeline.ΦA; rw [scopedRest0_eq]; simp only [owns_whole]; try rfl

/-- The body at a grid point keeps its windows' buffers and its scratch buffers. -/
theorem sound (c : Dev nD) (t : Fin cfg0.N) (O : sProp 𝕄) :
    iprop((Pipeline.ΦA spec0 c : sProp 𝕄) ∗ O ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X))
      ⊢ wp frame (wpE (defs₀ (F := F)) Variants.none (c : Thread nD τ) none) Set.univ (bodyAt0 t) fun _ =>
        iprop((Pipeline.ΦA spec0 c : sProp 𝕄) ∗ O ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X)) := by
  rw [rest_eq]
  simp only [owns_any]
  iintro ⟨⟨⟨S0, S1, S2, S3, S4, S5, S6⟩, Hg⟩, Ho, H0, H1, H2, H3, H4, H5, H6⟩
  iapply (wp_wand_r _ _ _)
  isplitl [H0 H1 H2 H3 H4 H5 H6 S0 S1 S2 S3 S4 S5 S6]
  · iapply (keeps_cc0_gdn c (grid0.coords t) _ _ _ _ _ _ _ _ _ _ _ _ _ _ _ _ _ _ _ _ _ _ _ _ _ _ _ _).run
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    iexact S6
  iintro %u ⟨H0, H1, H2, H3, H4, H5, H6, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation of the body at every grid point, every window at contents that are not named. -/
theorem obligation (c : Dev nD) :
    Pipeline.BodyObligationLoose (dats (F := F) m 0 c) (defs₀ (F := F)) Variants.none () Set.univ (fun _ => true) := fun t => by
  rw [bigSep_W0, row]
  exact sound c t _

set_option backward.isDefEq.respectTransparency.types false in
/-- The launch: every final state has every array outside the region as the region found it, and the counters zero. -/
theorem run : θ_run defs (onTc (τ := τ) (main (F := F))) (s₀ m ρ) (fun r =>
    Pipeline.RDat.FramePost cfg0 (fun c => (dats m 0 c).toRForget (fun _ => true)) (V m) r ∧ r.2.sem = fun _ => 0) :=
  Pipeline.θ_run_frame_forget (Q' := _) cfgs (dats m) (0 : Fin 1) launch0 defs₀ Variants.none (fun _ => true) m ρ main
    (hbody := obligation m) (hshare := fun c => (dats m 0 c).share_full fun _ => rfl)
    (howed := fun _ _ => rfl) (V := V m) (hmain := hmain m Variants.none) (hA := A_eq m) (hΦ := fun _ _ => rfl)

/-- The frame over any float values: the run ends with the arguments unchanged and the counters zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩) (run m ρ)

/-- The frame of the idealized program. -/
theorem frame_pi : Cert.quiescent_Kernel4Ideal := fun m ρ _ => frame_any m ρ

end Cert.Proof.Gdn

end
-- ==== Proof.MobaBody.lean ====
/- The kernel's body keeps its buffers: whatever they hold when it starts, it runs to its end and holds them again. Every
   part of the body is a sequence of loads and stores through the buffers, so this is proved part by part. -/
module

public import proofs.«01_k».proof.Proof.Keeps
public import proofs.«01_k».proof.Proof.Gen.Kernel5Ideal.Frame
public import proofs.«01_k».proof.Proof.Gen.Kernel5Ideal.Skeleton

@[expose] public section

set_option maxRecDepth 65536

noncomputable section

namespace Cert.Proof.Moba

open Cert.Kernel5Ideal Cert.Kernel5Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers of the body, each held at contents that are not named. -/
abbrev held (c : Dev nD) (arg3 : Memref sig .tc .vmem S1x256x512 .f32) (arg4 : Memref sig .tc .vmem S1x4096x512 .f32) (arg5 : Memref sig .tc .vmem S1x4096x512 .bf16) (arg6 : Memref sig .tc .vmem S1x128 .f32) (arg7 : Memref sig .tc .vmem S1x128 .f32) (arg8 : Memref sig .tc .vmem S256x128 .f32) (arg9 : Memref sig .tc .vmem S256x128 .f32) (arg10 : Memref sig .tc .vmem S4096x128 .f32) (arg11 : Memref sig .tc .vmem S4096x128 .f32) (arg12 : Memref sig .tc .vmem S1x256x512 .f32) (arg13 : Memref sig .tc .vmem S4x16x256x128 .bf16) (arg14 : Memref sig .tc .vmem S8x16x80x256 .bf16) (arg15 : Memref sig .tc .vmem S4x16x128 .f32) (arg16 : Memref sig .tc .vmem S8x1x256x256 .bf16) : sProp 𝕄 :=
  iprop(anyAt (c : Thread nD τ) arg3 ∗ anyAt (c : Thread nD τ) arg4 ∗ anyAt (c : Thread nD τ) arg5 ∗ anyAt (c : Thread nD τ) arg6 ∗ anyAt (c : Thread nD τ) arg7 ∗ anyAt (c : Thread nD τ) arg8 ∗ anyAt (c : Thread nD τ) arg9 ∗ anyAt (c : Thread nD τ) arg10 ∗ anyAt (c : Thread nD τ) arg11 ∗ anyAt (c : Thread nD τ) arg12 ∗ anyAt (c : Thread nD τ) arg13 ∗ anyAt (c : Thread nD τ) arg14 ∗ anyAt (c : Thread nD τ) arg15 ∗ anyAt (c : Thread nD τ) arg16)

/-- The program keeps the buffers of the body. -/
abbrev K (F : FTy → Type) [FloatOps F] (c : Dev nD) (arg3 : Memref sig .tc .vmem S1x256x512 .f32) (arg4 : Memref sig .tc .vmem S1x4096x512 .f32) (arg5 : Memref sig .tc .vmem S1x4096x512 .bf16) (arg6 : Memref sig .tc .vmem S1x128 .f32) (arg7 : Memref sig .tc .vmem S1x128 .f32) (arg8 : Memref sig .tc .vmem S256x128 .f32) (arg9 : Memref sig .tc .vmem S256x128 .f32) (arg10 : Memref sig .tc .vmem S4096x128 .f32) (arg11 : Memref sig .tc .vmem S4096x128 .f32) (arg12 : Memref sig .tc .vmem S1x256x512 .f32) (arg13 : Memref sig .tc .vmem S4x16x256x128 .bf16) (arg14 : Memref sig .tc .vmem S8x16x80x256 .bf16) (arg15 : Memref sig .tc .vmem S4x16x128 .f32) (arg16 : Memref sig .tc .vmem S8x1x256x256 .bf16) {α : Type}
    (p : Prog (TpuEff nD τ sig (Elt F) Λ₀ .tc) α) : Prop :=
  Keeps (defs₀ (F := F)) Variants.none (c : Thread nD τ) none (held c arg3 arg4 arg5 arg6 arg7 arg8 arg9 arg10 arg11 arg12 arg13 arg14 arg15 arg16) p

variable (c : Dev nD) (i : grid0.Coords) (arg3 : Memref sig .tc .vmem S1x256x512 .f32) (harg3 : arg3.IsWhole) (arg4 : Memref sig .tc .vmem S1x4096x512 .f32) (harg4 : arg4.IsWhole) (arg5 : Memref sig .tc .vmem S1x4096x512 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1x256x512 .f32) (harg12 : arg12.IsWhole) (arg13 : Memref sig .tc .vmem S4x16x256x128 .bf16) (harg13 : arg13.IsWhole) (arg14 : Memref sig .tc .vmem S8x16x80x256 .bf16) (harg14 : arg14.IsWhole) (arg15 : Memref sig .tc .vmem S4x16x128 .f32) (harg15 : arg15.IsWhole) (arg16 : Memref sig .tc .vmem S8x1x256x256 .bf16) (harg16 : arg16.IsWhole)

/-- `k0_part1` keeps the buffers. -/
theorem keeps_part1 :
    K F c arg3 arg4 arg5 arg6 arg7 arg8 arg9 arg10 arg11 arg12 arg13 arg14 arg15 arg16 (k0_part1 i arg3 harg3 arg4
      harg4 arg5 harg5 arg6 harg6 arg7 harg7 arg8 harg8 arg9 harg9 arg10 harg10 arg11 harg11 arg12 harg12 arg13 harg13
      arg14 harg14 arg15 harg15 arg16 harg16) := by
  rw [k0_part1_eq_skeleton]; unfold k0_part1_skel
  repeat (with_reducible first
    | refine Keeps.bind ?_ fun _ => ?_ | exact Keeps.pure _ | refine Keeps.load ?_ | refine Keeps.store ?_
    | exact Lends.head | exact Lends.last | refine Lends.tail ?_)

/-- `k0_part2` keeps the buffers. -/
theorem keeps_part2 (v1234 v1235 v1236 v1245 v1246 c64_i32_537 v1248 v1262 : _) :
    K F c arg3 arg4 arg5 arg6 arg7 arg8 arg9 arg10 arg11 arg12 arg13 arg14 arg15 arg16 (k0_part2 i arg3 harg3 arg4
      harg4 arg5 harg5 arg6 harg6 arg7 harg7 arg8 harg8 arg9 harg9 arg10 harg10 arg11 harg11 arg12 harg12 arg13 harg13
      arg14 harg14 arg15 harg15 arg16 harg16 v1234 v1235 v1236 v1245 v1246 c64_i32_537 v1248 v1262) := by
  rw [k0_part2_eq_skeleton]; unfold k0_part2_skel
  repeat (with_reducible first
    | refine Keeps.bind ?_ fun _ => ?_ | exact Keeps.pure _)

/-- `k0_part3` keeps the buffers. -/
theorem keeps_part3 (v1234 v1237 v1239 v1241 v1243 v1244 v1299 v1301 v1304 v1306 v1309 v1310 v1311 : _) :
    K F c arg3 arg4 arg5 arg6 arg7 arg8 arg9 arg10 arg11 arg12 arg13 arg14 arg15 arg16 (k0_part3 i arg3 harg3 arg4
      harg4 arg5 harg5 arg6 harg6 arg7 harg7 arg8 harg8 arg9 harg9 arg10 harg10 arg11 harg11 arg12 harg12 arg13 harg13
      arg14 harg14 arg15 harg15 arg16 harg16 v1234 v1237 v1239 v1241 v1243 v1244 v1299 v1301 v1304 v1306 v1309 v1310
      v1311) := by
  rw [k0_part3_eq_skeleton]; unfold k0_part3_skel
  repeat (with_reducible first
    | refine Keeps.bind ?_ fun _ => ?_ | exact Keeps.pure _)

/-- `k0_part4` keeps the buffers. -/
theorem keeps_part4 (v1235 v1236 v1237 v1239 v1241 v1243 v1244 v1328 v1331 v1355 : _) :
    K F c arg3 arg4 arg5 arg6 arg7 arg8 arg9 arg10 arg11 arg12 arg13 arg14 arg15 arg16 (k0_part4 i arg3 harg3 arg4
      harg4 arg5 harg5 arg6 harg6 arg7 harg7 arg8 harg8 arg9 harg9 arg10 harg10 arg11 harg11 arg12 harg12 arg13 harg13
      arg14 harg14 arg15 harg15 arg16 harg16 v1235 v1236 v1237 v1239 v1241 v1243 v1244 v1328 v1331 v1355) := by
  rw [k0_part4_eq_skeleton]; unfold k0_part4_skel
  repeat (with_reducible first
    | refine Keeps.bind ?_ fun _ => ?_ | exact Keeps.pure _)

/-- `k0_part5` keeps the buffers. -/
theorem keeps_part5 (v1229 v1233 v1241 v1243 v1351 v1399 v1401 c8_i32_582 : _) :
    K F c arg3 arg4 arg5 arg6 arg7 arg8 arg9 arg10 arg11 arg12 arg13 arg14 arg15 arg16 (k0_part5 i arg3 harg3 arg4
      harg4 arg5 harg5 arg6 harg6 arg7 harg7 arg8 harg8 arg9 harg9 arg10 harg10 arg11 harg11 arg12 harg12 arg13 harg13
      arg14 harg14 arg15 harg15 arg16 harg16 v1229 v1233 v1241 v1243 v1351 v1399 v1401 c8_i32_582) := by
  rw [k0_part5_eq_skeleton]; unfold k0_part5_skel
  repeat (with_reducible first
    | refine Keeps.bind ?_ fun _ => ?_ | exact Keeps.pure _ | refine Keeps.load ?_ | refine Keeps.store ?_
    | exact Lends.head | exact Lends.last | refine Lends.tail ?_)

/-- `k0_part6` keeps the buffers. -/
theorem keeps_part6 (v1229 v1233 v1371 v1435 : _) :
    K F c arg3 arg4 arg5 arg6 arg7 arg8 arg9 arg10 arg11 arg12 arg13 arg14 arg15 arg16 (k0_part6 i arg3 harg3 arg4
      harg4 arg5 harg5 arg6 harg6 arg7 harg7 arg8 harg8 arg9 harg9 arg10 harg10 arg11 harg11 arg12 harg12 arg13 harg13
      arg14 harg14 arg15 harg15 arg16 harg16 v1229 v1233 v1371 v1435) := by
  rw [k0_part6_eq_skeleton]; unfold k0_part6_skel
  repeat (with_reducible first
    | refine Keeps.bind ?_ fun _ => ?_ | exact Keeps.pure _ | refine Keeps.load ?_ | refine Keeps.store ?_
    | exact Lends.head | exact Lends.last | refine Lends.tail ?_)

/-- `k0_part7` keeps the buffers. -/
theorem keeps_part7 (v1229 v1233 v1391 v1465 : _) :
    K F c arg3 arg4 arg5 arg6 arg7 arg8 arg9 arg10 arg11 arg12 arg13 arg14 arg15 arg16 (k0_part7 i arg3 harg3 arg4
      harg4 arg5 harg5 arg6 harg6 arg7 harg7 arg8 harg8 arg9 harg9 arg10 harg10 arg11 harg11 arg12 harg12 arg13 harg13
      arg14 harg14 arg15 harg15 arg16 harg16 v1229 v1233 v1391 v1465) := by
  rw [k0_part7_eq_skeleton]; unfold k0_part7_skel
  repeat (with_reducible first
    | refine Keeps.bind ?_ fun _ => ?_ | exact Keeps.pure _ | refine Keeps.load ?_ | refine Keeps.store ?_
    | exact Lends.head | exact Lends.last | refine Lends.tail ?_)

/-- `k0_part8` keeps the buffers. -/
theorem keeps_part8 (v1229 v1233 v1411 v1495 : _) :
    K F c arg3 arg4 arg5 arg6 arg7 arg8 arg9 arg10 arg11 arg12 arg13 arg14 arg15 arg16 (k0_part8 i arg3 harg3 arg4
      harg4 arg5 harg5 arg6 harg6 arg7 harg7 arg8 harg8 arg9 harg9 arg10 harg10 arg11 harg11 arg12 harg12 arg13 harg13
      arg14 harg14 arg15 harg15 arg16 harg16 v1229 v1233 v1411 v1495) := by
  rw [k0_part8_eq_skeleton]; unfold k0_part8_skel
  repeat (with_reducible first
    | refine Keeps.bind ?_ fun _ => ?_ | exact Keeps.pure _ | refine Keeps.load ?_ | refine Keeps.store ?_
    | exact Lends.head | exact Lends.last | refine Lends.tail ?_)

/-- `k0_part9` keeps the buffers. -/
theorem keeps_part9 (v1229 v1525 : _) :
    K F c arg3 arg4 arg5 arg6 arg7 arg8 arg9 arg10 arg11 arg12 arg13 arg14 arg15 arg16 (k0_part9 i arg3 harg3 arg4
      harg4 arg5 harg5 arg6 harg6 arg7 harg7 arg8 harg8 arg9 harg9 arg10 harg10 arg11 harg11 arg12 harg12 arg13 harg13
      arg14 harg14 arg15 harg15 arg16 harg16 v1229 v1525) := by
  rw [k0_part9_eq_skeleton]; unfold k0_part9_skel
  repeat (with_reducible first
    | refine Keeps.bind ?_ fun _ => ?_ | exact Keeps.pure _ | refine Keeps.load ?_ | refine Keeps.store ?_
    | exact Lends.head | exact Lends.last | refine Lends.tail ?_)

/-- `k0_part10` keeps the buffers. -/
theorem keeps_part10 (v1536 v1537 v1547 v1548 c64_i32_695 v1550 v1557 v1559 : _) :
    K F c arg3 arg4 arg5 arg6 arg7 arg8 arg9 arg10 arg11 arg12 arg13 arg14 arg15 arg16 (k0_part10 i arg3 harg3 arg4
      harg4 arg5 harg5 arg6 harg6 arg7 harg7 arg8 harg8 arg9 harg9 arg10 harg10 arg11 harg11 arg12 harg12 arg13 harg13
      arg14 harg14 arg15 harg15 arg16 harg16 v1536 v1537 v1547 v1548 c64_i32_695 v1550 v1557 v1559) := by
  rw [k0_part10_eq_skeleton]; unfold k0_part10_skel
  repeat (with_reducible first
    | refine Keeps.bind ?_ fun _ => ?_ | exact Keeps.pure _)

/-- `k0_part11` keeps the buffers. -/
theorem keeps_part11 (v1536 v1538 v1539 v1541 v1543 v1545 v1546 v1601 v1603 v1606 v1607 : _) :
    K F c arg3 arg4 arg5 arg6 arg7 arg8 arg9 arg10 arg11 arg12 arg13 arg14 arg15 arg16 (k0_part11 i arg3 harg3 arg4
      harg4 arg5 harg5 arg6 harg6 arg7 harg7 arg8 harg8 arg9 harg9 arg10 harg10 arg11 harg11 arg12 harg12 arg13 harg13
      arg14 harg14 arg15 harg15 arg16 harg16 v1536 v1538 v1539 v1541 v1543 v1545 v1546 v1601 v1603 v1606 v1607) := by
  rw [k0_part11_eq_skeleton]; unfold k0_part11_skel
  repeat (with_reducible first
    | refine Keeps.bind ?_ fun _ => ?_ | exact Keeps.pure _)

/-- `k0_part12` keeps the buffers. -/
theorem keeps_part12 (v1537 v1538 v1539 v1541 v1543 v1545 v1546 v1627 v1630 v1633 : _) :
    K F c arg3 arg4 arg5 arg6 arg7 arg8 arg9 arg10 arg11 arg12 arg13 arg14 arg15 arg16 (k0_part12 i arg3 harg3 arg4
      harg4 arg5 harg5 arg6 harg6 arg7 harg7 arg8 harg8 arg9 harg9 arg10 harg10 arg11 harg11 arg12 harg12 arg13 harg13
      arg14 harg14 arg15 harg15 arg16 harg16 v1537 v1538 v1539 v1541 v1543 v1545 v1546 v1627 v1630 v1633) := by
  rw [k0_part12_eq_skeleton]; unfold k0_part12_skel
  repeat (with_reducible first
    | refine Keeps.bind ?_ fun _ => ?_ | exact Keeps.pure _)

/-- `k0_part13` keeps the buffers. -/
theorem keeps_part13 (v1229 v1535 v1541 v1543 v1545 v1546 v1653 v1699 : _) :
    K F c arg3 arg4 arg5 arg6 arg7 arg8 arg9 arg10 arg11 arg12 arg13 arg14 arg15 arg16 (k0_part13 i arg3 harg3 arg4
      harg4 arg5 harg5 arg6 harg6 arg7 harg7 arg8 harg8 arg9 harg9 arg10 harg10 arg11 harg11 arg12 harg12 arg13 harg13
      arg14 harg14 arg15 harg15 arg16 harg16 v1229 v1535 v1541 v1543 v1545 v1546 v1653 v1699) := by
  rw [k0_part13_eq_skeleton]; unfold k0_part13_skel
  repeat (with_reducible first
    | refine Keeps.bind ?_ fun _ => ?_ | exact Keeps.pure _ | refine Keeps.load ?_ | refine Keeps.store ?_
    | exact Lends.head | exact Lends.last | refine Lends.tail ?_)

/-- `k0_part14` keeps the buffers. -/
theorem keeps_part14 (v1229 v1535 v1673 v1727 v1735 : _) :
    K F c arg3 arg4 arg5 arg6 arg7 arg8 arg9 arg10 arg11 arg12 arg13 arg14 arg15 arg16 (k0_part14 i arg3 harg3 arg4
      harg4 arg5 harg5 arg6 harg6 arg7 harg7 arg8 harg8 arg9 harg9 arg10 harg10 arg11 harg11 arg12 harg12 arg13 harg13
      arg14 harg14 arg15 harg15 arg16 harg16 v1229 v1535 v1673 v1727 v1735) := by
  rw [k0_part14_eq_skeleton]; unfold k0_part14_skel
  repeat (with_reducible first
    | refine Keeps.bind ?_ fun _ => ?_ | exact Keeps.pure _ | refine Keeps.load ?_ | refine Keeps.store ?_
    | exact Lends.head | exact Lends.last | refine Lends.tail ?_)

/-- `k0_part15` keeps the buffers. -/
theorem keeps_part15 (v1229 v1535 v1693 v1757 : _) :
    K F c arg3 arg4 arg5 arg6 arg7 arg8 arg9 arg10 arg11 arg12 arg13 arg14 arg15 arg16 (k0_part15 i arg3 harg3 arg4
      harg4 arg5 harg5 arg6 harg6 arg7 harg7 arg8 harg8 arg9 harg9 arg10 harg10 arg11 harg11 arg12 harg12 arg13 harg13
      arg14 harg14 arg15 harg15 arg16 harg16 v1229 v1535 v1693 v1757) := by
  rw [k0_part15_eq_skeleton]; unfold k0_part15_skel
  repeat (with_reducible first
    | refine Keeps.bind ?_ fun _ => ?_ | exact Keeps.pure _ | refine Keeps.load ?_ | refine Keeps.store ?_
    | exact Lends.head | exact Lends.last | refine Lends.tail ?_)

/-- `k0_part16` keeps the buffers. -/
theorem keeps_part16 (v1229 v1535 v1713 v1787 v1793 : _) :
    K F c arg3 arg4 arg5 arg6 arg7 arg8 arg9 arg10 arg11 arg12 arg13 arg14 arg15 arg16 (k0_part16 i arg3 harg3 arg4
      harg4 arg5 harg5 arg6 harg6 arg7 harg7 arg8 harg8 arg9 harg9 arg10 harg10 arg11 harg11 arg12 harg12 arg13 harg13
      arg14 harg14 arg15 harg15 arg16 harg16 v1229 v1535 v1713 v1787 v1793) := by
  rw [k0_part16_eq_skeleton]; unfold k0_part16_skel
  repeat (with_reducible first
    | refine Keeps.bind ?_ fun _ => ?_ | exact Keeps.pure _ | refine Keeps.load ?_ | refine Keeps.store ?_
    | exact Lends.head | exact Lends.last | refine Lends.tail ?_)

/-- `k0_part17` keeps the buffers. -/
theorem keeps_part17 (v1229 v1817 : _) :
    K F c arg3 arg4 arg5 arg6 arg7 arg8 arg9 arg10 arg11 arg12 arg13 arg14 arg15 arg16 (k0_part17 i arg3 harg3 arg4
      harg4 arg5 harg5 arg6 harg6 arg7 harg7 arg8 harg8 arg9 harg9 arg10 harg10 arg11 harg11 arg12 harg12 arg13 harg13
      arg14 harg14 arg15 harg15 arg16 harg16 v1229 v1817) := by
  rw [k0_part17_eq_skeleton]; unfold k0_part17_skel
  repeat (with_reducible first
    | refine Keeps.bind ?_ fun _ => ?_ | exact Keeps.pure _ | refine Keeps.load ?_ | refine Keeps.store ?_
    | exact Lends.head | exact Lends.last | refine Lends.tail ?_)

/-- `k0_part18` keeps the buffers. -/
theorem keeps_part18 (v1849 v1850 c64_i32_854 v1852 v1855 v1856 : _) :
    K F c arg3 arg4 arg5 arg6 arg7 arg8 arg9 arg10 arg11 arg12 arg13 arg14 arg15 arg16 (k0_part18 i arg3 harg3 arg4
      harg4 arg5 harg5 arg6 harg6 arg7 harg7 arg8 harg8 arg9 harg9 arg10 harg10 arg11 harg11 arg12 harg12 arg13 harg13
      arg14 harg14 arg15 harg15 arg16 harg16 v1849 v1850 c64_i32_854 v1852 v1855 v1856) := by
  rw [k0_part18_eq_skeleton]; unfold k0_part18_skel
  repeat (with_reducible first
    | refine Keeps.bind ?_ fun _ => ?_ | exact Keeps.pure _)

/-- `k0_part19` keeps the buffers. -/
theorem keeps_part19 (v1838 v1839 v1840 v1841 v1843 v1848 v1903 : _) :
    K F c arg3 arg4 arg5 arg6 arg7 arg8 arg9 arg10 arg11 arg12 arg13 arg14 arg15 arg16 (k0_part19 i arg3 harg3 arg4
      harg4 arg5 harg5 arg6 harg6 arg7 harg7 arg8 harg8 arg9 harg9 arg10 harg10 arg11 harg11 arg12 harg12 arg13 harg13
      arg14 harg14 arg15 harg15 arg16 harg16 v1838 v1839 v1840 v1841 v1843 v1848 v1903) := by
  rw [k0_part19_eq_skeleton]; unfold k0_part19_skel
  repeat (with_reducible first
    | refine Keeps.bind ?_ fun _ => ?_ | exact Keeps.pure _)

/-- `k0_part20` keeps the buffers. -/
theorem keeps_part20 (v1839 v1840 v1843 v1845 v1847 v1848 v1929 v1932 v1943 v1947 v1948 v1949 : _) :
    K F c arg3 arg4 arg5 arg6 arg7 arg8 arg9 arg10 arg11 arg12 arg13 arg14 arg15 arg16 (k0_part20 i arg3 harg3 arg4
      harg4 arg5 harg5 arg6 harg6 arg7 harg7 arg8 harg8 arg9 harg9 arg10 harg10 arg11 harg11 arg12 harg12 arg13 harg13
      arg14 harg14 arg15 harg15 arg16 harg16 v1839 v1840 v1843 v1845 v1847 v1848 v1929 v1932 v1943 v1947 v1948 v1949)
      := by
  rw [k0_part20_eq_skeleton]; unfold k0_part20_skel
  repeat (with_reducible first
    | refine Keeps.bind ?_ fun _ => ?_ | exact Keeps.pure _)

/-- `k0_part21` keeps the buffers. -/
theorem keeps_part21 (v1837 v1841 v1843 v1845 v1847 v1848 v1935 v1955 v1996 : _) :
    K F c arg3 arg4 arg5 arg6 arg7 arg8 arg9 arg10 arg11 arg12 arg13 arg14 arg15 arg16 (k0_part21 i arg3 harg3 arg4
      harg4 arg5 harg5 arg6 harg6 arg7 harg7 arg8 harg8 arg9 harg9 arg10 harg10 arg11 harg11 arg12 harg12 arg13 harg13
      arg14 harg14 arg15 harg15 arg16 harg16 v1837 v1841 v1843 v1845 v1847 v1848 v1935 v1955 v1996) := by
  rw [k0_part21_eq_skeleton]; unfold k0_part21_skel
  repeat (with_reducible first
    | refine Keeps.bind ?_ fun _ => ?_ | exact Keeps.pure _ | refine Keeps.load ?_ | refine Keeps.store ?_
    | exact Lends.head | exact Lends.last | refine Lends.tail ?_)

/-- `k0_part22` keeps the buffers. -/
theorem keeps_part22 (v1229 v1837 v1975 v2029 : _) :
    K F c arg3 arg4 arg5 arg6 arg7 arg8 arg9 arg10 arg11 arg12 arg13 arg14 arg15 arg16 (k0_part22 i arg3 harg3 arg4
      harg4 arg5 harg5 arg6 harg6 arg7 harg7 arg8 harg8 arg9 harg9 arg10 harg10 arg11 harg11 arg12 harg12 arg13 harg13
      arg14 harg14 arg15 harg15 arg16 harg16 v1229 v1837 v1975 v2029) := by
  rw [k0_part22_eq_skeleton]; unfold k0_part22_skel
  repeat (with_reducible first
    | refine Keeps.bind ?_ fun _ => ?_ | exact Keeps.pure _ | refine Keeps.load ?_ | refine Keeps.store ?_
    | exact Lends.head | exact Lends.last | refine Lends.tail ?_)

/-- `k0_part23` keeps the buffers. -/
theorem keeps_part23 (v1229 v1837 v1995 v2059 : _) :
    K F c arg3 arg4 arg5 arg6 arg7 arg8 arg9 arg10 arg11 arg12 arg13 arg14 arg15 arg16 (k0_part23 i arg3 harg3 arg4
      harg4 arg5 harg5 arg6 harg6 arg7 harg7 arg8 harg8 arg9 harg9 arg10 harg10 arg11 harg11 arg12 harg12 arg13 harg13
      arg14 harg14 arg15 harg15 arg16 harg16 v1229 v1837 v1995 v2059) := by
  rw [k0_part23_eq_skeleton]; unfold k0_part23_skel
  repeat (with_reducible first
    | refine Keeps.bind ?_ fun _ => ?_ | exact Keeps.pure _ | refine Keeps.load ?_ | refine Keeps.store ?_
    | exact Lends.head | exact Lends.last | refine Lends.tail ?_)

/-- `k0_part24` keeps the buffers. -/
theorem keeps_part24 (v1229 v1837 v2015 v2089 v2094 : _) :
    K F c arg3 arg4 arg5 arg6 arg7 arg8 arg9 arg10 arg11 arg12 arg13 arg14 arg15 arg16 (k0_part24 i arg3 harg3 arg4
      harg4 arg5 harg5 arg6 harg6 arg7 harg7 arg8 harg8 arg9 harg9 arg10 harg10 arg11 harg11 arg12 harg12 arg13 harg13
      arg14 harg14 arg15 harg15 arg16 harg16 v1229 v1837 v2015 v2089 v2094) := by
  rw [k0_part24_eq_skeleton]; unfold k0_part24_skel
  repeat (with_reducible first
    | refine Keeps.bind ?_ fun _ => ?_ | exact Keeps.pure _ | refine Keeps.load ?_ | refine Keeps.store ?_
    | exact Lends.head | exact Lends.last | refine Lends.tail ?_)

/-- `k0_part25` keeps the buffers. -/
theorem keeps_part25 (v1229 v2119 v2121 : _) :
    K F c arg3 arg4 arg5 arg6 arg7 arg8 arg9 arg10 arg11 arg12 arg13 arg14 arg15 arg16 (k0_part25 i arg3 harg3 arg4
      harg4 arg5 harg5 arg6 harg6 arg7 harg7 arg8 harg8 arg9 harg9 arg10 harg10 arg11 harg11 arg12 harg12 arg13 harg13
      arg14 harg14 arg15 harg15 arg16 harg16 v1229 v2119 v2121) := by
  rw [k0_part25_eq_skeleton]; unfold k0_part25_skel
  repeat (with_reducible first
    | refine Keeps.bind ?_ fun _ => ?_ | exact Keeps.pure _ | refine Keeps.load ?_ | refine Keeps.store ?_
    | exact Lends.head | exact Lends.last | refine Lends.tail ?_)

/-- `k0_part26` keeps the buffers. -/
theorem keeps_part26 (v2151 v2152 c64_i32_1013 v2154 : _) :
    K F c arg3 arg4 arg5 arg6 arg7 arg8 arg9 arg10 arg11 arg12 arg13 arg14 arg15 arg16 (k0_part26 i arg3 harg3 arg4
      harg4 arg5 harg5 arg6 harg6 arg7 harg7 arg8 harg8 arg9 harg9 arg10 harg10 arg11 harg11 arg12 harg12 arg13 harg13
      arg14 harg14 arg15 harg15 arg16 harg16 v2151 v2152 c64_i32_1013 v2154) := by
  rw [k0_part26_eq_skeleton]; unfold k0_part26_skel
  repeat (with_reducible first
    | refine Keeps.bind ?_ fun _ => ?_ | exact Keeps.pure _)

/-- `k0_part27` keeps the buffers. -/
theorem keeps_part27 (v2140 v2141 v2142 v2143 v2145 v2150 v2201 : _) :
    K F c arg3 arg4 arg5 arg6 arg7 arg8 arg9 arg10 arg11 arg12 arg13 arg14 arg15 arg16 (k0_part27 i arg3 harg3 arg4
      harg4 arg5 harg5 arg6 harg6 arg7 harg7 arg8 harg8 arg9 harg9 arg10 harg10 arg11 harg11 arg12 harg12 arg13 harg13
      arg14 harg14 arg15 harg15 arg16 harg16 v2140 v2141 v2142 v2143 v2145 v2150 v2201) := by
  rw [k0_part27_eq_skeleton]; unfold k0_part27_skel
  repeat (with_reducible first
    | refine Keeps.bind ?_ fun _ => ?_ | exact Keeps.pure _)

/-- `k0_part28` keeps the buffers. -/
theorem keeps_part28 (v2141 v2142 v2145 v2147 v2149 v2150 v2231 v2234 v2245 v2247 c8_i32_1040 : _) :
    K F c arg3 arg4 arg5 arg6 arg7 arg8 arg9 arg10 arg11 arg12 arg13 arg14 arg15 arg16 (k0_part28 i arg3 harg3 arg4
      harg4 arg5 harg5 arg6 harg6 arg7 harg7 arg8 harg8 arg9 harg9 arg10 harg10 arg11 harg11 arg12 harg12 arg13 harg13
      arg14 harg14 arg15 harg15 arg16 harg16 v2141 v2142 v2145 v2147 v2149 v2150 v2231 v2234 v2245 v2247 c8_i32_1040)
      := by
  rw [k0_part28_eq_skeleton]; unfold k0_part28_skel
  repeat (with_reducible first
    | refine Keeps.bind ?_ fun _ => ?_ | exact Keeps.pure _)

/-- `k0_part29` keeps the buffers. -/
theorem keeps_part29 (v2139 v2143 v2145 v2147 v2149 v2150 v2237 v2257 v2285 v2290 v2291 v2293 : _) :
    K F c arg3 arg4 arg5 arg6 arg7 arg8 arg9 arg10 arg11 arg12 arg13 arg14 arg15 arg16 (k0_part29 i arg3 harg3 arg4
      harg4 arg5 harg5 arg6 harg6 arg7 harg7 arg8 harg8 arg9 harg9 arg10 harg10 arg11 harg11 arg12 harg12 arg13 harg13
      arg14 harg14 arg15 harg15 arg16 harg16 v2139 v2143 v2145 v2147 v2149 v2150 v2237 v2257 v2285 v2290 v2291 v2293)
      := by
  rw [k0_part29_eq_skeleton]; unfold k0_part29_skel
  repeat (with_reducible first
    | refine Keeps.bind ?_ fun _ => ?_ | exact Keeps.pure _ | refine Keeps.load ?_ | refine Keeps.store ?_
    | exact Lends.head | exact Lends.last | refine Lends.tail ?_)

/-- `k0_part30` keeps the buffers. -/
theorem keeps_part30 (v1229 v2139 v2277 v2331 v2333 : _) :
    K F c arg3 arg4 arg5 arg6 arg7 arg8 arg9 arg10 arg11 arg12 arg13 arg14 arg15 arg16 (k0_part30 i arg3 harg3 arg4
      harg4 arg5 harg5 arg6 harg6 arg7 harg7 arg8 harg8 arg9 harg9 arg10 harg10 arg11 harg11 arg12 harg12 arg13 harg13
      arg14 harg14 arg15 harg15 arg16 harg16 v1229 v2139 v2277 v2331 v2333) := by
  rw [k0_part30_eq_skeleton]; unfold k0_part30_skel
  repeat (with_reducible first
    | refine Keeps.bind ?_ fun _ => ?_ | exact Keeps.pure _ | refine Keeps.load ?_ | refine Keeps.store ?_
    | exact Lends.head | exact Lends.last | refine Lends.tail ?_)

/-- `k0_part31` keeps the buffers. -/
theorem keeps_part31 (v1229 v2139 v2297 v2361 v2363 : _) :
    K F c arg3 arg4 arg5 arg6 arg7 arg8 arg9 arg10 arg11 arg12 arg13 arg14 arg15 arg16 (k0_part31 i arg3 harg3 arg4
      harg4 arg5 harg5 arg6 harg6 arg7 harg7 arg8 harg8 arg9 harg9 arg10 harg10 arg11 harg11 arg12 harg12 arg13 harg13
      arg14 harg14 arg15 harg15 arg16 harg16 v1229 v2139 v2297 v2361 v2363) := by
  rw [k0_part31_eq_skeleton]; unfold k0_part31_skel
  repeat (with_reducible first
    | refine Keeps.bind ?_ fun _ => ?_ | exact Keeps.pure _ | refine Keeps.load ?_ | refine Keeps.store ?_
    | exact Lends.head | exact Lends.last | refine Lends.tail ?_)

/-- `k0_part32` keeps the buffers. -/
theorem keeps_part32 (v1229 v2139 v2317 v2391 v2393 : _) :
    K F c arg3 arg4 arg5 arg6 arg7 arg8 arg9 arg10 arg11 arg12 arg13 arg14 arg15 arg16 (k0_part32 i arg3 harg3 arg4
      harg4 arg5 harg5 arg6 harg6 arg7 harg7 arg8 harg8 arg9 harg9 arg10 harg10 arg11 harg11 arg12 harg12 arg13 harg13
      arg14 harg14 arg15 harg15 arg16 harg16 v1229 v2139 v2317 v2391 v2393) := by
  rw [k0_part32_eq_skeleton]; unfold k0_part32_skel
  repeat (with_reducible first
    | refine Keeps.bind ?_ fun _ => ?_ | exact Keeps.pure _ | refine Keeps.load ?_ | refine Keeps.store ?_
    | exact Lends.head | exact Lends.last | refine Lends.tail ?_)

/-- `k0_part33` keeps the buffers. -/
theorem keeps_part33 (v1229 v2421 v2423 : _) :
    K F c arg3 arg4 arg5 arg6 arg7 arg8 arg9 arg10 arg11 arg12 arg13 arg14 arg15 arg16 (k0_part33 i arg3 harg3 arg4
      harg4 arg5 harg5 arg6 harg6 arg7 harg7 arg8 harg8 arg9 harg9 arg10 harg10 arg11 harg11 arg12 harg12 arg13 harg13
      arg14 harg14 arg15 harg15 arg16 harg16 v1229 v2421 v2423) := by
  rw [k0_part33_eq_skeleton]; unfold k0_part33_skel
  repeat (with_reducible first
    | refine Keeps.bind ?_ fun _ => ?_ | exact Keeps.pure _ | refine Keeps.load ?_ | refine Keeps.store ?_
    | exact Lends.head | exact Lends.last | refine Lends.tail ?_)

/-- `k0_part34` keeps the buffers. -/
theorem keeps_part34 :
    K F c arg3 arg4 arg5 arg6 arg7 arg8 arg9 arg10 arg11 arg12 arg13 arg14 arg15 arg16 (k0_part34 i arg3 harg3 arg4
      harg4 arg5 harg5 arg6 harg6 arg7 harg7 arg8 harg8 arg9 harg9 arg10 harg10 arg11 harg11 arg12 harg12 arg13 harg13
      arg14 harg14 arg15 harg15 arg16 harg16) := by
  rw [k0_part34_eq_skeleton]; unfold k0_part34_skel
  repeat (with_reducible first
    | refine Keeps.bind ?_ fun _ => ?_ | exact Keeps.pure _)

/-- `k0_part35` keeps the buffers. -/
theorem keeps_part35 (v2442 v2443 v2444 v2445 v2478 v2480 v2494 v2498 : _) :
    K F c arg3 arg4 arg5 arg6 arg7 arg8 arg9 arg10 arg11 arg12 arg13 arg14 arg15 arg16 (k0_part35 i arg3 harg3 arg4
      harg4 arg5 harg5 arg6 harg6 arg7 harg7 arg8 harg8 arg9 harg9 arg10 harg10 arg11 harg11 arg12 harg12 arg13 harg13
      arg14 harg14 arg15 harg15 arg16 harg16 v2442 v2443 v2444 v2445 v2478 v2480 v2494 v2498) := by
  rw [k0_part35_eq_skeleton]; unfold k0_part35_skel
  repeat (with_reducible first
    | refine Keeps.bind ?_ fun _ => ?_ | exact Keeps.pure _)

/-- `k0_part36` keeps the buffers. -/
theorem keeps_part36 (v2443 v2444 v2447 v2449 v2451 v2452 v2533 v2536 v2545 : _) :
    K F c arg3 arg4 arg5 arg6 arg7 arg8 arg9 arg10 arg11 arg12 arg13 arg14 arg15 arg16 (k0_part36 i arg3 harg3 arg4
      harg4 arg5 harg5 arg6 harg6 arg7 harg7 arg8 harg8 arg9 harg9 arg10 harg10 arg11 harg11 arg12 harg12 arg13 harg13
      arg14 harg14 arg15 harg15 arg16 harg16 v2443 v2444 v2447 v2449 v2451 v2452 v2533 v2536 v2545) := by
  rw [k0_part36_eq_skeleton]; unfold k0_part36_skel
  repeat (with_reducible first
    | refine Keeps.bind ?_ fun _ => ?_ | exact Keeps.pure _)

/-- `k0_part37` keeps the buffers. -/
theorem keeps_part37 (v2441 v2445 v2447 v2449 v2451 v2452 v2539 v2559 v2587 v2591 : _) :
    K F c arg3 arg4 arg5 arg6 arg7 arg8 arg9 arg10 arg11 arg12 arg13 arg14 arg15 arg16 (k0_part37 i arg3 harg3 arg4
      harg4 arg5 harg5 arg6 harg6 arg7 harg7 arg8 harg8 arg9 harg9 arg10 harg10 arg11 harg11 arg12 harg12 arg13 harg13
      arg14 harg14 arg15 harg15 arg16 harg16 v2441 v2445 v2447 v2449 v2451 v2452 v2539 v2559 v2587 v2591) := by
  rw [k0_part37_eq_skeleton]; unfold k0_part37_skel
  repeat (with_reducible first
    | refine Keeps.bind ?_ fun _ => ?_ | exact Keeps.pure _ | refine Keeps.load ?_ | refine Keeps.store ?_
    | exact Lends.head | exact Lends.last | refine Lends.tail ?_)

/-- `k0_part38` keeps the buffers. -/
theorem keeps_part38 (v1229 v2441 v2579 v2632 : _) :
    K F c arg3 arg4 arg5 arg6 arg7 arg8 arg9 arg10 arg11 arg12 arg13 arg14 arg15 arg16 (k0_part38 i arg3 harg3 arg4
      harg4 arg5 harg5 arg6 harg6 arg7 harg7 arg8 harg8 arg9 harg9 arg10 harg10 arg11 harg11 arg12 harg12 arg13 harg13
      arg14 harg14 arg15 harg15 arg16 harg16 v1229 v2441 v2579 v2632) := by
  rw [k0_part38_eq_skeleton]; unfold k0_part38_skel
  repeat (with_reducible first
    | refine Keeps.bind ?_ fun _ => ?_ | exact Keeps.pure _ | refine Keeps.load ?_ | refine Keeps.store ?_
    | exact Lends.head | exact Lends.last | refine Lends.tail ?_)

/-- `k0_part39` keeps the buffers. -/
theorem keeps_part39 (v1229 v2599 v2661 : _) :
    K F c arg3 arg4 arg5 arg6 arg7 arg8 arg9 arg10 arg11 arg12 arg13 arg14 arg15 arg16 (k0_part39 i arg3 harg3 arg4
      harg4 arg5 harg5 arg6 harg6 arg7 harg7 arg8 harg8 arg9 harg9 arg10 harg10 arg11 harg11 arg12 harg12 arg13 harg13
      arg14 harg14 arg15 harg15 arg16 harg16 v1229 v2599 v2661) := by
  rw [k0_part39_eq_skeleton]; unfold k0_part39_skel
  repeat (with_reducible first
    | refine Keeps.bind ?_ fun _ => ?_ | exact Keeps.pure _ | refine Keeps.load ?_ | refine Keeps.store ?_
    | exact Lends.head | exact Lends.last | refine Lends.tail ?_)

/-- `k0_part40` keeps the buffers. -/
theorem keeps_part40 (v1229 v2441 v2619 : _) :
    K F c arg3 arg4 arg5 arg6 arg7 arg8 arg9 arg10 arg11 arg12 arg13 arg14 arg15 arg16 (k0_part40 i arg3 harg3 arg4
      harg4 arg5 harg5 arg6 harg6 arg7 harg7 arg8 harg8 arg9 harg9 arg10 harg10 arg11 harg11 arg12 harg12 arg13 harg13
      arg14 harg14 arg15 harg15 arg16 harg16 v1229 v2441 v2619) := by
  rw [k0_part40_eq_skeleton]; unfold k0_part40_skel
  repeat (with_reducible first
    | refine Keeps.bind ?_ fun _ => ?_ | exact Keeps.pure _ | refine Keeps.load ?_ | refine Keeps.store ?_
    | exact Lends.head | exact Lends.last | refine Lends.tail ?_)

/-- `k0_part41` keeps the buffers. -/
theorem keeps_part41 (v1229 v2441 v2720 : _) :
    K F c arg3 arg4 arg5 arg6 arg7 arg8 arg9 arg10 arg11 arg12 arg13 arg14 arg15 arg16 (k0_part41 i arg3 harg3 arg4
      harg4 arg5 harg5 arg6 harg6 arg7 harg7 arg8 harg8 arg9 harg9 arg10 harg10 arg11 harg11 arg12 harg12 arg13 harg13
      arg14 harg14 arg15 harg15 arg16 harg16 v1229 v2441 v2720) := by
  rw [k0_part41_eq_skeleton]; unfold k0_part41_skel
  repeat (with_reducible first
    | refine Keeps.bind ?_ fun _ => ?_ | exact Keeps.pure _ | refine Keeps.load ?_ | refine Keeps.store ?_
    | exact Lends.head | exact Lends.last | refine Lends.tail ?_)

/-- `k0_part42` keeps the buffers. -/
theorem keeps_part42 :
    K F c arg3 arg4 arg5 arg6 arg7 arg8 arg9 arg10 arg11 arg12 arg13 arg14 arg15 arg16 (k0_part42 i arg3 harg3 arg4
      harg4 arg5 harg5 arg6 harg6 arg7 harg7 arg8 harg8 arg9 harg9 arg10 harg10 arg11 harg11 arg12 harg12 arg13 harg13
      arg14 harg14 arg15 harg15 arg16 harg16) := by
  rw [k0_part42_eq_skeleton]; unfold k0_part42_skel
  repeat (with_reducible first
    | refine Keeps.bind ?_ fun _ => ?_ | exact Keeps.pure _ | refine Keeps.load ?_ | refine Keeps.store ?_
    | exact Lends.head | exact Lends.last | refine Lends.tail ?_)

/-- `k0_part43` keeps the buffers. -/
theorem keeps_part43 (v2744 v2745 v2746 v2747 v2756 v2780 c64_i32_1338 v2782 v2789 v2795 : _) :
    K F c arg3 arg4 arg5 arg6 arg7 arg8 arg9 arg10 arg11 arg12 arg13 arg14 arg15 arg16 (k0_part43 i arg3 harg3 arg4
      harg4 arg5 harg5 arg6 harg6 arg7 harg7 arg8 harg8 arg9 harg9 arg10 harg10 arg11 harg11 arg12 harg12 arg13 harg13
      arg14 harg14 arg15 harg15 arg16 harg16 v2744 v2745 v2746 v2747 v2756 v2780 c64_i32_1338 v2782 v2789 v2795) := by
  rw [k0_part43_eq_skeleton]; unfold k0_part43_skel
  repeat (with_reducible first
    | refine Keeps.bind ?_ fun _ => ?_ | exact Keeps.pure _)

/-- `k0_part44` keeps the buffers. -/
theorem keeps_part44 (v2744 v2745 v2746 v2749 v2751 v2753 v2754 v2832 v2835 v2838 v2842 : _) :
    K F c arg3 arg4 arg5 arg6 arg7 arg8 arg9 arg10 arg11 arg12 arg13 arg14 arg15 arg16 (k0_part44 i arg3 harg3 arg4
      harg4 arg5 harg5 arg6 harg6 arg7 harg7 arg8 harg8 arg9 harg9 arg10 harg10 arg11 harg11 arg12 harg12 arg13 harg13
      arg14 harg14 arg15 harg15 arg16 harg16 v2744 v2745 v2746 v2749 v2751 v2753 v2754 v2832 v2835 v2838 v2842) := by
  rw [k0_part44_eq_skeleton]; unfold k0_part44_skel
  repeat (with_reducible first
    | refine Keeps.bind ?_ fun _ => ?_ | exact Keeps.pure _)

/-- `k0_part45` keeps the buffers. -/
theorem keeps_part45 (v2747 v2749 v2751 v2753 v2754 v2841 v2861 v2889 : _) :
    K F c arg3 arg4 arg5 arg6 arg7 arg8 arg9 arg10 arg11 arg12 arg13 arg14 arg15 arg16 (k0_part45 i arg3 harg3 arg4
      harg4 arg5 harg5 arg6 harg6 arg7 harg7 arg8 harg8 arg9 harg9 arg10 harg10 arg11 harg11 arg12 harg12 arg13 harg13
      arg14 harg14 arg15 harg15 arg16 harg16 v2747 v2749 v2751 v2753 v2754 v2841 v2861 v2889) := by
  rw [k0_part45_eq_skeleton]; unfold k0_part45_skel
  repeat (with_reducible first
    | refine Keeps.bind ?_ fun _ => ?_ | exact Keeps.pure _ | refine Keeps.load ?_ | refine Keeps.store ?_
    | exact Lends.head | exact Lends.last | refine Lends.tail ?_)

/-- `k0_part46` keeps the buffers. -/
theorem keeps_part46 (v1229 v2743 v2881 v2929 : _) :
    K F c arg3 arg4 arg5 arg6 arg7 arg8 arg9 arg10 arg11 arg12 arg13 arg14 arg15 arg16 (k0_part46 i arg3 harg3 arg4
      harg4 arg5 harg5 arg6 harg6 arg7 harg7 arg8 harg8 arg9 harg9 arg10 harg10 arg11 harg11 arg12 harg12 arg13 harg13
      arg14 harg14 arg15 harg15 arg16 harg16 v1229 v2743 v2881 v2929) := by
  rw [k0_part46_eq_skeleton]; unfold k0_part46_skel
  repeat (with_reducible first
    | refine Keeps.bind ?_ fun _ => ?_ | exact Keeps.pure _ | refine Keeps.load ?_ | refine Keeps.store ?_
    | exact Lends.head | exact Lends.last | refine Lends.tail ?_)

/-- `k0_part47` keeps the buffers. -/
theorem keeps_part47 (v1229 v2743 v2901 v2959 : _) :
    K F c arg3 arg4 arg5 arg6 arg7 arg8 arg9 arg10 arg11 arg12 arg13 arg14 arg15 arg16 (k0_part47 i arg3 harg3 arg4
      harg4 arg5 harg5 arg6 harg6 arg7 harg7 arg8 harg8 arg9 harg9 arg10 harg10 arg11 harg11 arg12 harg12 arg13 harg13
      arg14 harg14 arg15 harg15 arg16 harg16 v1229 v2743 v2901 v2959) := by
  rw [k0_part47_eq_skeleton]; unfold k0_part47_skel
  repeat (with_reducible first
    | refine Keeps.bind ?_ fun _ => ?_ | exact Keeps.pure _ | refine Keeps.load ?_ | refine Keeps.store ?_
    | exact Lends.head | exact Lends.last | refine Lends.tail ?_)

/-- `k0_part48` keeps the buffers. -/
theorem keeps_part48 (v1229 v2743 v2921 v2989 : _) :
    K F c arg3 arg4 arg5 arg6 arg7 arg8 arg9 arg10 arg11 arg12 arg13 arg14 arg15 arg16 (k0_part48 i arg3 harg3 arg4
      harg4 arg5 harg5 arg6 harg6 arg7 harg7 arg8 harg8 arg9 harg9 arg10 harg10 arg11 harg11 arg12 harg12 arg13 harg13
      arg14 harg14 arg15 harg15 arg16 harg16 v1229 v2743 v2921 v2989) := by
  rw [k0_part48_eq_skeleton]; unfold k0_part48_skel
  repeat (with_reducible first
    | refine Keeps.bind ?_ fun _ => ?_ | exact Keeps.pure _ | refine Keeps.load ?_ | refine Keeps.store ?_
    | exact Lends.head | exact Lends.last | refine Lends.tail ?_)

/-- `k0_part49` keeps the buffers. -/
theorem keeps_part49 (v1229 v2743 v3019 : _) :
    K F c arg3 arg4 arg5 arg6 arg7 arg8 arg9 arg10 arg11 arg12 arg13 arg14 arg15 arg16 (k0_part49 i arg3 harg3 arg4
      harg4 arg5 harg5 arg6 harg6 arg7 harg7 arg8 harg8 arg9 harg9 arg10 harg10 arg11 harg11 arg12 harg12 arg13 harg13
      arg14 harg14 arg15 harg15 arg16 harg16 v1229 v2743 v3019) := by
  rw [k0_part49_eq_skeleton]; unfold k0_part49_skel
  repeat (with_reducible first
    | refine Keeps.bind ?_ fun _ => ?_ | exact Keeps.pure _ | refine Keeps.load ?_ | refine Keeps.store ?_
    | exact Lends.head | exact Lends.last | refine Lends.tail ?_)

/-- `k0_part50` keeps the buffers. -/
theorem keeps_part50 :
    K F c arg3 arg4 arg5 arg6 arg7 arg8 arg9 arg10 arg11 arg12 arg13 arg14 arg15 arg16 (k0_part50 i arg3 harg3 arg4
      harg4 arg5 harg5 arg6 harg6 arg7 harg7 arg8 harg8 arg9 harg9 arg10 harg10 arg11 harg11 arg12 harg12 arg13 harg13
      arg14 harg14 arg15 harg15 arg16 harg16) := by
  rw [k0_part50_eq_skeleton]; unfold k0_part50_skel
  repeat (with_reducible first
    | refine Keeps.bind ?_ fun _ => ?_ | exact Keeps.pure _ | refine Keeps.load ?_ | refine Keeps.store ?_
    | exact Lends.head | exact Lends.last | refine Lends.tail ?_)

/-- `k0_part51` keeps the buffers. -/
theorem keeps_part51 (v3046 v3047 v3048 v3049 v3058 v3082 c64_i32_1497 v3084 v3091 v3092 : _) :
    K F c arg3 arg4 arg5 arg6 arg7 arg8 arg9 arg10 arg11 arg12 arg13 arg14 arg15 arg16 (k0_part51 i arg3 harg3 arg4
      harg4 arg5 harg5 arg6 harg6 arg7 harg7 arg8 harg8 arg9 harg9 arg10 harg10 arg11 harg11 arg12 harg12 arg13 harg13
      arg14 harg14 arg15 harg15 arg16 harg16 v3046 v3047 v3048 v3049 v3058 v3082 c64_i32_1497 v3084 v3091 v3092) := by
  rw [k0_part51_eq_skeleton]; unfold k0_part51_skel
  repeat (with_reducible first
    | refine Keeps.bind ?_ fun _ => ?_ | exact Keeps.pure _)

/-- `k0_part52` keeps the buffers. -/
theorem keeps_part52 (v3046 v3047 v3051 v3053 v3055 v3056 v3111 v3128 v3131 v3134 v3137 v3140 cst_1512 : _) :
    K F c arg3 arg4 arg5 arg6 arg7 arg8 arg9 arg10 arg11 arg12 arg13 arg14 arg15 arg16 (k0_part52 i arg3 harg3 arg4
      harg4 arg5 harg5 arg6 harg6 arg7 harg7 arg8 harg8 arg9 harg9 arg10 harg10 arg11 harg11 arg12 harg12 arg13 harg13
      arg14 harg14 arg15 harg15 arg16 harg16 v3046 v3047 v3051 v3053 v3055 v3056 v3111 v3128 v3131 v3134 v3137 v3140
      cst_1512) := by
  rw [k0_part52_eq_skeleton]; unfold k0_part52_skel
  repeat (with_reducible first
    | refine Keeps.bind ?_ fun _ => ?_ | exact Keeps.pure _)

/-- `k0_part53` keeps the buffers. -/
theorem keeps_part53 (v3048 v3049 v3051 v3053 v3055 v3056 v3143 v3163 v3185 cst_1527 : _) :
    K F c arg3 arg4 arg5 arg6 arg7 arg8 arg9 arg10 arg11 arg12 arg13 arg14 arg15 arg16 (k0_part53 i arg3 harg3 arg4
      harg4 arg5 harg5 arg6 harg6 arg7 harg7 arg8 harg8 arg9 harg9 arg10 harg10 arg11 harg11 arg12 harg12 arg13 harg13
      arg14 harg14 arg15 harg15 arg16 harg16 v3048 v3049 v3051 v3053 v3055 v3056 v3143 v3163 v3185 cst_1527) := by
  rw [k0_part53_eq_skeleton]; unfold k0_part53_skel
  repeat (with_reducible first
    | refine Keeps.bind ?_ fun _ => ?_ | exact Keeps.pure _ | refine Keeps.load ?_ | refine Keeps.store ?_
    | exact Lends.head | exact Lends.last | refine Lends.tail ?_)

/-- `k0_part54` keeps the buffers. -/
theorem keeps_part54 (v1229 v3045 v3163 v3183 v3230 : _) :
    K F c arg3 arg4 arg5 arg6 arg7 arg8 arg9 arg10 arg11 arg12 arg13 arg14 arg15 arg16 (k0_part54 i arg3 harg3 arg4
      harg4 arg5 harg5 arg6 harg6 arg7 harg7 arg8 harg8 arg9 harg9 arg10 harg10 arg11 harg11 arg12 harg12 arg13 harg13
      arg14 harg14 arg15 harg15 arg16 harg16 v1229 v3045 v3163 v3183 v3230) := by
  rw [k0_part54_eq_skeleton]; unfold k0_part54_skel
  repeat (with_reducible first
    | refine Keeps.bind ?_ fun _ => ?_ | exact Keeps.pure _ | refine Keeps.load ?_ | refine Keeps.store ?_
    | exact Lends.head | exact Lends.last | refine Lends.tail ?_)

/-- `k0_part55` keeps the buffers. -/
theorem keeps_part55 (v1229 v3045 v3183 v3203 v3257 : _) :
    K F c arg3 arg4 arg5 arg6 arg7 arg8 arg9 arg10 arg11 arg12 arg13 arg14 arg15 arg16 (k0_part55 i arg3 harg3 arg4
      harg4 arg5 harg5 arg6 harg6 arg7 harg7 arg8 harg8 arg9 harg9 arg10 harg10 arg11 harg11 arg12 harg12 arg13 harg13
      arg14 harg14 arg15 harg15 arg16 harg16 v1229 v3045 v3183 v3203 v3257) := by
  rw [k0_part55_eq_skeleton]; unfold k0_part55_skel
  repeat (with_reducible first
    | refine Keeps.bind ?_ fun _ => ?_ | exact Keeps.pure _ | refine Keeps.load ?_ | refine Keeps.store ?_
    | exact Lends.head | exact Lends.last | refine Lends.tail ?_)

/-- `k0_part56` keeps the buffers. -/
theorem keeps_part56 (v1229 v3045 v3203 v3223 v3287 v3288 : _) :
    K F c arg3 arg4 arg5 arg6 arg7 arg8 arg9 arg10 arg11 arg12 arg13 arg14 arg15 arg16 (k0_part56 i arg3 harg3 arg4
      harg4 arg5 harg5 arg6 harg6 arg7 harg7 arg8 harg8 arg9 harg9 arg10 harg10 arg11 harg11 arg12 harg12 arg13 harg13
      arg14 harg14 arg15 harg15 arg16 harg16 v1229 v3045 v3203 v3223 v3287 v3288) := by
  rw [k0_part56_eq_skeleton]; unfold k0_part56_skel
  repeat (with_reducible first
    | refine Keeps.bind ?_ fun _ => ?_ | exact Keeps.pure _ | refine Keeps.load ?_ | refine Keeps.store ?_
    | exact Lends.head | exact Lends.last | refine Lends.tail ?_)

/-- `k0_part57` keeps the buffers. -/
theorem keeps_part57 (v1229 v3045 v3223 v3317 : _) :
    K F c arg3 arg4 arg5 arg6 arg7 arg8 arg9 arg10 arg11 arg12 arg13 arg14 arg15 arg16 (k0_part57 i arg3 harg3 arg4
      harg4 arg5 harg5 arg6 harg6 arg7 harg7 arg8 harg8 arg9 harg9 arg10 harg10 arg11 harg11 arg12 harg12 arg13 harg13
      arg14 harg14 arg15 harg15 arg16 harg16 v1229 v3045 v3223 v3317) := by
  rw [k0_part57_eq_skeleton]; unfold k0_part57_skel
  repeat (with_reducible first
    | refine Keeps.bind ?_ fun _ => ?_ | exact Keeps.pure _ | refine Keeps.load ?_ | refine Keeps.store ?_
    | exact Lends.head | exact Lends.last | refine Lends.tail ?_)

/-- `k0_part58` keeps the buffers. -/
theorem keeps_part58 (v3345 : _) :
    K F c arg3 arg4 arg5 arg6 arg7 arg8 arg9 arg10 arg11 arg12 arg13 arg14 arg15 arg16 (k0_part58 i arg3 harg3 arg4
      harg4 arg5 harg5 arg6 harg6 arg7 harg7 arg8 harg8 arg9 harg9 arg10 harg10 arg11 harg11 arg12 harg12 arg13 harg13
      arg14 harg14 arg15 harg15 arg16 harg16 v3345) := by
  rw [k0_part58_eq_skeleton]; unfold k0_part58_skel
  repeat (with_reducible first
    | refine Keeps.bind ?_ fun _ => ?_ | exact Keeps.pure _ | refine Keeps.load ?_ | refine Keeps.store ?_
    | exact Lends.head | exact Lends.last | refine Lends.tail ?_)

/-- `k0_part59` keeps the buffers. -/
theorem keeps_part59 (v3348 v3349 v3350 v3351 v3360 v3384 c64_i32_1656 v3386 v3389 c0_i32_1658 : _) :
    K F c arg3 arg4 arg5 arg6 arg7 arg8 arg9 arg10 arg11 arg12 arg13 arg14 arg15 arg16 (k0_part59 i arg3 harg3 arg4
      harg4 arg5 harg5 arg6 harg6 arg7 harg7 arg8 harg8 arg9 harg9 arg10 harg10 arg11 harg11 arg12 harg12 arg13 harg13
      arg14 harg14 arg15 harg15 arg16 harg16 v3348 v3349 v3350 v3351 v3360 v3384 c64_i32_1656 v3386 v3389 c0_i32_1658)
      := by
  rw [k0_part59_eq_skeleton]; unfold k0_part59_skel
  repeat (with_reducible first
    | refine Keeps.bind ?_ fun _ => ?_ | exact Keeps.pure _)

/-- `k0_part60` keeps the buffers. -/
theorem keeps_part60 (v3348 v3349 v3353 v3355 v3357 v3358 v3413 v3425 v3428 v3430 v3433 v3436 v3439 : _) :
    K F c arg3 arg4 arg5 arg6 arg7 arg8 arg9 arg10 arg11 arg12 arg13 arg14 arg15 arg16 (k0_part60 i arg3 harg3 arg4
      harg4 arg5 harg5 arg6 harg6 arg7 harg7 arg8 harg8 arg9 harg9 arg10 harg10 arg11 harg11 arg12 harg12 arg13 harg13
      arg14 harg14 arg15 harg15 arg16 harg16 v3348 v3349 v3353 v3355 v3357 v3358 v3413 v3425 v3428 v3430 v3433 v3436
      v3439) := by
  rw [k0_part60_eq_skeleton]; unfold k0_part60_skel
  repeat (with_reducible first
    | refine Keeps.bind ?_ fun _ => ?_ | exact Keeps.pure _)

/-- `k0_part130` keeps the buffers. -/
theorem keeps_part130 :
    K F c arg3 arg4 arg5 arg6 arg7 arg8 arg9 arg10 arg11 arg12 arg13 arg14 arg15 arg16 (k0_part130 i arg3 harg3 arg4
      harg4 arg5 harg5 arg6 harg6 arg7 harg7 arg8 harg8 arg9 harg9 arg10 harg10 arg11 harg11 arg12 harg12 arg13 harg13
      arg14 harg14 arg15 harg15 arg16 harg16) := by
  rw [k0_part130_eq_skeleton]; unfold k0_part130_skel
  repeat (with_reducible first
    | refine Keeps.bind ?_ fun _ => ?_ | exact Keeps.pure _
    | exact keeps_part1 _ _ _ _ _ _ _ _ _ _ _ _ _ _ _ _ _ _ _ _ _ _ _ _ _ _ _ _ _ _
    | exact keeps_part2 _ _ _ _ _ _ _ _ _ _ _ _ _ _ _ _ _ _ _ _ _ _ _ _ _ _ _ _ _ _ _ _ _ _ _ _ _ _
    | exact keeps_part3 _ _ _ _ _ _ _ _ _ _ _ _ _ _ _ _ _ _ _ _ _ _ _ _ _ _ _ _ _ _ _ _ _ _ _ _ _ _ _ _ _ _ _
    | exact keeps_part4 _ _ _ _ _ _ _ _ _ _ _ _ _ _ _ _ _ _ _ _ _ _ _ _ _ _ _ _ _ _ _ _ _ _ _ _ _ _ _ _
    | exact keeps_part5 _ _ _ _ _ _ _ _ _ _ _ _ _ _ _ _ _ _ _ _ _ _ _ _ _ _ _ _ _ _ _ _ _ _ _ _ _ _
    | exact keeps_part6 _ _ _ _ _ _ _ _ _ _ _ _ _ _ _ _ _ _ _ _ _ _ _ _ _ _ _ _ _ _ _ _ _ _
    | exact keeps_part7 _ _ _ _ _ _ _ _ _ _ _ _ _ _ _ _ _ _ _ _ _ _ _ _ _ _ _ _ _ _ _ _ _ _
    | exact keeps_part8 _ _ _ _ _ _ _ _ _ _ _ _ _ _ _ _ _ _ _ _ _ _ _ _ _ _ _ _ _ _ _ _ _ _
    | exact keeps_part9 _ _ _ _ _ _ _ _ _ _ _ _ _ _ _ _ _ _ _ _ _ _ _ _ _ _ _ _ _ _ _ _
    | exact keeps_part10 _ _ _ _ _ _ _ _ _ _ _ _ _ _ _ _ _ _ _ _ _ _ _ _ _ _ _ _ _ _ _ _ _ _ _ _ _ _
    | exact keeps_part11 _ _ _ _ _ _ _ _ _ _ _ _ _ _ _ _ _ _ _ _ _ _ _ _ _ _ _ _ _ _ _ _ _ _ _ _ _ _ _ _ _
    | exact keeps_part12 _ _ _ _ _ _ _ _ _ _ _ _ _ _ _ _ _ _ _ _ _ _ _ _ _ _ _ _ _ _ _ _ _ _ _ _ _ _ _ _
    | exact keeps_part13 _ _ _ _ _ _ _ _ _ _ _ _ _ _ _ _ _ _ _ _ _ _ _ _ _ _ _ _ _ _ _ _ _ _ _ _ _ _
    | exact keeps_part14 _ _ _ _ _ _ _ _ _ _ _ _ _ _ _ _ _ _ _ _ _ _ _ _ _ _ _ _ _ _ _ _ _ _ _
    | exact keeps_part15 _ _ _ _ _ _ _ _ _ _ _ _ _ _ _ _ _ _ _ _ _ _ _ _ _ _ _ _ _ _ _ _ _ _
    | exact keeps_part16 _ _ _ _ _ _ _ _ _ _ _ _ _ _ _ _ _ _ _ _ _ _ _ _ _ _ _ _ _ _ _ _ _ _ _
    | exact keeps_part17 _ _ _ _ _ _ _ _ _ _ _ _ _ _ _ _ _ _ _ _ _ _ _ _ _ _ _ _ _ _ _ _
    | exact keeps_part18 _ _ _ _ _ _ _ _ _ _ _ _ _ _ _ _ _ _ _ _ _ _ _ _ _ _ _ _ _ _ _ _ _ _ _ _
    | exact keeps_part19 _ _ _ _ _ _ _ _ _ _ _ _ _ _ _ _ _ _ _ _ _ _ _ _ _ _ _ _ _ _ _ _ _ _ _ _ _
    | exact keeps_part20 _ _ _ _ _ _ _ _ _ _ _ _ _ _ _ _ _ _ _ _ _ _ _ _ _ _ _ _ _ _ _ _ _ _ _ _ _ _ _ _ _ _
    | exact keeps_part21 _ _ _ _ _ _ _ _ _ _ _ _ _ _ _ _ _ _ _ _ _ _ _ _ _ _ _ _ _ _ _ _ _ _ _ _ _ _ _
    | exact keeps_part22 _ _ _ _ _ _ _ _ _ _ _ _ _ _ _ _ _ _ _ _ _ _ _ _ _ _ _ _ _ _ _ _ _ _
    | exact keeps_part23 _ _ _ _ _ _ _ _ _ _ _ _ _ _ _ _ _ _ _ _ _ _ _ _ _ _ _ _ _ _ _ _ _ _
    | exact keeps_part24 _ _ _ _ _ _ _ _ _ _ _ _ _ _ _ _ _ _ _ _ _ _ _ _ _ _ _ _ _ _ _ _ _ _ _
    | exact keeps_part25 _ _ _ _ _ _ _ _ _ _ _ _ _ _ _ _ _ _ _ _ _ _ _ _ _ _ _ _ _ _ _ _ _
    | exact keeps_part26 _ _ _ _ _ _ _ _ _ _ _ _ _ _ _ _ _ _ _ _ _ _ _ _ _ _ _ _ _ _ _ _ _ _
    | exact keeps_part27 _ _ _ _ _ _ _ _ _ _ _ _ _ _ _ _ _ _ _ _ _ _ _ _ _ _ _ _ _ _ _ _ _ _ _ _ _
    | exact keeps_part28 _ _ _ _ _ _ _ _ _ _ _ _ _ _ _ _ _ _ _ _ _ _ _ _ _ _ _ _ _ _ _ _ _ _ _ _ _ _ _ _ _
    | exact keeps_part29 _ _ _ _ _ _ _ _ _ _ _ _ _ _ _ _ _ _ _ _ _ _ _ _ _ _ _ _ _ _ _ _ _ _ _ _ _ _ _ _ _ _
    | exact keeps_part30 _ _ _ _ _ _ _ _ _ _ _ _ _ _ _ _ _ _ _ _ _ _ _ _ _ _ _ _ _ _ _ _ _ _ _
    | exact keeps_part31 _ _ _ _ _ _ _ _ _ _ _ _ _ _ _ _ _ _ _ _ _ _ _ _ _ _ _ _ _ _ _ _ _ _ _
    | exact keeps_part32 _ _ _ _ _ _ _ _ _ _ _ _ _ _ _ _ _ _ _ _ _ _ _ _ _ _ _ _ _ _ _ _ _ _ _
    | exact keeps_part33 _ _ _ _ _ _ _ _ _ _ _ _ _ _ _ _ _ _ _ _ _ _ _ _ _ _ _ _ _ _ _ _ _
    | exact keeps_part34 _ _ _ _ _ _ _ _ _ _ _ _ _ _ _ _ _ _ _ _ _ _ _ _ _ _ _ _ _ _
    | exact keeps_part35 _ _ _ _ _ _ _ _ _ _ _ _ _ _ _ _ _ _ _ _ _ _ _ _ _ _ _ _ _ _ _ _ _ _ _ _ _ _
    | exact keeps_part36 _ _ _ _ _ _ _ _ _ _ _ _ _ _ _ _ _ _ _ _ _ _ _ _ _ _ _ _ _ _ _ _ _ _ _ _ _ _ _
    | exact keeps_part37 _ _ _ _ _ _ _ _ _ _ _ _ _ _ _ _ _ _ _ _ _ _ _ _ _ _ _ _ _ _ _ _ _ _ _ _ _ _ _ _
    | exact keeps_part38 _ _ _ _ _ _ _ _ _ _ _ _ _ _ _ _ _ _ _ _ _ _ _ _ _ _ _ _ _ _ _ _ _ _
    | exact keeps_part39 _ _ _ _ _ _ _ _ _ _ _ _ _ _ _ _ _ _ _ _ _ _ _ _ _ _ _ _ _ _ _ _ _
    | exact keeps_part40 _ _ _ _ _ _ _ _ _ _ _ _ _ _ _ _ _ _ _ _ _ _ _ _ _ _ _ _ _ _ _ _ _
    | exact keeps_part41 _ _ _ _ _ _ _ _ _ _ _ _ _ _ _ _ _ _ _ _ _ _ _ _ _ _ _ _ _ _ _ _ _
    | exact keeps_part42 _ _ _ _ _ _ _ _ _ _ _ _ _ _ _ _ _ _ _ _ _ _ _ _ _ _ _ _ _ _
    | exact keeps_part43 _ _ _ _ _ _ _ _ _ _ _ _ _ _ _ _ _ _ _ _ _ _ _ _ _ _ _ _ _ _ _ _ _ _ _ _ _ _ _ _
    | exact keeps_part44 _ _ _ _ _ _ _ _ _ _ _ _ _ _ _ _ _ _ _ _ _ _ _ _ _ _ _ _ _ _ _ _ _ _ _ _ _ _ _ _ _
    | exact keeps_part45 _ _ _ _ _ _ _ _ _ _ _ _ _ _ _ _ _ _ _ _ _ _ _ _ _ _ _ _ _ _ _ _ _ _ _ _ _ _
    | exact keeps_part46 _ _ _ _ _ _ _ _ _ _ _ _ _ _ _ _ _ _ _ _ _ _ _ _ _ _ _ _ _ _ _ _ _ _
    | exact keeps_part47 _ _ _ _ _ _ _ _ _ _ _ _ _ _ _ _ _ _ _ _ _ _ _ _ _ _ _ _ _ _ _ _ _ _
    | exact keeps_part48 _ _ _ _ _ _ _ _ _ _ _ _ _ _ _ _ _ _ _ _ _ _ _ _ _ _ _ _ _ _ _ _ _ _
    | exact keeps_part49 _ _ _ _ _ _ _ _ _ _ _ _ _ _ _ _ _ _ _ _ _ _ _ _ _ _ _ _ _ _ _ _ _
    | exact keeps_part50 _ _ _ _ _ _ _ _ _ _ _ _ _ _ _ _ _ _ _ _ _ _ _ _ _ _ _ _ _ _
    | exact keeps_part51 _ _ _ _ _ _ _ _ _ _ _ _ _ _ _ _ _ _ _ _ _ _ _ _ _ _ _ _ _ _ _ _ _ _ _ _ _ _ _ _
    | exact keeps_part52 _ _ _ _ _ _ _ _ _ _ _ _ _ _ _ _ _ _ _ _ _ _ _ _ _ _ _ _ _ _ _ _ _ _ _ _ _ _ _ _ _ _ _
    | exact keeps_part53 _ _ _ _ _ _ _ _ _ _ _ _ _ _ _ _ _ _ _ _ _ _ _ _ _ _ _ _ _ _ _ _ _ _ _ _ _ _ _ _
    | exact keeps_part54 _ _ _ _ _ _ _ _ _ _ _ _ _ _ _ _ _ _ _ _ _ _ _ _ _ _ _ _ _ _ _ _ _ _ _
    | exact keeps_part55 _ _ _ _ _ _ _ _ _ _ _ _ _ _ _ _ _ _ _ _ _ _ _ _ _ _ _ _ _ _ _ _ _ _ _
    | exact keeps_part56 _ _ _ _ _ _ _ _ _ _ _ _ _ _ _ _ _ _ _ _ _ _ _ _ _ _ _ _ _ _ _ _ _ _ _ _
    | exact keeps_part57 _ _ _ _ _ _ _ _ _ _ _ _ _ _ _ _ _ _ _ _ _ _ _ _ _ _ _ _ _ _ _ _ _ _
    | exact keeps_part58 _ _ _ _ _ _ _ _ _ _ _ _ _ _ _ _ _ _ _ _ _ _ _ _ _ _ _ _ _ _ _
    | exact keeps_part59 _ _ _ _ _ _ _ _ _ _ _ _ _ _ _ _ _ _ _ _ _ _ _ _ _ _ _ _ _ _ _ _ _ _ _ _ _ _ _ _
    | exact keeps_part60 _ _ _ _ _ _ _ _ _ _ _ _ _ _ _ _ _ _ _ _ _ _ _ _ _ _ _ _ _ _ _ _ _ _ _ _ _ _ _ _ _ _ _)

/-- `k0_part61` keeps the buffers. -/
theorem keeps_part61 (v3350 v3351 v3353 v3355 v3357 v3358 v3442 v3445 v3465 v3482 v3483 : _) :
    K F c arg3 arg4 arg5 arg6 arg7 arg8 arg9 arg10 arg11 arg12 arg13 arg14 arg15 arg16 (k0_part61 i arg3 harg3 arg4
      harg4 arg5 harg5 arg6 harg6 arg7 harg7 arg8 harg8 arg9 harg9 arg10 harg10 arg11 harg11 arg12 harg12 arg13 harg13
      arg14 harg14 arg15 harg15 arg16 harg16 v3350 v3351 v3353 v3355 v3357 v3358 v3442 v3445 v3465 v3482 v3483) := by
  rw [k0_part61_eq_skeleton]; unfold k0_part61_skel
  repeat (with_reducible first
    | refine Keeps.bind ?_ fun _ => ?_ | exact Keeps.pure _)

/-- `k0_part62` keeps the buffers. -/
theorem keeps_part62 (v1229 v3347 v3465 v3485 v3529 : _) :
    K F c arg3 arg4 arg5 arg6 arg7 arg8 arg9 arg10 arg11 arg12 arg13 arg14 arg15 arg16 (k0_part62 i arg3 harg3 arg4
      harg4 arg5 harg5 arg6 harg6 arg7 harg7 arg8 harg8 arg9 harg9 arg10 harg10 arg11 harg11 arg12 harg12 arg13 harg13
      arg14 harg14 arg15 harg15 arg16 harg16 v1229 v3347 v3465 v3485 v3529) := by
  rw [k0_part62_eq_skeleton]; unfold k0_part62_skel
  repeat (with_reducible first
    | refine Keeps.bind ?_ fun _ => ?_ | exact Keeps.pure _ | refine Keeps.load ?_ | refine Keeps.store ?_
    | exact Lends.head | exact Lends.last | refine Lends.tail ?_)

/-- `k0_part63` keeps the buffers. -/
theorem keeps_part63 (v1229 v3347 v3485 v3505 v3557 v3558 : _) :
    K F c arg3 arg4 arg5 arg6 arg7 arg8 arg9 arg10 arg11 arg12 arg13 arg14 arg15 arg16 (k0_part63 i arg3 harg3 arg4
      harg4 arg5 harg5 arg6 harg6 arg7 harg7 arg8 harg8 arg9 harg9 arg10 harg10 arg11 harg11 arg12 harg12 arg13 harg13
      arg14 harg14 arg15 harg15 arg16 harg16 v1229 v3347 v3485 v3505 v3557 v3558) := by
  rw [k0_part63_eq_skeleton]; unfold k0_part63_skel
  repeat (with_reducible first
    | refine Keeps.bind ?_ fun _ => ?_ | exact Keeps.pure _ | refine Keeps.load ?_ | refine Keeps.store ?_
    | exact Lends.head | exact Lends.last | refine Lends.tail ?_)

/-- `k0_part64` keeps the buffers. -/
theorem keeps_part64 (v1229 v3347 v3505 v3525 v3587 cst_1748 : _) :
    K F c arg3 arg4 arg5 arg6 arg7 arg8 arg9 arg10 arg11 arg12 arg13 arg14 arg15 arg16 (k0_part64 i arg3 harg3 arg4
      harg4 arg5 harg5 arg6 harg6 arg7 harg7 arg8 harg8 arg9 harg9 arg10 harg10 arg11 harg11 arg12 harg12 arg13 harg13
      arg14 harg14 arg15 harg15 arg16 harg16 v1229 v3347 v3505 v3525 v3587 cst_1748) := by
  rw [k0_part64_eq_skeleton]; unfold k0_part64_skel
  repeat (with_reducible first
    | refine Keeps.bind ?_ fun _ => ?_ | exact Keeps.pure _ | refine Keeps.load ?_ | refine Keeps.store ?_
    | exact Lends.head | exact Lends.last | refine Lends.tail ?_)

/-- `k0_part65` keeps the buffers. -/
theorem keeps_part65 (v1229 v3347 v3525 v3617 : _) :
    K F c arg3 arg4 arg5 arg6 arg7 arg8 arg9 arg10 arg11 arg12 arg13 arg14 arg15 arg16 (k0_part65 i arg3 harg3 arg4
      harg4 arg5 harg5 arg6 harg6 arg7 harg7 arg8 harg8 arg9 harg9 arg10 harg10 arg11 harg11 arg12 harg12 arg13 harg13
      arg14 harg14 arg15 harg15 arg16 harg16 v1229 v3347 v3525 v3617) := by
  rw [k0_part65_eq_skeleton]; unfold k0_part65_skel
  repeat (with_reducible first
    | refine Keeps.bind ?_ fun _ => ?_ | exact Keeps.pure _ | refine Keeps.load ?_ | refine Keeps.store ?_
    | exact Lends.head | exact Lends.last | refine Lends.tail ?_)

/-- `k0_part66` keeps the buffers. -/
theorem keeps_part66 :
    K F c arg3 arg4 arg5 arg6 arg7 arg8 arg9 arg10 arg11 arg12 arg13 arg14 arg15 arg16 (k0_part66 i arg3 harg3 arg4
      harg4 arg5 harg5 arg6 harg6 arg7 harg7 arg8 harg8 arg9 harg9 arg10 harg10 arg11 harg11 arg12 harg12 arg13 harg13
      arg14 harg14 arg15 harg15 arg16 harg16) := by
  rw [k0_part66_eq_skeleton]; unfold k0_part66_skel
  repeat (with_reducible first
    | refine Keeps.bind ?_ fun _ => ?_ | exact Keeps.pure _ | refine Keeps.load ?_ | refine Keeps.store ?_
    | exact Lends.head | exact Lends.last | refine Lends.tail ?_)

/-- `k0_part67` keeps the buffers. -/
theorem keeps_part67 (v3650 v3651 v3652 v3653 v3662 v3686 c64_i32_1815 v3687 : _) :
    K F c arg3 arg4 arg5 arg6 arg7 arg8 arg9 arg10 arg11 arg12 arg13 arg14 arg15 arg16 (k0_part67 i arg3 harg3 arg4
      harg4 arg5 harg5 arg6 harg6 arg7 harg7 arg8 harg8 arg9 harg9 arg10 harg10 arg11 harg11 arg12 harg12 arg13 harg13
      arg14 harg14 arg15 harg15 arg16 harg16 v3650 v3651 v3652 v3653 v3662 v3686 c64_i32_1815 v3687) := by
  rw [k0_part67_eq_skeleton]; unfold k0_part67_skel
  repeat (with_reducible first
    | refine Keeps.bind ?_ fun _ => ?_ | exact Keeps.pure _)

/-- `k0_part68` keeps the buffers. -/
theorem keeps_part68 (v3650 v3651 v3655 v3657 v3659 v3660 v3715 v3722 v3725 v3727 v3730 v3732 v3735 v3736 v3737 : _) :
    K F c arg3 arg4 arg5 arg6 arg7 arg8 arg9 arg10 arg11 arg12 arg13 arg14 arg15 arg16 (k0_part68 i arg3 harg3 arg4
      harg4 arg5 harg5 arg6 harg6 arg7 harg7 arg8 harg8 arg9 harg9 arg10 harg10 arg11 harg11 arg12 harg12 arg13 harg13
      arg14 harg14 arg15 harg15 arg16 harg16 v3650 v3651 v3655 v3657 v3659 v3660 v3715 v3722 v3725 v3727 v3730 v3732
      v3735 v3736 v3737) := by
  rw [k0_part68_eq_skeleton]; unfold k0_part68_skel
  repeat (with_reducible first
    | refine Keeps.bind ?_ fun _ => ?_ | exact Keeps.pure _)

/-- `k0_part69` keeps the buffers. -/
theorem keeps_part69 (v3652 v3653 v3655 v3657 v3659 v3660 v3744 v3747 v3775 v3779 v3780 : _) :
    K F c arg3 arg4 arg5 arg6 arg7 arg8 arg9 arg10 arg11 arg12 arg13 arg14 arg15 arg16 (k0_part69 i arg3 harg3 arg4
      harg4 arg5 harg5 arg6 harg6 arg7 harg7 arg8 harg8 arg9 harg9 arg10 harg10 arg11 harg11 arg12 harg12 arg13 harg13
      arg14 harg14 arg15 harg15 arg16 harg16 v3652 v3653 v3655 v3657 v3659 v3660 v3744 v3747 v3775 v3779 v3780) := by
  rw [k0_part69_eq_skeleton]; unfold k0_part69_skel
  repeat (with_reducible first
    | refine Keeps.bind ?_ fun _ => ?_ | exact Keeps.pure _)

/-- `k0_part70` keeps the buffers. -/
theorem keeps_part70 (v1229 v3649 v3767 : _) :
    K F c arg3 arg4 arg5 arg6 arg7 arg8 arg9 arg10 arg11 arg12 arg13 arg14 arg15 arg16 (k0_part70 i arg3 harg3 arg4
      harg4 arg5 harg5 arg6 harg6 arg7 harg7 arg8 harg8 arg9 harg9 arg10 harg10 arg11 harg11 arg12 harg12 arg13 harg13
      arg14 harg14 arg15 harg15 arg16 harg16 v1229 v3649 v3767) := by
  rw [k0_part70_eq_skeleton]; unfold k0_part70_skel
  repeat (with_reducible first
    | refine Keeps.bind ?_ fun _ => ?_ | exact Keeps.pure _ | refine Keeps.load ?_ | refine Keeps.store ?_
    | exact Lends.head | exact Lends.last | refine Lends.tail ?_)

/-- `k0_part71` keeps the buffers. -/
theorem keeps_part71 (v1229 v3649 v3787 v3857 : _) :
    K F c arg3 arg4 arg5 arg6 arg7 arg8 arg9 arg10 arg11 arg12 arg13 arg14 arg15 arg16 (k0_part71 i arg3 harg3 arg4
      harg4 arg5 harg5 arg6 harg6 arg7 harg7 arg8 harg8 arg9 harg9 arg10 harg10 arg11 harg11 arg12 harg12 arg13 harg13
      arg14 harg14 arg15 harg15 arg16 harg16 v1229 v3649 v3787 v3857) := by
  rw [k0_part71_eq_skeleton]; unfold k0_part71_skel
  repeat (with_reducible first
    | refine Keeps.bind ?_ fun _ => ?_ | exact Keeps.pure _ | refine Keeps.load ?_ | refine Keeps.store ?_
    | exact Lends.head | exact Lends.last | refine Lends.tail ?_)

/-- `k0_part72` keeps the buffers. -/
theorem keeps_part72 (v1229 v3649 v3807 : _) :
    K F c arg3 arg4 arg5 arg6 arg7 arg8 arg9 arg10 arg11 arg12 arg13 arg14 arg15 arg16 (k0_part72 i arg3 harg3 arg4
      harg4 arg5 harg5 arg6 harg6 arg7 harg7 arg8 harg8 arg9 harg9 arg10 harg10 arg11 harg11 arg12 harg12 arg13 harg13
      arg14 harg14 arg15 harg15 arg16 harg16 v1229 v3649 v3807) := by
  rw [k0_part72_eq_skeleton]; unfold k0_part72_skel
  repeat (with_reducible first
    | refine Keeps.bind ?_ fun _ => ?_ | exact Keeps.pure _ | refine Keeps.load ?_ | refine Keeps.store ?_
    | exact Lends.head | exact Lends.last | refine Lends.tail ?_)

/-- `k0_part73` keeps the buffers. -/
theorem keeps_part73 (v1229 v3649 v3827 v3915 : _) :
    K F c arg3 arg4 arg5 arg6 arg7 arg8 arg9 arg10 arg11 arg12 arg13 arg14 arg15 arg16 (k0_part73 i arg3 harg3 arg4
      harg4 arg5 harg5 arg6 harg6 arg7 harg7 arg8 harg8 arg9 harg9 arg10 harg10 arg11 harg11 arg12 harg12 arg13 harg13
      arg14 harg14 arg15 harg15 arg16 harg16 v1229 v3649 v3827 v3915) := by
  rw [k0_part73_eq_skeleton]; unfold k0_part73_skel
  repeat (with_reducible first
    | refine Keeps.bind ?_ fun _ => ?_ | exact Keeps.pure _ | refine Keeps.load ?_ | refine Keeps.store ?_
    | exact Lends.head | exact Lends.last | refine Lends.tail ?_)

/-- `k0_part74` keeps the buffers. -/
theorem keeps_part74 (v1229 : _) :
    K F c arg3 arg4 arg5 arg6 arg7 arg8 arg9 arg10 arg11 arg12 arg13 arg14 arg15 arg16 (k0_part74 i arg3 harg3 arg4
      harg4 arg5 harg5 arg6 harg6 arg7 harg7 arg8 harg8 arg9 harg9 arg10 harg10 arg11 harg11 arg12 harg12 arg13 harg13
      arg14 harg14 arg15 harg15 arg16 harg16 v1229) := by
  rw [k0_part74_eq_skeleton]; unfold k0_part74_skel
  repeat (with_reducible first
    | refine Keeps.bind ?_ fun _ => ?_ | exact Keeps.pure _ | refine Keeps.load ?_ | refine Keeps.store ?_
    | exact Lends.head | exact Lends.last | refine Lends.tail ?_)

/-- `k0_part75` keeps the buffers. -/
theorem keeps_part75 (v3952 v3953 v3954 v3955 v3964 v3966 v3985 : _) :
    K F c arg3 arg4 arg5 arg6 arg7 arg8 arg9 arg10 arg11 arg12 arg13 arg14 arg15 arg16 (k0_part75 i arg3 harg3 arg4
      harg4 arg5 harg5 arg6 harg6 arg7 harg7 arg8 harg8 arg9 harg9 arg10 harg10 arg11 harg11 arg12 harg12 arg13 harg13
      arg14 harg14 arg15 harg15 arg16 harg16 v3952 v3953 v3954 v3955 v3964 v3966 v3985) := by
  rw [k0_part75_eq_skeleton]; unfold k0_part75_skel
  repeat (with_reducible first
    | refine Keeps.bind ?_ fun _ => ?_ | exact Keeps.pure _)

/-- `k0_part76` keeps the buffers. -/
theorem keeps_part76 (v3952 v3953 v3957 v3959 v3961 v3962 v4017 v4019 v4022 v4024 v4027 v4029 v4032 v4033 v4034 v4035 : _) :
    K F c arg3 arg4 arg5 arg6 arg7 arg8 arg9 arg10 arg11 arg12 arg13 arg14 arg15 arg16 (k0_part76 i arg3 harg3 arg4
      harg4 arg5 harg5 arg6 harg6 arg7 harg7 arg8 harg8 arg9 harg9 arg10 harg10 arg11 harg11 arg12 harg12 arg13 harg13
      arg14 harg14 arg15 harg15 arg16 harg16 v3952 v3953 v3957 v3959 v3961 v3962 v4017 v4019 v4022 v4024 v4027 v4029
      v4032 v4033 v4034 v4035) := by
  rw [k0_part76_eq_skeleton]; unfold k0_part76_skel
  repeat (with_reducible first
    | refine Keeps.bind ?_ fun _ => ?_ | exact Keeps.pure _)

/-- `k0_part77` keeps the buffers. -/
theorem keeps_part77 (v3954 v3955 v3957 v3959 v3961 v3962 v4046 v4049 v4077 v4078 : _) :
    K F c arg3 arg4 arg5 arg6 arg7 arg8 arg9 arg10 arg11 arg12 arg13 arg14 arg15 arg16 (k0_part77 i arg3 harg3 arg4
      harg4 arg5 harg5 arg6 harg6 arg7 harg7 arg8 harg8 arg9 harg9 arg10 harg10 arg11 harg11 arg12 harg12 arg13 harg13
      arg14 harg14 arg15 harg15 arg16 harg16 v3954 v3955 v3957 v3959 v3961 v3962 v4046 v4049 v4077 v4078) := by
  rw [k0_part77_eq_skeleton]; unfold k0_part77_skel
  repeat (with_reducible first
    | refine Keeps.bind ?_ fun _ => ?_ | exact Keeps.pure _)

/-- `k0_part78` keeps the buffers. -/
theorem keeps_part78 (v1229 v3951 v3959 v3961 v4069 v4117 v4121 v4122 v4123 : _) :
    K F c arg3 arg4 arg5 arg6 arg7 arg8 arg9 arg10 arg11 arg12 arg13 arg14 arg15 arg16 (k0_part78 i arg3 harg3 arg4
      harg4 arg5 harg5 arg6 harg6 arg7 harg7 arg8 harg8 arg9 harg9 arg10 harg10 arg11 harg11 arg12 harg12 arg13 harg13
      arg14 harg14 arg15 harg15 arg16 harg16 v1229 v3951 v3959 v3961 v4069 v4117 v4121 v4122 v4123) := by
  rw [k0_part78_eq_skeleton]; unfold k0_part78_skel
  repeat (with_reducible first
    | refine Keeps.bind ?_ fun _ => ?_ | exact Keeps.pure _ | refine Keeps.load ?_ | refine Keeps.store ?_
    | exact Lends.head | exact Lends.last | refine Lends.tail ?_)

/-- `k0_part79` keeps the buffers. -/
theorem keeps_part79 (v1229 v3951 v4089 : _) :
    K F c arg3 arg4 arg5 arg6 arg7 arg8 arg9 arg10 arg11 arg12 arg13 arg14 arg15 arg16 (k0_part79 i arg3 harg3 arg4
      harg4 arg5 harg5 arg6 harg6 arg7 harg7 arg8 harg8 arg9 harg9 arg10 harg10 arg11 harg11 arg12 harg12 arg13 harg13
      arg14 harg14 arg15 harg15 arg16 harg16 v1229 v3951 v4089) := by
  rw [k0_part79_eq_skeleton]; unfold k0_part79_skel
  repeat (with_reducible first
    | refine Keeps.bind ?_ fun _ => ?_ | exact Keeps.pure _ | refine Keeps.load ?_ | refine Keeps.store ?_
    | exact Lends.head | exact Lends.last | refine Lends.tail ?_)

/-- `k0_part80` keeps the buffers. -/
theorem keeps_part80 (v1229 v3951 v4109 : _) :
    K F c arg3 arg4 arg5 arg6 arg7 arg8 arg9 arg10 arg11 arg12 arg13 arg14 arg15 arg16 (k0_part80 i arg3 harg3 arg4
      harg4 arg5 harg5 arg6 harg6 arg7 harg7 arg8 harg8 arg9 harg9 arg10 harg10 arg11 harg11 arg12 harg12 arg13 harg13
      arg14 harg14 arg15 harg15 arg16 harg16 v1229 v3951 v4109) := by
  rw [k0_part80_eq_skeleton]; unfold k0_part80_skel
  repeat (with_reducible first
    | refine Keeps.bind ?_ fun _ => ?_ | exact Keeps.pure _ | refine Keeps.load ?_ | refine Keeps.store ?_
    | exact Lends.head | exact Lends.last | refine Lends.tail ?_)

/-- `k0_part81` keeps the buffers. -/
theorem keeps_part81 (v1229 v3951 v4129 v4216 : _) :
    K F c arg3 arg4 arg5 arg6 arg7 arg8 arg9 arg10 arg11 arg12 arg13 arg14 arg15 arg16 (k0_part81 i arg3 harg3 arg4
      harg4 arg5 harg5 arg6 harg6 arg7 harg7 arg8 harg8 arg9 harg9 arg10 harg10 arg11 harg11 arg12 harg12 arg13 harg13
      arg14 harg14 arg15 harg15 arg16 harg16 v1229 v3951 v4129 v4216) := by
  rw [k0_part81_eq_skeleton]; unfold k0_part81_skel
  repeat (with_reducible first
    | refine Keeps.bind ?_ fun _ => ?_ | exact Keeps.pure _ | refine Keeps.load ?_ | refine Keeps.store ?_
    | exact Lends.head | exact Lends.last | refine Lends.tail ?_)

/-- `k0_part82` keeps the buffers. -/
theorem keeps_part82 (v1229 v4243 : _) :
    K F c arg3 arg4 arg5 arg6 arg7 arg8 arg9 arg10 arg11 arg12 arg13 arg14 arg15 arg16 (k0_part82 i arg3 harg3 arg4
      harg4 arg5 harg5 arg6 harg6 arg7 harg7 arg8 harg8 arg9 harg9 arg10 harg10 arg11 harg11 arg12 harg12 arg13 harg13
      arg14 harg14 arg15 harg15 arg16 harg16 v1229 v4243) := by
  rw [k0_part82_eq_skeleton]; unfold k0_part82_skel
  repeat (with_reducible first
    | refine Keeps.bind ?_ fun _ => ?_ | exact Keeps.pure _ | refine Keeps.load ?_ | refine Keeps.store ?_
    | exact Lends.head | exact Lends.last | refine Lends.tail ?_)

/-- `k0_part83` keeps the buffers. -/
theorem keeps_part83 (v4254 v4255 v4256 v4265 v4266 c64_i32_2124 v4268 v4282 : _) :
    K F c arg3 arg4 arg5 arg6 arg7 arg8 arg9 arg10 arg11 arg12 arg13 arg14 arg15 arg16 (k0_part83 i arg3 harg3 arg4
      harg4 arg5 harg5 arg6 harg6 arg7 harg7 arg8 harg8 arg9 harg9 arg10 harg10 arg11 harg11 arg12 harg12 arg13 harg13
      arg14 harg14 arg15 harg15 arg16 harg16 v4254 v4255 v4256 v4265 v4266 c64_i32_2124 v4268 v4282) := by
  rw [k0_part83_eq_skeleton]; unfold k0_part83_skel
  repeat (with_reducible first
    | refine Keeps.bind ?_ fun _ => ?_ | exact Keeps.pure _)

/-- `k0_part84` keeps the buffers. -/
theorem keeps_part84 (v4254 v4257 v4259 v4261 v4263 v4264 v4319 v4321 v4324 v4326 v4329 v4330 v4331 : _) :
    K F c arg3 arg4 arg5 arg6 arg7 arg8 arg9 arg10 arg11 arg12 arg13 arg14 arg15 arg16 (k0_part84 i arg3 harg3 arg4
      harg4 arg5 harg5 arg6 harg6 arg7 harg7 arg8 harg8 arg9 harg9 arg10 harg10 arg11 harg11 arg12 harg12 arg13 harg13
      arg14 harg14 arg15 harg15 arg16 harg16 v4254 v4257 v4259 v4261 v4263 v4264 v4319 v4321 v4324 v4326 v4329 v4330
      v4331) := by
  rw [k0_part84_eq_skeleton]; unfold k0_part84_skel
  repeat (with_reducible first
    | refine Keeps.bind ?_ fun _ => ?_ | exact Keeps.pure _)

/-- `k0_part85` keeps the buffers. -/
theorem keeps_part85 (v4255 v4256 v4257 v4259 v4261 v4263 v4264 v4348 v4351 v4375 : _) :
    K F c arg3 arg4 arg5 arg6 arg7 arg8 arg9 arg10 arg11 arg12 arg13 arg14 arg15 arg16 (k0_part85 i arg3 harg3 arg4
      harg4 arg5 harg5 arg6 harg6 arg7 harg7 arg8 harg8 arg9 harg9 arg10 harg10 arg11 harg11 arg12 harg12 arg13 harg13
      arg14 harg14 arg15 harg15 arg16 harg16 v4255 v4256 v4257 v4259 v4261 v4263 v4264 v4348 v4351 v4375) := by
  rw [k0_part85_eq_skeleton]; unfold k0_part85_skel
  repeat (with_reducible first
    | refine Keeps.bind ?_ fun _ => ?_ | exact Keeps.pure _)

/-- `k0_part86` keeps the buffers. -/
theorem keeps_part86 (v1229 v4253 v4261 v4263 v4371 v4419 v4421 c8_i32_2169 : _) :
    K F c arg3 arg4 arg5 arg6 arg7 arg8 arg9 arg10 arg11 arg12 arg13 arg14 arg15 arg16 (k0_part86 i arg3 harg3 arg4
      harg4 arg5 harg5 arg6 harg6 arg7 harg7 arg8 harg8 arg9 harg9 arg10 harg10 arg11 harg11 arg12 harg12 arg13 harg13
      arg14 harg14 arg15 harg15 arg16 harg16 v1229 v4253 v4261 v4263 v4371 v4419 v4421 c8_i32_2169) := by
  rw [k0_part86_eq_skeleton]; unfold k0_part86_skel
  repeat (with_reducible first
    | refine Keeps.bind ?_ fun _ => ?_ | exact Keeps.pure _ | refine Keeps.load ?_ | refine Keeps.store ?_
    | exact Lends.head | exact Lends.last | refine Lends.tail ?_)

/-- `k0_part87` keeps the buffers. -/
theorem keeps_part87 (v1229 v4253 v4391 v4455 : _) :
    K F c arg3 arg4 arg5 arg6 arg7 arg8 arg9 arg10 arg11 arg12 arg13 arg14 arg15 arg16 (k0_part87 i arg3 harg3 arg4
      harg4 arg5 harg5 arg6 harg6 arg7 harg7 arg8 harg8 arg9 harg9 arg10 harg10 arg11 harg11 arg12 harg12 arg13 harg13
      arg14 harg14 arg15 harg15 arg16 harg16 v1229 v4253 v4391 v4455) := by
  rw [k0_part87_eq_skeleton]; unfold k0_part87_skel
  repeat (with_reducible first
    | refine Keeps.bind ?_ fun _ => ?_ | exact Keeps.pure _ | refine Keeps.load ?_ | refine Keeps.store ?_
    | exact Lends.head | exact Lends.last | refine Lends.tail ?_)

/-- `k0_part88` keeps the buffers. -/
theorem keeps_part88 (v1229 v4253 v4411 v4485 : _) :
    K F c arg3 arg4 arg5 arg6 arg7 arg8 arg9 arg10 arg11 arg12 arg13 arg14 arg15 arg16 (k0_part88 i arg3 harg3 arg4
      harg4 arg5 harg5 arg6 harg6 arg7 harg7 arg8 harg8 arg9 harg9 arg10 harg10 arg11 harg11 arg12 harg12 arg13 harg13
      arg14 harg14 arg15 harg15 arg16 harg16 v1229 v4253 v4411 v4485) := by
  rw [k0_part88_eq_skeleton]; unfold k0_part88_skel
  repeat (with_reducible first
    | refine Keeps.bind ?_ fun _ => ?_ | exact Keeps.pure _ | refine Keeps.load ?_ | refine Keeps.store ?_
    | exact Lends.head | exact Lends.last | refine Lends.tail ?_)

/-- `k0_part89` keeps the buffers. -/
theorem keeps_part89 (v1229 v4253 v4431 v4515 : _) :
    K F c arg3 arg4 arg5 arg6 arg7 arg8 arg9 arg10 arg11 arg12 arg13 arg14 arg15 arg16 (k0_part89 i arg3 harg3 arg4
      harg4 arg5 harg5 arg6 harg6 arg7 harg7 arg8 harg8 arg9 harg9 arg10 harg10 arg11 harg11 arg12 harg12 arg13 harg13
      arg14 harg14 arg15 harg15 arg16 harg16 v1229 v4253 v4431 v4515) := by
  rw [k0_part89_eq_skeleton]; unfold k0_part89_skel
  repeat (with_reducible first
    | refine Keeps.bind ?_ fun _ => ?_ | exact Keeps.pure _ | refine Keeps.load ?_ | refine Keeps.store ?_
    | exact Lends.head | exact Lends.last | refine Lends.tail ?_)

/-- `k0_part90` keeps the buffers. -/
theorem keeps_part90 (v1229 v4545 : _) :
    K F c arg3 arg4 arg5 arg6 arg7 arg8 arg9 arg10 arg11 arg12 arg13 arg14 arg15 arg16 (k0_part90 i arg3 harg3 arg4
      harg4 arg5 harg5 arg6 harg6 arg7 harg7 arg8 harg8 arg9 harg9 arg10 harg10 arg11 harg11 arg12 harg12 arg13 harg13
      arg14 harg14 arg15 harg15 arg16 harg16 v1229 v4545) := by
  rw [k0_part90_eq_skeleton]; unfold k0_part90_skel
  repeat (with_reducible first
    | refine Keeps.bind ?_ fun _ => ?_ | exact Keeps.pure _ | refine Keeps.load ?_ | refine Keeps.store ?_
    | exact Lends.head | exact Lends.last | refine Lends.tail ?_)

/-- `k0_part91` keeps the buffers. -/
theorem keeps_part91 (v4556 v4557 v4567 v4568 c64_i32_2282 v4570 v4577 v4579 : _) :
    K F c arg3 arg4 arg5 arg6 arg7 arg8 arg9 arg10 arg11 arg12 arg13 arg14 arg15 arg16 (k0_part91 i arg3 harg3 arg4
      harg4 arg5 harg5 arg6 harg6 arg7 harg7 arg8 harg8 arg9 harg9 arg10 harg10 arg11 harg11 arg12 harg12 arg13 harg13
      arg14 harg14 arg15 harg15 arg16 harg16 v4556 v4557 v4567 v4568 c64_i32_2282 v4570 v4577 v4579) := by
  rw [k0_part91_eq_skeleton]; unfold k0_part91_skel
  repeat (with_reducible first
    | refine Keeps.bind ?_ fun _ => ?_ | exact Keeps.pure _)

/-- `k0_part92` keeps the buffers. -/
theorem keeps_part92 (v4556 v4558 v4559 v4561 v4563 v4565 v4566 v4621 v4623 v4626 v4627 : _) :
    K F c arg3 arg4 arg5 arg6 arg7 arg8 arg9 arg10 arg11 arg12 arg13 arg14 arg15 arg16 (k0_part92 i arg3 harg3 arg4
      harg4 arg5 harg5 arg6 harg6 arg7 harg7 arg8 harg8 arg9 harg9 arg10 harg10 arg11 harg11 arg12 harg12 arg13 harg13
      arg14 harg14 arg15 harg15 arg16 harg16 v4556 v4558 v4559 v4561 v4563 v4565 v4566 v4621 v4623 v4626 v4627) := by
  rw [k0_part92_eq_skeleton]; unfold k0_part92_skel
  repeat (with_reducible first
    | refine Keeps.bind ?_ fun _ => ?_ | exact Keeps.pure _)

/-- `k0_part93` keeps the buffers. -/
theorem keeps_part93 (v4557 v4558 v4559 v4561 v4563 v4565 v4566 v4647 v4650 v4653 : _) :
    K F c arg3 arg4 arg5 arg6 arg7 arg8 arg9 arg10 arg11 arg12 arg13 arg14 arg15 arg16 (k0_part93 i arg3 harg3 arg4
      harg4 arg5 harg5 arg6 harg6 arg7 harg7 arg8 harg8 arg9 harg9 arg10 harg10 arg11 harg11 arg12 harg12 arg13 harg13
      arg14 harg14 arg15 harg15 arg16 harg16 v4557 v4558 v4559 v4561 v4563 v4565 v4566 v4647 v4650 v4653) := by
  rw [k0_part93_eq_skeleton]; unfold k0_part93_skel
  repeat (with_reducible first
    | refine Keeps.bind ?_ fun _ => ?_ | exact Keeps.pure _)

/-- `k0_part94` keeps the buffers. -/
theorem keeps_part94 (v1229 v4555 v4561 v4563 v4565 v4566 v4673 v4719 : _) :
    K F c arg3 arg4 arg5 arg6 arg7 arg8 arg9 arg10 arg11 arg12 arg13 arg14 arg15 arg16 (k0_part94 i arg3 harg3 arg4
      harg4 arg5 harg5 arg6 harg6 arg7 harg7 arg8 harg8 arg9 harg9 arg10 harg10 arg11 harg11 arg12 harg12 arg13 harg13
      arg14 harg14 arg15 harg15 arg16 harg16 v1229 v4555 v4561 v4563 v4565 v4566 v4673 v4719) := by
  rw [k0_part94_eq_skeleton]; unfold k0_part94_skel
  repeat (with_reducible first
    | refine Keeps.bind ?_ fun _ => ?_ | exact Keeps.pure _ | refine Keeps.load ?_ | refine Keeps.store ?_
    | exact Lends.head | exact Lends.last | refine Lends.tail ?_)

/-- `k0_part95` keeps the buffers. -/
theorem keeps_part95 (v1229 v4555 v4693 v4747 v4755 : _) :
    K F c arg3 arg4 arg5 arg6 arg7 arg8 arg9 arg10 arg11 arg12 arg13 arg14 arg15 arg16 (k0_part95 i arg3 harg3 arg4
      harg4 arg5 harg5 arg6 harg6 arg7 harg7 arg8 harg8 arg9 harg9 arg10 harg10 arg11 harg11 arg12 harg12 arg13 harg13
      arg14 harg14 arg15 harg15 arg16 harg16 v1229 v4555 v4693 v4747 v4755) := by
  rw [k0_part95_eq_skeleton]; unfold k0_part95_skel
  repeat (with_reducible first
    | refine Keeps.bind ?_ fun _ => ?_ | exact Keeps.pure _ | refine Keeps.load ?_ | refine Keeps.store ?_
    | exact Lends.head | exact Lends.last | refine Lends.tail ?_)

/-- `k0_part96` keeps the buffers. -/
theorem keeps_part96 (v1229 v4555 v4713 v4777 : _) :
    K F c arg3 arg4 arg5 arg6 arg7 arg8 arg9 arg10 arg11 arg12 arg13 arg14 arg15 arg16 (k0_part96 i arg3 harg3 arg4
      harg4 arg5 harg5 arg6 harg6 arg7 harg7 arg8 harg8 arg9 harg9 arg10 harg10 arg11 harg11 arg12 harg12 arg13 harg13
      arg14 harg14 arg15 harg15 arg16 harg16 v1229 v4555 v4713 v4777) := by
  rw [k0_part96_eq_skeleton]; unfold k0_part96_skel
  repeat (with_reducible first
    | refine Keeps.bind ?_ fun _ => ?_ | exact Keeps.pure _ | refine Keeps.load ?_ | refine Keeps.store ?_
    | exact Lends.head | exact Lends.last | refine Lends.tail ?_)

/-- `k0_part97` keeps the buffers. -/
theorem keeps_part97 (v1229 v4555 v4733 v4807 v4813 : _) :
    K F c arg3 arg4 arg5 arg6 arg7 arg8 arg9 arg10 arg11 arg12 arg13 arg14 arg15 arg16 (k0_part97 i arg3 harg3 arg4
      harg4 arg5 harg5 arg6 harg6 arg7 harg7 arg8 harg8 arg9 harg9 arg10 harg10 arg11 harg11 arg12 harg12 arg13 harg13
      arg14 harg14 arg15 harg15 arg16 harg16 v1229 v4555 v4733 v4807 v4813) := by
  rw [k0_part97_eq_skeleton]; unfold k0_part97_skel
  repeat (with_reducible first
    | refine Keeps.bind ?_ fun _ => ?_ | exact Keeps.pure _ | refine Keeps.load ?_ | refine Keeps.store ?_
    | exact Lends.head | exact Lends.last | refine Lends.tail ?_)

/-- `k0_part98` keeps the buffers. -/
theorem keeps_part98 (v1229 v4837 : _) :
    K F c arg3 arg4 arg5 arg6 arg7 arg8 arg9 arg10 arg11 arg12 arg13 arg14 arg15 arg16 (k0_part98 i arg3 harg3 arg4
      harg4 arg5 harg5 arg6 harg6 arg7 harg7 arg8 harg8 arg9 harg9 arg10 harg10 arg11 harg11 arg12 harg12 arg13 harg13
      arg14 harg14 arg15 harg15 arg16 harg16 v1229 v4837) := by
  rw [k0_part98_eq_skeleton]; unfold k0_part98_skel
  repeat (with_reducible first
    | refine Keeps.bind ?_ fun _ => ?_ | exact Keeps.pure _ | refine Keeps.load ?_ | refine Keeps.store ?_
    | exact Lends.head | exact Lends.last | refine Lends.tail ?_)

/-- `k0_part99` keeps the buffers. -/
theorem keeps_part99 (v4869 v4870 c64_i32_2440 v4872 v4875 v4876 : _) :
    K F c arg3 arg4 arg5 arg6 arg7 arg8 arg9 arg10 arg11 arg12 arg13 arg14 arg15 arg16 (k0_part99 i arg3 harg3 arg4
      harg4 arg5 harg5 arg6 harg6 arg7 harg7 arg8 harg8 arg9 harg9 arg10 harg10 arg11 harg11 arg12 harg12 arg13 harg13
      arg14 harg14 arg15 harg15 arg16 harg16 v4869 v4870 c64_i32_2440 v4872 v4875 v4876) := by
  rw [k0_part99_eq_skeleton]; unfold k0_part99_skel
  repeat (with_reducible first
    | refine Keeps.bind ?_ fun _ => ?_ | exact Keeps.pure _)

/-- `k0_part100` keeps the buffers. -/
theorem keeps_part100 (v4858 v4859 v4860 v4861 v4863 v4868 v4923 : _) :
    K F c arg3 arg4 arg5 arg6 arg7 arg8 arg9 arg10 arg11 arg12 arg13 arg14 arg15 arg16 (k0_part100 i arg3 harg3 arg4
      harg4 arg5 harg5 arg6 harg6 arg7 harg7 arg8 harg8 arg9 harg9 arg10 harg10 arg11 harg11 arg12 harg12 arg13 harg13
      arg14 harg14 arg15 harg15 arg16 harg16 v4858 v4859 v4860 v4861 v4863 v4868 v4923) := by
  rw [k0_part100_eq_skeleton]; unfold k0_part100_skel
  repeat (with_reducible first
    | refine Keeps.bind ?_ fun _ => ?_ | exact Keeps.pure _)

/-- `k0_part101` keeps the buffers. -/
theorem keeps_part101 (v4859 v4860 v4863 v4865 v4867 v4868 v4949 v4952 v4963 v4967 v4968 v4969 : _) :
    K F c arg3 arg4 arg5 arg6 arg7 arg8 arg9 arg10 arg11 arg12 arg13 arg14 arg15 arg16 (k0_part101 i arg3 harg3 arg4
      harg4 arg5 harg5 arg6 harg6 arg7 harg7 arg8 harg8 arg9 harg9 arg10 harg10 arg11 harg11 arg12 harg12 arg13 harg13
      arg14 harg14 arg15 harg15 arg16 harg16 v4859 v4860 v4863 v4865 v4867 v4868 v4949 v4952 v4963 v4967 v4968 v4969)
      := by
  rw [k0_part101_eq_skeleton]; unfold k0_part101_skel
  repeat (with_reducible first
    | refine Keeps.bind ?_ fun _ => ?_ | exact Keeps.pure _)

/-- `k0_part102` keeps the buffers. -/
theorem keeps_part102 (v4857 v4861 v4863 v4865 v4867 v4868 v4955 v4975 v5016 : _) :
    K F c arg3 arg4 arg5 arg6 arg7 arg8 arg9 arg10 arg11 arg12 arg13 arg14 arg15 arg16 (k0_part102 i arg3 harg3 arg4
      harg4 arg5 harg5 arg6 harg6 arg7 harg7 arg8 harg8 arg9 harg9 arg10 harg10 arg11 harg11 arg12 harg12 arg13 harg13
      arg14 harg14 arg15 harg15 arg16 harg16 v4857 v4861 v4863 v4865 v4867 v4868 v4955 v4975 v5016) := by
  rw [k0_part102_eq_skeleton]; unfold k0_part102_skel
  repeat (with_reducible first
    | refine Keeps.bind ?_ fun _ => ?_ | exact Keeps.pure _ | refine Keeps.load ?_ | refine Keeps.store ?_
    | exact Lends.head | exact Lends.last | refine Lends.tail ?_)

/-- `k0_part103` keeps the buffers. -/
theorem keeps_part103 (v1229 v4857 v4995 v5049 : _) :
    K F c arg3 arg4 arg5 arg6 arg7 arg8 arg9 arg10 arg11 arg12 arg13 arg14 arg15 arg16 (k0_part103 i arg3 harg3 arg4
      harg4 arg5 harg5 arg6 harg6 arg7 harg7 arg8 harg8 arg9 harg9 arg10 harg10 arg11 harg11 arg12 harg12 arg13 harg13
      arg14 harg14 arg15 harg15 arg16 harg16 v1229 v4857 v4995 v5049) := by
  rw [k0_part103_eq_skeleton]; unfold k0_part103_skel
  repeat (with_reducible first
    | refine Keeps.bind ?_ fun _ => ?_ | exact Keeps.pure _ | refine Keeps.load ?_ | refine Keeps.store ?_
    | exact Lends.head | exact Lends.last | refine Lends.tail ?_)

/-- `k0_part104` keeps the buffers. -/
theorem keeps_part104 (v1229 v4857 v5015 v5079 : _) :
    K F c arg3 arg4 arg5 arg6 arg7 arg8 arg9 arg10 arg11 arg12 arg13 arg14 arg15 arg16 (k0_part104 i arg3 harg3 arg4
      harg4 arg5 harg5 arg6 harg6 arg7 harg7 arg8 harg8 arg9 harg9 arg10 harg10 arg11 harg11 arg12 harg12 arg13 harg13
      arg14 harg14 arg15 harg15 arg16 harg16 v1229 v4857 v5015 v5079) := by
  rw [k0_part104_eq_skeleton]; unfold k0_part104_skel
  repeat (with_reducible first
    | refine Keeps.bind ?_ fun _ => ?_ | exact Keeps.pure _ | refine Keeps.load ?_ | refine Keeps.store ?_
    | exact Lends.head | exact Lends.last | refine Lends.tail ?_)

/-- `k0_part105` keeps the buffers. -/
theorem keeps_part105 (v1229 v4857 v5035 v5109 v5114 : _) :
    K F c arg3 arg4 arg5 arg6 arg7 arg8 arg9 arg10 arg11 arg12 arg13 arg14 arg15 arg16 (k0_part105 i arg3 harg3 arg4
      harg4 arg5 harg5 arg6 harg6 arg7 harg7 arg8 harg8 arg9 harg9 arg10 harg10 arg11 harg11 arg12 harg12 arg13 harg13
      arg14 harg14 arg15 harg15 arg16 harg16 v1229 v4857 v5035 v5109 v5114) := by
  rw [k0_part105_eq_skeleton]; unfold k0_part105_skel
  repeat (with_reducible first
    | refine Keeps.bind ?_ fun _ => ?_ | exact Keeps.pure _ | refine Keeps.load ?_ | refine Keeps.store ?_
    | exact Lends.head | exact Lends.last | refine Lends.tail ?_)

/-- `k0_part106` keeps the buffers. -/
theorem keeps_part106 (v1229 v5139 v5141 : _) :
    K F c arg3 arg4 arg5 arg6 arg7 arg8 arg9 arg10 arg11 arg12 arg13 arg14 arg15 arg16 (k0_part106 i arg3 harg3 arg4
      harg4 arg5 harg5 arg6 harg6 arg7 harg7 arg8 harg8 arg9 harg9 arg10 harg10 arg11 harg11 arg12 harg12 arg13 harg13
      arg14 harg14 arg15 harg15 arg16 harg16 v1229 v5139 v5141) := by
  rw [k0_part106_eq_skeleton]; unfold k0_part106_skel
  repeat (with_reducible first
    | refine Keeps.bind ?_ fun _ => ?_ | exact Keeps.pure _ | refine Keeps.load ?_ | refine Keeps.store ?_
    | exact Lends.head | exact Lends.last | refine Lends.tail ?_)

/-- `k0_part107` keeps the buffers. -/
theorem keeps_part107 (v5171 v5172 c64_i32_2598 v5174 : _) :
    K F c arg3 arg4 arg5 arg6 arg7 arg8 arg9 arg10 arg11 arg12 arg13 arg14 arg15 arg16 (k0_part107 i arg3 harg3 arg4
      harg4 arg5 harg5 arg6 harg6 arg7 harg7 arg8 harg8 arg9 harg9 arg10 harg10 arg11 harg11 arg12 harg12 arg13 harg13
      arg14 harg14 arg15 harg15 arg16 harg16 v5171 v5172 c64_i32_2598 v5174) := by
  rw [k0_part107_eq_skeleton]; unfold k0_part107_skel
  repeat (with_reducible first
    | refine Keeps.bind ?_ fun _ => ?_ | exact Keeps.pure _)

/-- `k0_part108` keeps the buffers. -/
theorem keeps_part108 (v5160 v5161 v5162 v5163 v5165 v5170 v5221 : _) :
    K F c arg3 arg4 arg5 arg6 arg7 arg8 arg9 arg10 arg11 arg12 arg13 arg14 arg15 arg16 (k0_part108 i arg3 harg3 arg4
      harg4 arg5 harg5 arg6 harg6 arg7 harg7 arg8 harg8 arg9 harg9 arg10 harg10 arg11 harg11 arg12 harg12 arg13 harg13
      arg14 harg14 arg15 harg15 arg16 harg16 v5160 v5161 v5162 v5163 v5165 v5170 v5221) := by
  rw [k0_part108_eq_skeleton]; unfold k0_part108_skel
  repeat (with_reducible first
    | refine Keeps.bind ?_ fun _ => ?_ | exact Keeps.pure _)

/-- `k0_part109` keeps the buffers. -/
theorem keeps_part109 (v5161 v5162 v5165 v5167 v5169 v5170 v5251 v5254 v5265 v5267 c8_i32_2625 : _) :
    K F c arg3 arg4 arg5 arg6 arg7 arg8 arg9 arg10 arg11 arg12 arg13 arg14 arg15 arg16 (k0_part109 i arg3 harg3 arg4
      harg4 arg5 harg5 arg6 harg6 arg7 harg7 arg8 harg8 arg9 harg9 arg10 harg10 arg11 harg11 arg12 harg12 arg13 harg13
      arg14 harg14 arg15 harg15 arg16 harg16 v5161 v5162 v5165 v5167 v5169 v5170 v5251 v5254 v5265 v5267 c8_i32_2625)
      := by
  rw [k0_part109_eq_skeleton]; unfold k0_part109_skel
  repeat (with_reducible first
    | refine Keeps.bind ?_ fun _ => ?_ | exact Keeps.pure _)

/-- `k0_part110` keeps the buffers. -/
theorem keeps_part110 (v5159 v5163 v5165 v5167 v5169 v5170 v5257 v5277 v5305 v5310 v5311 v5313 : _) :
    K F c arg3 arg4 arg5 arg6 arg7 arg8 arg9 arg10 arg11 arg12 arg13 arg14 arg15 arg16 (k0_part110 i arg3 harg3 arg4
      harg4 arg5 harg5 arg6 harg6 arg7 harg7 arg8 harg8 arg9 harg9 arg10 harg10 arg11 harg11 arg12 harg12 arg13 harg13
      arg14 harg14 arg15 harg15 arg16 harg16 v5159 v5163 v5165 v5167 v5169 v5170 v5257 v5277 v5305 v5310 v5311 v5313)
      := by
  rw [k0_part110_eq_skeleton]; unfold k0_part110_skel
  repeat (with_reducible first
    | refine Keeps.bind ?_ fun _ => ?_ | exact Keeps.pure _ | refine Keeps.load ?_ | refine Keeps.store ?_
    | exact Lends.head | exact Lends.last | refine Lends.tail ?_)

/-- `k0_part111` keeps the buffers. -/
theorem keeps_part111 (v1229 v5159 v5297 v5351 v5353 : _) :
    K F c arg3 arg4 arg5 arg6 arg7 arg8 arg9 arg10 arg11 arg12 arg13 arg14 arg15 arg16 (k0_part111 i arg3 harg3 arg4
      harg4 arg5 harg5 arg6 harg6 arg7 harg7 arg8 harg8 arg9 harg9 arg10 harg10 arg11 harg11 arg12 harg12 arg13 harg13
      arg14 harg14 arg15 harg15 arg16 harg16 v1229 v5159 v5297 v5351 v5353) := by
  rw [k0_part111_eq_skeleton]; unfold k0_part111_skel
  repeat (with_reducible first
    | refine Keeps.bind ?_ fun _ => ?_ | exact Keeps.pure _ | refine Keeps.load ?_ | refine Keeps.store ?_
    | exact Lends.head | exact Lends.last | refine Lends.tail ?_)

/-- `k0_part112` keeps the buffers. -/
theorem keeps_part112 (v1229 v5159 v5317 v5381 v5383 : _) :
    K F c arg3 arg4 arg5 arg6 arg7 arg8 arg9 arg10 arg11 arg12 arg13 arg14 arg15 arg16 (k0_part112 i arg3 harg3 arg4
      harg4 arg5 harg5 arg6 harg6 arg7 harg7 arg8 harg8 arg9 harg9 arg10 harg10 arg11 harg11 arg12 harg12 arg13 harg13
      arg14 harg14 arg15 harg15 arg16 harg16 v1229 v5159 v5317 v5381 v5383) := by
  rw [k0_part112_eq_skeleton]; unfold k0_part112_skel
  repeat (with_reducible first
    | refine Keeps.bind ?_ fun _ => ?_ | exact Keeps.pure _ | refine Keeps.load ?_ | refine Keeps.store ?_
    | exact Lends.head | exact Lends.last | refine Lends.tail ?_)

/-- `k0_part113` keeps the buffers. -/
theorem keeps_part113 (v1229 v5159 v5337 v5411 v5413 : _) :
    K F c arg3 arg4 arg5 arg6 arg7 arg8 arg9 arg10 arg11 arg12 arg13 arg14 arg15 arg16 (k0_part113 i arg3 harg3 arg4
      harg4 arg5 harg5 arg6 harg6 arg7 harg7 arg8 harg8 arg9 harg9 arg10 harg10 arg11 harg11 arg12 harg12 arg13 harg13
      arg14 harg14 arg15 harg15 arg16 harg16 v1229 v5159 v5337 v5411 v5413) := by
  rw [k0_part113_eq_skeleton]; unfold k0_part113_skel
  repeat (with_reducible first
    | refine Keeps.bind ?_ fun _ => ?_ | exact Keeps.pure _ | refine Keeps.load ?_ | refine Keeps.store ?_
    | exact Lends.head | exact Lends.last | refine Lends.tail ?_)

/-- `k0_part114` keeps the buffers. -/
theorem keeps_part114 (v1229 v5441 v5443 : _) :
    K F c arg3 arg4 arg5 arg6 arg7 arg8 arg9 arg10 arg11 arg12 arg13 arg14 arg15 arg16 (k0_part114 i arg3 harg3 arg4
      harg4 arg5 harg5 arg6 harg6 arg7 harg7 arg8 harg8 arg9 harg9 arg10 harg10 arg11 harg11 arg12 harg12 arg13 harg13
      arg14 harg14 arg15 harg15 arg16 harg16 v1229 v5441 v5443) := by
  rw [k0_part114_eq_skeleton]; unfold k0_part114_skel
  repeat (with_reducible first
    | refine Keeps.bind ?_ fun _ => ?_ | exact Keeps.pure _ | refine Keeps.load ?_ | refine Keeps.store ?_
    | exact Lends.head | exact Lends.last | refine Lends.tail ?_)

/-- `k0_part115` keeps the buffers. -/
theorem keeps_part115 :
    K F c arg3 arg4 arg5 arg6 arg7 arg8 arg9 arg10 arg11 arg12 arg13 arg14 arg15 arg16 (k0_part115 i arg3 harg3 arg4
      harg4 arg5 harg5 arg6 harg6 arg7 harg7 arg8 harg8 arg9 harg9 arg10 harg10 arg11 harg11 arg12 harg12 arg13 harg13
      arg14 harg14 arg15 harg15 arg16 harg16) := by
  rw [k0_part115_eq_skeleton]; unfold k0_part115_skel
  repeat (with_reducible first
    | refine Keeps.bind ?_ fun _ => ?_ | exact Keeps.pure _)

/-- `k0_part116` keeps the buffers. -/
theorem keeps_part116 (v5462 v5463 v5464 v5465 v5498 v5500 v5514 v5518 : _) :
    K F c arg3 arg4 arg5 arg6 arg7 arg8 arg9 arg10 arg11 arg12 arg13 arg14 arg15 arg16 (k0_part116 i arg3 harg3 arg4
      harg4 arg5 harg5 arg6 harg6 arg7 harg7 arg8 harg8 arg9 harg9 arg10 harg10 arg11 harg11 arg12 harg12 arg13 harg13
      arg14 harg14 arg15 harg15 arg16 harg16 v5462 v5463 v5464 v5465 v5498 v5500 v5514 v5518) := by
  rw [k0_part116_eq_skeleton]; unfold k0_part116_skel
  repeat (with_reducible first
    | refine Keeps.bind ?_ fun _ => ?_ | exact Keeps.pure _)

/-- `k0_part117` keeps the buffers. -/
theorem keeps_part117 (v5463 v5464 v5467 v5469 v5471 v5472 v5553 v5556 v5565 : _) :
    K F c arg3 arg4 arg5 arg6 arg7 arg8 arg9 arg10 arg11 arg12 arg13 arg14 arg15 arg16 (k0_part117 i arg3 harg3 arg4
      harg4 arg5 harg5 arg6 harg6 arg7 harg7 arg8 harg8 arg9 harg9 arg10 harg10 arg11 harg11 arg12 harg12 arg13 harg13
      arg14 harg14 arg15 harg15 arg16 harg16 v5463 v5464 v5467 v5469 v5471 v5472 v5553 v5556 v5565) := by
  rw [k0_part117_eq_skeleton]; unfold k0_part117_skel
  repeat (with_reducible first
    | refine Keeps.bind ?_ fun _ => ?_ | exact Keeps.pure _)

/-- `k0_part118` keeps the buffers. -/
theorem keeps_part118 (v5461 v5465 v5467 v5469 v5471 v5472 v5559 v5579 v5607 v5611 : _) :
    K F c arg3 arg4 arg5 arg6 arg7 arg8 arg9 arg10 arg11 arg12 arg13 arg14 arg15 arg16 (k0_part118 i arg3 harg3 arg4
      harg4 arg5 harg5 arg6 harg6 arg7 harg7 arg8 harg8 arg9 harg9 arg10 harg10 arg11 harg11 arg12 harg12 arg13 harg13
      arg14 harg14 arg15 harg15 arg16 harg16 v5461 v5465 v5467 v5469 v5471 v5472 v5559 v5579 v5607 v5611) := by
  rw [k0_part118_eq_skeleton]; unfold k0_part118_skel
  repeat (with_reducible first
    | refine Keeps.bind ?_ fun _ => ?_ | exact Keeps.pure _ | refine Keeps.load ?_ | refine Keeps.store ?_
    | exact Lends.head | exact Lends.last | refine Lends.tail ?_)

/-- `k0_part119` keeps the buffers. -/
theorem keeps_part119 (v1229 v5461 v5599 v5652 : _) :
    K F c arg3 arg4 arg5 arg6 arg7 arg8 arg9 arg10 arg11 arg12 arg13 arg14 arg15 arg16 (k0_part119 i arg3 harg3 arg4
      harg4 arg5 harg5 arg6 harg6 arg7 harg7 arg8 harg8 arg9 harg9 arg10 harg10 arg11 harg11 arg12 harg12 arg13 harg13
      arg14 harg14 arg15 harg15 arg16 harg16 v1229 v5461 v5599 v5652) := by
  rw [k0_part119_eq_skeleton]; unfold k0_part119_skel
  repeat (with_reducible first
    | refine Keeps.bind ?_ fun _ => ?_ | exact Keeps.pure _ | refine Keeps.load ?_ | refine Keeps.store ?_
    | exact Lends.head | exact Lends.last | refine Lends.tail ?_)

/-- `k0_part120` keeps the buffers. -/
theorem keeps_part120 (v1229 v5619 v5681 : _) :
    K F c arg3 arg4 arg5 arg6 arg7 arg8 arg9 arg10 arg11 arg12 arg13 arg14 arg15 arg16 (k0_part120 i arg3 harg3 arg4
      harg4 arg5 harg5 arg6 harg6 arg7 harg7 arg8 harg8 arg9 harg9 arg10 harg10 arg11 harg11 arg12 harg12 arg13 harg13
      arg14 harg14 arg15 harg15 arg16 harg16 v1229 v5619 v5681) := by
  rw [k0_part120_eq_skeleton]; unfold k0_part120_skel
  repeat (with_reducible first
    | refine Keeps.bind ?_ fun _ => ?_ | exact Keeps.pure _ | refine Keeps.load ?_ | refine Keeps.store ?_
    | exact Lends.head | exact Lends.last | refine Lends.tail ?_)

/-- `k0_part131` keeps the buffers. -/
theorem keeps_part131 (v1229 v3347 v3350 v3351 v3353 v3355 v3357 v3358 v3442 v3445 v3465 v3482 v3483 : _) :
    K F c arg3 arg4 arg5 arg6 arg7 arg8 arg9 arg10 arg11 arg12 arg13 arg14 arg15 arg16 (k0_part131 i arg3 harg3 arg4
      harg4 arg5 harg5 arg6 harg6 arg7 harg7 arg8 harg8 arg9 harg9 arg10 harg10 arg11 harg11 arg12 harg12 arg13 harg13
      arg14 harg14 arg15 harg15 arg16 harg16 v1229 v3347 v3350 v3351 v3353 v3355 v3357 v3358 v3442 v3445 v3465 v3482
      v3483) := by
  rw [k0_part131_eq_skeleton]; unfold k0_part131_skel
  repeat (with_reducible first
    | refine Keeps.bind ?_ fun _ => ?_ | exact Keeps.pure _
    | exact keeps_part61 _ _ _ _ _ _ _ _ _ _ _ _ _ _ _ _ _ _ _ _ _ _ _ _ _ _ _ _ _ _ _ _ _ _ _ _ _ _ _ _ _
    | exact keeps_part62 _ _ _ _ _ _ _ _ _ _ _ _ _ _ _ _ _ _ _ _ _ _ _ _ _ _ _ _ _ _ _ _ _ _ _
    | exact keeps_part63 _ _ _ _ _ _ _ _ _ _ _ _ _ _ _ _ _ _ _ _ _ _ _ _ _ _ _ _ _ _ _ _ _ _ _ _
    | exact keeps_part64 _ _ _ _ _ _ _ _ _ _ _ _ _ _ _ _ _ _ _ _ _ _ _ _ _ _ _ _ _ _ _ _ _ _ _ _
    | exact keeps_part65 _ _ _ _ _ _ _ _ _ _ _ _ _ _ _ _ _ _ _ _ _ _ _ _ _ _ _ _ _ _ _ _ _ _
    | exact keeps_part66 _ _ _ _ _ _ _ _ _ _ _ _ _ _ _ _ _ _ _ _ _ _ _ _ _ _ _ _ _ _
    | exact keeps_part67 _ _ _ _ _ _ _ _ _ _ _ _ _ _ _ _ _ _ _ _ _ _ _ _ _ _ _ _ _ _ _ _ _ _ _ _ _ _
    | exact keeps_part68 _ _ _ _ _ _ _ _ _ _ _ _ _ _ _ _ _ _ _ _ _ _ _ _ _ _ _ _ _ _ _ _ _ _ _ _ _ _ _ _ _ _ _ _ _
    | exact keeps_part69 _ _ _ _ _ _ _ _ _ _ _ _ _ _ _ _ _ _ _ _ _ _ _ _ _ _ _ _ _ _ _ _ _ _ _ _ _ _ _ _ _
    | exact keeps_part70 _ _ _ _ _ _ _ _ _ _ _ _ _ _ _ _ _ _ _ _ _ _ _ _ _ _ _ _ _ _ _ _ _
    | exact keeps_part71 _ _ _ _ _ _ _ _ _ _ _ _ _ _ _ _ _ _ _ _ _ _ _ _ _ _ _ _ _ _ _ _ _ _
    | exact keeps_part72 _ _ _ _ _ _ _ _ _ _ _ _ _ _ _ _ _ _ _ _ _ _ _ _ _ _ _ _ _ _ _ _ _
    | exact keeps_part73 _ _ _ _ _ _ _ _ _ _ _ _ _ _ _ _ _ _ _ _ _ _ _ _ _ _ _ _ _ _ _ _ _ _
    | exact keeps_part74 _ _ _ _ _ _ _ _ _ _ _ _ _ _ _ _ _ _ _ _ _ _ _ _ _ _ _ _ _ _ _
    | exact keeps_part75 _ _ _ _ _ _ _ _ _ _ _ _ _ _ _ _ _ _ _ _ _ _ _ _ _ _ _ _ _ _ _ _ _ _ _ _ _
    | exact keeps_part76 _ _ _ _ _ _ _ _ _ _ _ _ _ _ _ _ _ _ _ _ _ _ _ _ _ _ _ _ _ _ _ _ _ _ _ _ _ _ _ _ _ _ _ _ _ _
    | exact keeps_part77 _ _ _ _ _ _ _ _ _ _ _ _ _ _ _ _ _ _ _ _ _ _ _ _ _ _ _ _ _ _ _ _ _ _ _ _ _ _ _ _
    | exact keeps_part78 _ _ _ _ _ _ _ _ _ _ _ _ _ _ _ _ _ _ _ _ _ _ _ _ _ _ _ _ _ _ _ _ _ _ _ _ _ _ _
    | exact keeps_part79 _ _ _ _ _ _ _ _ _ _ _ _ _ _ _ _ _ _ _ _ _ _ _ _ _ _ _ _ _ _ _ _ _
    | exact keeps_part80 _ _ _ _ _ _ _ _ _ _ _ _ _ _ _ _ _ _ _ _ _ _ _ _ _ _ _ _ _ _ _ _ _
    | exact keeps_part81 _ _ _ _ _ _ _ _ _ _ _ _ _ _ _ _ _ _ _ _ _ _ _ _ _ _ _ _ _ _ _ _ _ _
    | exact keeps_part82 _ _ _ _ _ _ _ _ _ _ _ _ _ _ _ _ _ _ _ _ _ _ _ _ _ _ _ _ _ _ _ _
    | exact keeps_part83 _ _ _ _ _ _ _ _ _ _ _ _ _ _ _ _ _ _ _ _ _ _ _ _ _ _ _ _ _ _ _ _ _ _ _ _ _ _
    | exact keeps_part84 _ _ _ _ _ _ _ _ _ _ _ _ _ _ _ _ _ _ _ _ _ _ _ _ _ _ _ _ _ _ _ _ _ _ _ _ _ _ _ _ _ _ _
    | exact keeps_part85 _ _ _ _ _ _ _ _ _ _ _ _ _ _ _ _ _ _ _ _ _ _ _ _ _ _ _ _ _ _ _ _ _ _ _ _ _ _ _ _
    | exact keeps_part86 _ _ _ _ _ _ _ _ _ _ _ _ _ _ _ _ _ _ _ _ _ _ _ _ _ _ _ _ _ _ _ _ _ _ _ _ _ _
    | exact keeps_part87 _ _ _ _ _ _ _ _ _ _ _ _ _ _ _ _ _ _ _ _ _ _ _ _ _ _ _ _ _ _ _ _ _ _
    | exact keeps_part88 _ _ _ _ _ _ _ _ _ _ _ _ _ _ _ _ _ _ _ _ _ _ _ _ _ _ _ _ _ _ _ _ _ _
    | exact keeps_part89 _ _ _ _ _ _ _ _ _ _ _ _ _ _ _ _ _ _ _ _ _ _ _ _ _ _ _ _ _ _ _ _ _ _
    | exact keeps_part90 _ _ _ _ _ _ _ _ _ _ _ _ _ _ _ _ _ _ _ _ _ _ _ _ _ _ _ _ _ _ _ _
    | exact keeps_part91 _ _ _ _ _ _ _ _ _ _ _ _ _ _ _ _ _ _ _ _ _ _ _ _ _ _ _ _ _ _ _ _ _ _ _ _ _ _
    | exact keeps_part92 _ _ _ _ _ _ _ _ _ _ _ _ _ _ _ _ _ _ _ _ _ _ _ _ _ _ _ _ _ _ _ _ _ _ _ _ _ _ _ _ _
    | exact keeps_part93 _ _ _ _ _ _ _ _ _ _ _ _ _ _ _ _ _ _ _ _ _ _ _ _ _ _ _ _ _ _ _ _ _ _ _ _ _ _ _ _
    | exact keeps_part94 _ _ _ _ _ _ _ _ _ _ _ _ _ _ _ _ _ _ _ _ _ _ _ _ _ _ _ _ _ _ _ _ _ _ _ _ _ _
    | exact keeps_part95 _ _ _ _ _ _ _ _ _ _ _ _ _ _ _ _ _ _ _ _ _ _ _ _ _ _ _ _ _ _ _ _ _ _ _
    | exact keeps_part96 _ _ _ _ _ _ _ _ _ _ _ _ _ _ _ _ _ _ _ _ _ _ _ _ _ _ _ _ _ _ _ _ _ _
    | exact keeps_part97 _ _ _ _ _ _ _ _ _ _ _ _ _ _ _ _ _ _ _ _ _ _ _ _ _ _ _ _ _ _ _ _ _ _ _
    | exact keeps_part98 _ _ _ _ _ _ _ _ _ _ _ _ _ _ _ _ _ _ _ _ _ _ _ _ _ _ _ _ _ _ _ _
    | exact keeps_part99 _ _ _ _ _ _ _ _ _ _ _ _ _ _ _ _ _ _ _ _ _ _ _ _ _ _ _ _ _ _ _ _ _ _ _ _
    | exact keeps_part100 _ _ _ _ _ _ _ _ _ _ _ _ _ _ _ _ _ _ _ _ _ _ _ _ _ _ _ _ _ _ _ _ _ _ _ _ _
    | exact keeps_part101 _ _ _ _ _ _ _ _ _ _ _ _ _ _ _ _ _ _ _ _ _ _ _ _ _ _ _ _ _ _ _ _ _ _ _ _ _ _ _ _ _ _
    | exact keeps_part102 _ _ _ _ _ _ _ _ _ _ _ _ _ _ _ _ _ _ _ _ _ _ _ _ _ _ _ _ _ _ _ _ _ _ _ _ _ _ _
    | exact keeps_part103 _ _ _ _ _ _ _ _ _ _ _ _ _ _ _ _ _ _ _ _ _ _ _ _ _ _ _ _ _ _ _ _ _ _
    | exact keeps_part104 _ _ _ _ _ _ _ _ _ _ _ _ _ _ _ _ _ _ _ _ _ _ _ _ _ _ _ _ _ _ _ _ _ _
    | exact keeps_part105 _ _ _ _ _ _ _ _ _ _ _ _ _ _ _ _ _ _ _ _ _ _ _ _ _ _ _ _ _ _ _ _ _ _ _
    | exact keeps_part106 _ _ _ _ _ _ _ _ _ _ _ _ _ _ _ _ _ _ _ _ _ _ _ _ _ _ _ _ _ _ _ _ _
    | exact keeps_part107 _ _ _ _ _ _ _ _ _ _ _ _ _ _ _ _ _ _ _ _ _ _ _ _ _ _ _ _ _ _ _ _ _ _
    | exact keeps_part108 _ _ _ _ _ _ _ _ _ _ _ _ _ _ _ _ _ _ _ _ _ _ _ _ _ _ _ _ _ _ _ _ _ _ _ _ _
    | exact keeps_part109 _ _ _ _ _ _ _ _ _ _ _ _ _ _ _ _ _ _ _ _ _ _ _ _ _ _ _ _ _ _ _ _ _ _ _ _ _ _ _ _ _
    | exact keeps_part110 _ _ _ _ _ _ _ _ _ _ _ _ _ _ _ _ _ _ _ _ _ _ _ _ _ _ _ _ _ _ _ _ _ _ _ _ _ _ _ _ _ _
    | exact keeps_part111 _ _ _ _ _ _ _ _ _ _ _ _ _ _ _ _ _ _ _ _ _ _ _ _ _ _ _ _ _ _ _ _ _ _ _
    | exact keeps_part112 _ _ _ _ _ _ _ _ _ _ _ _ _ _ _ _ _ _ _ _ _ _ _ _ _ _ _ _ _ _ _ _ _ _ _
    | exact keeps_part113 _ _ _ _ _ _ _ _ _ _ _ _ _ _ _ _ _ _ _ _ _ _ _ _ _ _ _ _ _ _ _ _ _ _ _
    | exact keeps_part114 _ _ _ _ _ _ _ _ _ _ _ _ _ _ _ _ _ _ _ _ _ _ _ _ _ _ _ _ _ _ _ _ _
    | exact keeps_part115 _ _ _ _ _ _ _ _ _ _ _ _ _ _ _ _ _ _ _ _ _ _ _ _ _ _ _ _ _ _
    | exact keeps_part116 _ _ _ _ _ _ _ _ _ _ _ _ _ _ _ _ _ _ _ _ _ _ _ _ _ _ _ _ _ _ _ _ _ _ _ _ _ _
    | exact keeps_part117 _ _ _ _ _ _ _ _ _ _ _ _ _ _ _ _ _ _ _ _ _ _ _ _ _ _ _ _ _ _ _ _ _ _ _ _ _ _ _
    | exact keeps_part118 _ _ _ _ _ _ _ _ _ _ _ _ _ _ _ _ _ _ _ _ _ _ _ _ _ _ _ _ _ _ _ _ _ _ _ _ _ _ _ _
    | exact keeps_part119 _ _ _ _ _ _ _ _ _ _ _ _ _ _ _ _ _ _ _ _ _ _ _ _ _ _ _ _ _ _ _ _ _ _
    | exact keeps_part120 _ _ _ _ _ _ _ _ _ _ _ _ _ _ _ _ _ _ _ _ _ _ _ _ _ _ _ _ _ _ _ _ _)

/-- `k0_part121` keeps the buffers. -/
theorem keeps_part121 (v1229 v5461 v5639 : _) :
    K F c arg3 arg4 arg5 arg6 arg7 arg8 arg9 arg10 arg11 arg12 arg13 arg14 arg15 arg16 (k0_part121 i arg3 harg3 arg4
      harg4 arg5 harg5 arg6 harg6 arg7 harg7 arg8 harg8 arg9 harg9 arg10 harg10 arg11 harg11 arg12 harg12 arg13 harg13
      arg14 harg14 arg15 harg15 arg16 harg16 v1229 v5461 v5639) := by
  rw [k0_part121_eq_skeleton]; unfold k0_part121_skel
  repeat (with_reducible first
    | refine Keeps.bind ?_ fun _ => ?_ | exact Keeps.pure _ | refine Keeps.load ?_ | refine Keeps.store ?_
    | exact Lends.head | exact Lends.last | refine Lends.tail ?_)

/-- `k0_part122` keeps the buffers. -/
theorem keeps_part122 (v1229 v5461 v5740 : _) :
    K F c arg3 arg4 arg5 arg6 arg7 arg8 arg9 arg10 arg11 arg12 arg13 arg14 arg15 arg16 (k0_part122 i arg3 harg3 arg4
      harg4 arg5 harg5 arg6 harg6 arg7 harg7 arg8 harg8 arg9 harg9 arg10 harg10 arg11 harg11 arg12 harg12 arg13 harg13
      arg14 harg14 arg15 harg15 arg16 harg16 v1229 v5461 v5740) := by
  rw [k0_part122_eq_skeleton]; unfold k0_part122_skel
  repeat (with_reducible first
    | refine Keeps.bind ?_ fun _ => ?_ | exact Keeps.pure _ | refine Keeps.load ?_ | refine Keeps.store ?_
    | exact Lends.head | exact Lends.last | refine Lends.tail ?_)

/-- `k0_part123` keeps the buffers. -/
theorem keeps_part123 :
    K F c arg3 arg4 arg5 arg6 arg7 arg8 arg9 arg10 arg11 arg12 arg13 arg14 arg15 arg16 (k0_part123 i arg3 harg3 arg4
      harg4 arg5 harg5 arg6 harg6 arg7 harg7 arg8 harg8 arg9 harg9 arg10 harg10 arg11 harg11 arg12 harg12 arg13 harg13
      arg14 harg14 arg15 harg15 arg16 harg16) := by
  rw [k0_part123_eq_skeleton]; unfold k0_part123_skel
  repeat (with_reducible first
    | refine Keeps.bind ?_ fun _ => ?_ | exact Keeps.pure _ | refine Keeps.load ?_ | refine Keeps.store ?_
    | exact Lends.head | exact Lends.last | refine Lends.tail ?_)

/-- `k0_part124` keeps the buffers. -/
theorem keeps_part124 (v5764 v5765 v5766 v5767 v5776 v5800 c64_i32_2921 v5802 v5809 v5815 : _) :
    K F c arg3 arg4 arg5 arg6 arg7 arg8 arg9 arg10 arg11 arg12 arg13 arg14 arg15 arg16 (k0_part124 i arg3 harg3 arg4
      harg4 arg5 harg5 arg6 harg6 arg7 harg7 arg8 harg8 arg9 harg9 arg10 harg10 arg11 harg11 arg12 harg12 arg13 harg13
      arg14 harg14 arg15 harg15 arg16 harg16 v5764 v5765 v5766 v5767 v5776 v5800 c64_i32_2921 v5802 v5809 v5815) := by
  rw [k0_part124_eq_skeleton]; unfold k0_part124_skel
  repeat (with_reducible first
    | refine Keeps.bind ?_ fun _ => ?_ | exact Keeps.pure _)

/-- `k0_part125` keeps the buffers. -/
theorem keeps_part125 (v5764 v5765 v5766 v5769 v5771 v5773 v5774 v5852 v5855 v5858 v5862 : _) :
    K F c arg3 arg4 arg5 arg6 arg7 arg8 arg9 arg10 arg11 arg12 arg13 arg14 arg15 arg16 (k0_part125 i arg3 harg3 arg4
      harg4 arg5 harg5 arg6 harg6 arg7 harg7 arg8 harg8 arg9 harg9 arg10 harg10 arg11 harg11 arg12 harg12 arg13 harg13
      arg14 harg14 arg15 harg15 arg16 harg16 v5764 v5765 v5766 v5769 v5771 v5773 v5774 v5852 v5855 v5858 v5862) := by
  rw [k0_part125_eq_skeleton]; unfold k0_part125_skel
  repeat (with_reducible first
    | refine Keeps.bind ?_ fun _ => ?_ | exact Keeps.pure _)

/-- `k0_part126` keeps the buffers. -/
theorem keeps_part126 (v5767 v5769 v5771 v5773 v5774 v5861 v5881 v5909 : _) :
    K F c arg3 arg4 arg5 arg6 arg7 arg8 arg9 arg10 arg11 arg12 arg13 arg14 arg15 arg16 (k0_part126 i arg3 harg3 arg4
      harg4 arg5 harg5 arg6 harg6 arg7 harg7 arg8 harg8 arg9 harg9 arg10 harg10 arg11 harg11 arg12 harg12 arg13 harg13
      arg14 harg14 arg15 harg15 arg16 harg16 v5767 v5769 v5771 v5773 v5774 v5861 v5881 v5909) := by
  rw [k0_part126_eq_skeleton]; unfold k0_part126_skel
  repeat (with_reducible first
    | refine Keeps.bind ?_ fun _ => ?_ | exact Keeps.pure _ | refine Keeps.load ?_ | refine Keeps.store ?_
    | exact Lends.head | exact Lends.last | refine Lends.tail ?_)

/-- `k0_part127` keeps the buffers. -/
theorem keeps_part127 (v1229 v5763 v5901 v5949 : _) :
    K F c arg3 arg4 arg5 arg6 arg7 arg8 arg9 arg10 arg11 arg12 arg13 arg14 arg15 arg16 (k0_part127 i arg3 harg3 arg4
      harg4 arg5 harg5 arg6 harg6 arg7 harg7 arg8 harg8 arg9 harg9 arg10 harg10 arg11 harg11 arg12 harg12 arg13 harg13
      arg14 harg14 arg15 harg15 arg16 harg16 v1229 v5763 v5901 v5949) := by
  rw [k0_part127_eq_skeleton]; unfold k0_part127_skel
  repeat (with_reducible first
    | refine Keeps.bind ?_ fun _ => ?_ | exact Keeps.pure _ | refine Keeps.load ?_ | refine Keeps.store ?_
    | exact Lends.head | exact Lends.last | refine Lends.tail ?_)

/-- `k0_part128` keeps the buffers. -/
theorem keeps_part128 (v1229 v5763 v5921 v5979 : _) :
    K F c arg3 arg4 arg5 arg6 arg7 arg8 arg9 arg10 arg11 arg12 arg13 arg14 arg15 arg16 (k0_part128 i arg3 harg3 arg4
      harg4 arg5 harg5 arg6 harg6 arg7 harg7 arg8 harg8 arg9 harg9 arg10 harg10 arg11 harg11 arg12 harg12 arg13 harg13
      arg14 harg14 arg15 harg15 arg16 harg16 v1229 v5763 v5921 v5979) := by
  rw [k0_part128_eq_skeleton]; unfold k0_part128_skel
  repeat (with_reducible first
    | refine Keeps.bind ?_ fun _ => ?_ | exact Keeps.pure _ | refine Keeps.load ?_ | refine Keeps.store ?_
    | exact Lends.head | exact Lends.last | refine Lends.tail ?_)

/-- `k0_part129` keeps the buffers. -/
theorem keeps_part129 (v1229 v5763 v5941 v6009 : _) :
    K F c arg3 arg4 arg5 arg6 arg7 arg8 arg9 arg10 arg11 arg12 arg13 arg14 arg15 arg16 (k0_part129 i arg3 harg3 arg4
      harg4 arg5 harg5 arg6 harg6 arg7 harg7 arg8 harg8 arg9 harg9 arg10 harg10 arg11 harg11 arg12 harg12 arg13 harg13
      arg14 harg14 arg15 harg15 arg16 harg16 v1229 v5763 v5941 v6009) := by
  rw [k0_part129_eq_skeleton]; unfold k0_part129_skel
  repeat (with_reducible first
    | refine Keeps.bind ?_ fun _ => ?_ | exact Keeps.pure _ | refine Keeps.load ?_ | refine Keeps.store ?_
    | exact Lends.head | exact Lends.last | refine Lends.tail ?_)

/-- `k0_part152` keeps the buffers. -/
theorem keeps_part152 :
    K F c arg3 arg4 arg5 arg6 arg7 arg8 arg9 arg10 arg11 arg12 arg13 arg14 arg15 arg16 (k0_part152 i arg3 harg3 arg4
      harg4 arg5 harg5 arg6 harg6 arg7 harg7 arg8 harg8 arg9 harg9 arg10 harg10 arg11 harg11 arg12 harg12 arg13 harg13
      arg14 harg14 arg15 harg15 arg16 harg16) := by
  rw [k0_part152_eq_skeleton]; unfold k0_part152_skel
  repeat (with_reducible first
    | refine Keeps.bind ?_ fun _ => ?_ | exact Keeps.pure _
    | exact keeps_part130 _ _ _ _ _ _ _ _ _ _ _ _ _ _ _ _ _ _ _ _ _ _ _ _ _ _ _ _ _ _
    | exact keeps_part131 _ _ _ _ _ _ _ _ _ _ _ _ _ _ _ _ _ _ _ _ _ _ _ _ _ _ _ _ _ _ _ _ _ _ _ _ _ _ _ _ _ _ _
    | exact keeps_part121 _ _ _ _ _ _ _ _ _ _ _ _ _ _ _ _ _ _ _ _ _ _ _ _ _ _ _ _ _ _ _ _ _
    | exact keeps_part122 _ _ _ _ _ _ _ _ _ _ _ _ _ _ _ _ _ _ _ _ _ _ _ _ _ _ _ _ _ _ _ _ _
    | exact keeps_part123 _ _ _ _ _ _ _ _ _ _ _ _ _ _ _ _ _ _ _ _ _ _ _ _ _ _ _ _ _ _
    | exact keeps_part124 _ _ _ _ _ _ _ _ _ _ _ _ _ _ _ _ _ _ _ _ _ _ _ _ _ _ _ _ _ _ _ _ _ _ _ _ _ _ _ _
    | exact keeps_part125 _ _ _ _ _ _ _ _ _ _ _ _ _ _ _ _ _ _ _ _ _ _ _ _ _ _ _ _ _ _ _ _ _ _ _ _ _ _ _ _ _
    | exact keeps_part126 _ _ _ _ _ _ _ _ _ _ _ _ _ _ _ _ _ _ _ _ _ _ _ _ _ _ _ _ _ _ _ _ _ _ _ _ _ _
    | exact keeps_part127 _ _ _ _ _ _ _ _ _ _ _ _ _ _ _ _ _ _ _ _ _ _ _ _ _ _ _ _ _ _ _ _ _ _
    | exact keeps_part128 _ _ _ _ _ _ _ _ _ _ _ _ _ _ _ _ _ _ _ _ _ _ _ _ _ _ _ _ _ _ _ _ _ _
    | exact keeps_part129 _ _ _ _ _ _ _ _ _ _ _ _ _ _ _ _ _ _ _ _ _ _ _ _ _ _ _ _ _ _ _ _ _ _ | refine Keeps.load ?_
    | refine Keeps.store ?_ | exact Lends.head | exact Lends.last | refine Lends.tail ?_
    | refine Keeps.dite (fun _ => ?_) fun _ => ?_ | refine Keeps.loop _ _ _ fun _ _ => ?_ | split)

/-- `k0_part153` keeps the buffers. -/
theorem keeps_part153 (v10 v11 v12 v21 v22 v24 v38 v39 : _) :
    K F c arg3 arg4 arg5 arg6 arg7 arg8 arg9 arg10 arg11 arg12 arg13 arg14 arg15 arg16 (k0_part153 i arg3 harg3 arg4
      harg4 arg5 harg5 arg6 harg6 arg7 harg7 arg8 harg8 arg9 harg9 arg10 harg10 arg11 harg11 arg12 harg12 arg13 harg13
      arg14 harg14 arg15 harg15 arg16 harg16 v10 v11 v12 v21 v22 v24 v38 v39) := by
  rw [k0_part153_eq_skeleton]; unfold k0_part153_skel
  repeat (with_reducible first
    | refine Keeps.bind ?_ fun _ => ?_ | exact Keeps.pure _)

/-- `k0_part154` keeps the buffers. -/
theorem keeps_part154 (v10 v13 v15 v17 v19 v20 v75 v77 v80 v82 v85 v86 v87 v88 : _) :
    K F c arg3 arg4 arg5 arg6 arg7 arg8 arg9 arg10 arg11 arg12 arg13 arg14 arg15 arg16 (k0_part154 i arg3 harg3 arg4
      harg4 arg5 harg5 arg6 harg6 arg7 harg7 arg8 harg8 arg9 harg9 arg10 harg10 arg11 harg11 arg12 harg12 arg13 harg13
      arg14 harg14 arg15 harg15 arg16 harg16 v10 v13 v15 v17 v19 v20 v75 v77 v80 v82 v85 v86 v87 v88) := by
  rw [k0_part154_eq_skeleton]; unfold k0_part154_skel
  repeat (with_reducible first
    | refine Keeps.bind ?_ fun _ => ?_ | exact Keeps.pure _)

/-- `k0_part155` keeps the buffers. -/
theorem keeps_part155 (v11 v12 v13 v15 v17 v19 v20 v104 v107 v132 : _) :
    K F c arg3 arg4 arg5 arg6 arg7 arg8 arg9 arg10 arg11 arg12 arg13 arg14 arg15 arg16 (k0_part155 i arg3 harg3 arg4
      harg4 arg5 harg5 arg6 harg6 arg7 harg7 arg8 harg8 arg9 harg9 arg10 harg10 arg11 harg11 arg12 harg12 arg13 harg13
      arg14 harg14 arg15 harg15 arg16 harg16 v11 v12 v13 v15 v17 v19 v20 v104 v107 v132) := by
  rw [k0_part155_eq_skeleton]; unfold k0_part155_skel
  repeat (with_reducible first
    | refine Keeps.bind ?_ fun _ => ?_ | exact Keeps.pure _)

/-- `k0_part156` keeps the buffers. -/
theorem keeps_part156 (v7 v17 v19 v127 v147 v167 v175 v177 v178 : _) :
    K F c arg3 arg4 arg5 arg6 arg7 arg8 arg9 arg10 arg11 arg12 arg13 arg14 arg15 arg16 (k0_part156 i arg3 harg3 arg4
      harg4 arg5 harg5 arg6 harg6 arg7 harg7 arg8 harg8 arg9 harg9 arg10 harg10 arg11 harg11 arg12 harg12 arg13 harg13
      arg14 harg14 arg15 harg15 arg16 harg16 v7 v17 v19 v127 v147 v167 v175 v177 v178) := by
  rw [k0_part156_eq_skeleton]; unfold k0_part156_skel
  repeat (with_reducible first
    | refine Keeps.bind ?_ fun _ => ?_ | exact Keeps.pure _)

/-- `k0_part157` keeps the buffers. -/
theorem keeps_part157 (v7 v188 c64_i32_60 v221 v224 c0_i32_62 : _) :
    K F c arg3 arg4 arg5 arg6 arg7 arg8 arg9 arg10 arg11 arg12 arg13 arg14 arg15 arg16 (k0_part157 i arg3 harg3 arg4
      harg4 arg5 harg5 arg6 harg6 arg7 harg7 arg8 harg8 arg9 harg9 arg10 harg10 arg11 harg11 arg12 harg12 arg13 harg13
      arg14 harg14 arg15 harg15 arg16 harg16 v7 v188 c64_i32_60 v221 v224 c0_i32_62) := by
  rw [k0_part157_eq_skeleton]; unfold k0_part157_skel
  repeat (with_reducible first
    | refine Keeps.bind ?_ fun _ => ?_ | exact Keeps.pure _)

/-- `k0_part158` keeps the buffers. -/
theorem keeps_part158 (v7 v189 v271 : _) :
    K F c arg3 arg4 arg5 arg6 arg7 arg8 arg9 arg10 arg11 arg12 arg13 arg14 arg15 arg16 (k0_part158 i arg3 harg3 arg4
      harg4 arg5 harg5 arg6 harg6 arg7 harg7 arg8 harg8 arg9 harg9 arg10 harg10 arg11 harg11 arg12 harg12 arg13 harg13
      arg14 harg14 arg15 harg15 arg16 harg16 v7 v189 v271) := by
  rw [k0_part158_eq_skeleton]; unfold k0_part158_skel
  repeat (with_reducible first
    | refine Keeps.bind ?_ fun _ => ?_ | exact Keeps.pure _)

/-- `k0_part159` keeps the buffers. -/
theorem keeps_part159 (v7 v190 c64_i32_87 v305 v312 v314 v315 : _) :
    K F c arg3 arg4 arg5 arg6 arg7 arg8 arg9 arg10 arg11 arg12 arg13 arg14 arg15 arg16 (k0_part159 i arg3 harg3 arg4
      harg4 arg5 harg5 arg6 harg6 arg7 harg7 arg8 harg8 arg9 harg9 arg10 harg10 arg11 harg11 arg12 harg12 arg13 harg13
      arg14 harg14 arg15 harg15 arg16 harg16 v7 v190 c64_i32_87 v305 v312 v314 v315) := by
  rw [k0_part159_eq_skeleton]; unfold k0_part159_skel
  repeat (with_reducible first
    | refine Keeps.bind ?_ fun _ => ?_ | exact Keeps.pure _)

/-- `k0_part160` keeps the buffers. -/
theorem keeps_part160 (v7 v191 c64_i32_105 v361 : _) :
    K F c arg3 arg4 arg5 arg6 arg7 arg8 arg9 arg10 arg11 arg12 arg13 arg14 arg15 arg16 (k0_part160 i arg3 harg3 arg4
      harg4 arg5 harg5 arg6 harg6 arg7 harg7 arg8 harg8 arg9 harg9 arg10 harg10 arg11 harg11 arg12 harg12 arg13 harg13
      arg14 harg14 arg15 harg15 arg16 harg16 v7 v191 c64_i32_105 v361) := by
  rw [k0_part160_eq_skeleton]; unfold k0_part160_skel
  repeat (with_reducible first
    | refine Keeps.bind ?_ fun _ => ?_ | exact Keeps.pure _)

/-- `k0_part161` keeps the buffers. -/
theorem keeps_part161 (arg2 v3 v191 v219 v247 v389 v403 v407 : _) :
    K F c arg3 arg4 arg5 arg6 arg7 arg8 arg9 arg10 arg11 arg12 arg13 arg14 arg15 arg16 (k0_part161 i arg3 harg3 arg4
      harg4 arg5 harg5 arg6 harg6 arg7 harg7 arg8 harg8 arg9 harg9 arg10 harg10 arg11 harg11 arg12 harg12 arg13 harg13
      arg14 harg14 arg15 harg15 arg16 harg16 arg2 v3 v191 v219 v247 v389 v403 v407) := by
  rw [k0_part161_eq_skeleton]; unfold k0_part161_skel
  repeat (with_reducible first
    | refine Keeps.bind ?_ fun _ => ?_ | exact Keeps.pure _ | refine Keeps.load ?_ | refine Keeps.store ?_
    | exact Lends.head | exact Lends.last | refine Lends.tail ?_)

/-- `k0_part162` keeps the buffers. -/
theorem keeps_part162 (arg2 v3 v275 v303 v436 v451 : _) :
    K F c arg3 arg4 arg5 arg6 arg7 arg8 arg9 arg10 arg11 arg12 arg13 arg14 arg15 arg16 (k0_part162 i arg3 harg3 arg4
      harg4 arg5 harg5 arg6 harg6 arg7 harg7 arg8 harg8 arg9 harg9 arg10 harg10 arg11 harg11 arg12 harg12 arg13 harg13
      arg14 harg14 arg15 harg15 arg16 harg16 arg2 v3 v275 v303 v436 v451) := by
  rw [k0_part162_eq_skeleton]; unfold k0_part162_skel
  repeat (with_reducible first
    | refine Keeps.bind ?_ fun _ => ?_ | exact Keeps.pure _ | refine Keeps.load ?_ | refine Keeps.store ?_
    | exact Lends.head | exact Lends.last | refine Lends.tail ?_)

/-- `k0_part163` keeps the buffers. -/
theorem keeps_part163 (arg2 v3 v331 v359 v387 v493 : _) :
    K F c arg3 arg4 arg5 arg6 arg7 arg8 arg9 arg10 arg11 arg12 arg13 arg14 arg15 arg16 (k0_part163 i arg3 harg3 arg4
      harg4 arg5 harg5 arg6 harg6 arg7 harg7 arg8 harg8 arg9 harg9 arg10 harg10 arg11 harg11 arg12 harg12 arg13 harg13
      arg14 harg14 arg15 harg15 arg16 harg16 arg2 v3 v331 v359 v387 v493) := by
  rw [k0_part163_eq_skeleton]; unfold k0_part163_skel
  repeat (with_reducible first
    | refine Keeps.bind ?_ fun _ => ?_ | exact Keeps.pure _ | refine Keeps.load ?_ | refine Keeps.store ?_
    | exact Lends.head | exact Lends.last | refine Lends.tail ?_)

/-- `k0_part164` keeps the buffers. -/
theorem keeps_part164 (arg2 v3 v4 v387 v415 v434 v531 v534 v537 v538 v539 : _) :
    K F c arg3 arg4 arg5 arg6 arg7 arg8 arg9 arg10 arg11 arg12 arg13 arg14 arg15 arg16 (k0_part164 i arg3 harg3 arg4
      harg4 arg5 harg5 arg6 harg6 arg7 harg7 arg8 harg8 arg9 harg9 arg10 harg10 arg11 harg11 arg12 harg12 arg13 harg13
      arg14 harg14 arg15 harg15 arg16 harg16 arg2 v3 v4 v387 v415 v434 v531 v534 v537 v538 v539) := by
  rw [k0_part164_eq_skeleton]; unfold k0_part164_skel
  repeat (with_reducible first
    | refine Keeps.bind ?_ fun _ => ?_ | exact Keeps.pure _ | refine Keeps.load ?_ | refine Keeps.store ?_
    | exact Lends.head | exact Lends.last | refine Lends.tail ?_)

/-- `k0_part165` keeps the buffers. -/
theorem keeps_part165 (arg2 v4 v453 v582 : _) :
    K F c arg3 arg4 arg5 arg6 arg7 arg8 arg9 arg10 arg11 arg12 arg13 arg14 arg15 arg16 (k0_part165 i arg3 harg3 arg4
      harg4 arg5 harg5 arg6 harg6 arg7 harg7 arg8 harg8 arg9 harg9 arg10 harg10 arg11 harg11 arg12 harg12 arg13 harg13
      arg14 harg14 arg15 harg15 arg16 harg16 arg2 v4 v453 v582) := by
  rw [k0_part165_eq_skeleton]; unfold k0_part165_skel
  repeat (with_reducible first
    | refine Keeps.bind ?_ fun _ => ?_ | exact Keeps.pure _)

/-- `k0_part166` keeps the buffers. -/
theorem keeps_part166 (arg2 v4 v472 v623 v624 : _) :
    K F c arg3 arg4 arg5 arg6 arg7 arg8 arg9 arg10 arg11 arg12 arg13 arg14 arg15 arg16 (k0_part166 i arg3 harg3 arg4
      harg4 arg5 harg5 arg6 harg6 arg7 harg7 arg8 harg8 arg9 harg9 arg10 harg10 arg11 harg11 arg12 harg12 arg13 harg13
      arg14 harg14 arg15 harg15 arg16 harg16 arg2 v4 v472 v623 v624) := by
  rw [k0_part166_eq_skeleton]; unfold k0_part166_skel
  repeat (with_reducible first
    | refine Keeps.bind ?_ fun _ => ?_ | exact Keeps.pure _)

/-- `k0_part167` keeps the buffers. -/
theorem keeps_part167 (arg2 v4 v491 v664 v667 : _) :
    K F c arg3 arg4 arg5 arg6 arg7 arg8 arg9 arg10 arg11 arg12 arg13 arg14 arg15 arg16 (k0_part167 i arg3 harg3 arg4
      harg4 arg5 harg5 arg6 harg6 arg7 harg7 arg8 harg8 arg9 harg9 arg10 harg10 arg11 harg11 arg12 harg12 arg13 harg13
      arg14 harg14 arg15 harg15 arg16 harg16 arg2 v4 v491 v664 v667) := by
  rw [k0_part167_eq_skeleton]; unfold k0_part167_skel
  repeat (with_reducible first
    | refine Keeps.bind ?_ fun _ => ?_ | exact Keeps.pure _)

/-- `k0_part168` keeps the buffers. -/
theorem keeps_part168 (arg2 v4 v510 v705 v709 cst_233 : _) :
    K F c arg3 arg4 arg5 arg6 arg7 arg8 arg9 arg10 arg11 arg12 arg13 arg14 arg15 arg16 (k0_part168 i arg3 harg3 arg4
      harg4 arg5 harg5 arg6 harg6 arg7 harg7 arg8 harg8 arg9 harg9 arg10 harg10 arg11 harg11 arg12 harg12 arg13 harg13
      arg14 harg14 arg15 harg15 arg16 harg16 arg2 v4 v510 v705 v709 cst_233) := by
  rw [k0_part168_eq_skeleton]; unfold k0_part168_skel
  repeat (with_reducible first
    | refine Keeps.bind ?_ fun _ => ?_ | exact Keeps.pure _)

/-- `k0_part169` keeps the buffers. -/
theorem keeps_part169 (arg2 v4 v529 v746 v752 : _) :
    K F c arg3 arg4 arg5 arg6 arg7 arg8 arg9 arg10 arg11 arg12 arg13 arg14 arg15 arg16 (k0_part169 i arg3 harg3 arg4
      harg4 arg5 harg5 arg6 harg6 arg7 harg7 arg8 harg8 arg9 harg9 arg10 harg10 arg11 harg11 arg12 harg12 arg13 harg13
      arg14 harg14 arg15 harg15 arg16 harg16 arg2 v4 v529 v746 v752) := by
  rw [k0_part169_eq_skeleton]; unfold k0_part169_skel
  repeat (with_reducible first
    | refine Keeps.bind ?_ fun _ => ?_ | exact Keeps.pure _)

/-- `k0_part170` keeps the buffers. -/
theorem keeps_part170 (arg2 v4 v548 v787 v794 : _) :
    K F c arg3 arg4 arg5 arg6 arg7 arg8 arg9 arg10 arg11 arg12 arg13 arg14 arg15 arg16 (k0_part170 i arg3 harg3 arg4
      harg4 arg5 harg5 arg6 harg6 arg7 harg7 arg8 harg8 arg9 harg9 arg10 harg10 arg11 harg11 arg12 harg12 arg13 harg13
      arg14 harg14 arg15 harg15 arg16 harg16 arg2 v4 v548 v787 v794) := by
  rw [k0_part170_eq_skeleton]; unfold k0_part170_skel
  repeat (with_reducible first
    | refine Keeps.bind ?_ fun _ => ?_ | exact Keeps.pure _)

/-- `k0_part171` keeps the buffers. -/
theorem keeps_part171 (arg2 v4 v567 v828 v836 c1_i32_286 : _) :
    K F c arg3 arg4 arg5 arg6 arg7 arg8 arg9 arg10 arg11 arg12 arg13 arg14 arg15 arg16 (k0_part171 i arg3 harg3 arg4
      harg4 arg5 harg5 arg6 harg6 arg7 harg7 arg8 harg8 arg9 harg9 arg10 harg10 arg11 harg11 arg12 harg12 arg13 harg13
      arg14 harg14 arg15 harg15 arg16 harg16 arg2 v4 v567 v828 v836 c1_i32_286) := by
  rw [k0_part171_eq_skeleton]; unfold k0_part171_skel
  repeat (with_reducible first
    | refine Keeps.bind ?_ fun _ => ?_ | exact Keeps.pure _)

/-- `k0_part172` keeps the buffers. -/
theorem keeps_part172 (arg2 v4 v219 v247 v275 v303 v331 v359 v387 v415 v869 v877 v878 cst_304 : _) :
    K F c arg3 arg4 arg5 arg6 arg7 arg8 arg9 arg10 arg11 arg12 arg13 arg14 arg15 arg16 (k0_part172 i arg3 harg3 arg4
      harg4 arg5 harg5 arg6 harg6 arg7 harg7 arg8 harg8 arg9 harg9 arg10 harg10 arg11 harg11 arg12 harg12 arg13 harg13
      arg14 harg14 arg15 harg15 arg16 harg16 arg2 v4 v219 v247 v275 v303 v331 v359 v387 v415 v869 v877 v878 cst_304)
      := by
  rw [k0_part172_eq_skeleton]; unfold k0_part172_skel
  repeat (with_reducible first
    | refine Keeps.bind ?_ fun _ => ?_ | exact Keeps.pure _ | refine Keeps.load ?_ | refine Keeps.store ?_
    | exact Lends.head | exact Lends.last | refine Lends.tail ?_)

/-- `k0_part173` keeps the buffers. -/
theorem keeps_part173 (arg2 v5 v6 v898 v901 v904 v907 v910 v913 v916 v919 v921 : _) :
    K F c arg3 arg4 arg5 arg6 arg7 arg8 arg9 arg10 arg11 arg12 arg13 arg14 arg15 arg16 (k0_part173 i arg3 harg3 arg4
      harg4 arg5 harg5 arg6 harg6 arg7 harg7 arg8 harg8 arg9 harg9 arg10 harg10 arg11 harg11 arg12 harg12 arg13 harg13
      arg14 harg14 arg15 harg15 arg16 harg16 arg2 v5 v6 v898 v901 v904 v907 v910 v913 v916 v919 v921) := by
  rw [k0_part173_eq_skeleton]; unfold k0_part173_skel
  repeat (with_reducible first
    | refine Keeps.bind ?_ fun _ => ?_ | exact Keeps.pure _ | refine Keeps.load ?_ | refine Keeps.store ?_
    | exact Lends.head | exact Lends.last | refine Lends.tail ?_)

/-- `k0_part174` keeps the buffers. -/
theorem keeps_part174 (v5 v6 v923 v927 v931 v952 : _) :
    K F c arg3 arg4 arg5 arg6 arg7 arg8 arg9 arg10 arg11 arg12 arg13 arg14 arg15 arg16 (k0_part174 i arg3 harg3 arg4
      harg4 arg5 harg5 arg6 harg6 arg7 harg7 arg8 harg8 arg9 harg9 arg10 harg10 arg11 harg11 arg12 harg12 arg13 harg13
      arg14 harg14 arg15 harg15 arg16 harg16 v5 v6 v923 v927 v931 v952) := by
  rw [k0_part174_eq_skeleton]; unfold k0_part174_skel
  repeat (with_reducible first
    | refine Keeps.bind ?_ fun _ => ?_ | exact Keeps.pure _ | refine Keeps.load ?_ | refine Keeps.store ?_
    | exact Lends.head | exact Lends.last | refine Lends.tail ?_)

/-- `k0_part175` keeps the buffers. -/
theorem keeps_part175 (v5 v6 v935 v939 v943 : _) :
    K F c arg3 arg4 arg5 arg6 arg7 arg8 arg9 arg10 arg11 arg12 arg13 arg14 arg15 arg16 (k0_part175 i arg3 harg3 arg4
      harg4 arg5 harg5 arg6 harg6 arg7 harg7 arg8 harg8 arg9 harg9 arg10 harg10 arg11 harg11 arg12 harg12 arg13 harg13
      arg14 harg14 arg15 harg15 arg16 harg16 v5 v6 v935 v939 v943) := by
  rw [k0_part175_eq_skeleton]; unfold k0_part175_skel
  repeat (with_reducible first
    | refine Keeps.bind ?_ fun _ => ?_ | exact Keeps.pure _ | refine Keeps.load ?_ | refine Keeps.store ?_
    | exact Lends.head | exact Lends.last | refine Lends.tail ?_)

/-- `k0_part176` keeps the buffers. -/
theorem keeps_part176 (arg2 v5 v6 v947 v951 v1025 v1026 : _) :
    K F c arg3 arg4 arg5 arg6 arg7 arg8 arg9 arg10 arg11 arg12 arg13 arg14 arg15 arg16 (k0_part176 i arg3 harg3 arg4
      harg4 arg5 harg5 arg6 harg6 arg7 harg7 arg8 harg8 arg9 harg9 arg10 harg10 arg11 harg11 arg12 harg12 arg13 harg13
      arg14 harg14 arg15 harg15 arg16 harg16 arg2 v5 v6 v947 v951 v1025 v1026) := by
  rw [k0_part176_eq_skeleton]; unfold k0_part176_skel
  repeat (with_reducible first
    | refine Keeps.bind ?_ fun _ => ?_ | exact Keeps.pure _ | refine Keeps.load ?_ | refine Keeps.store ?_
    | exact Lends.head | exact Lends.last | refine Lends.tail ?_ | refine Keeps.dite (fun _ => ?_) fun _ => ?_
    | refine Keeps.loop _ _ _ fun _ _ => ?_ | split)

/-- `k0_part132` keeps the buffers. -/
theorem keeps_part132 (v898 v901 v904 v907 c0_i32_412 c1_i32_414 k0_t1 : _) :
    K F c arg3 arg4 arg5 arg6 arg7 arg8 arg9 arg10 arg11 arg12 arg13 arg14 arg15 arg16 (k0_part132 i arg3 harg3 arg4
      harg4 arg5 harg5 arg6 harg6 arg7 harg7 arg8 harg8 arg9 harg9 arg10 harg10 arg11 harg11 arg12 harg12 arg13 harg13
      arg14 harg14 arg15 harg15 arg16 harg16 v898 v901 v904 v907 c0_i32_412 c1_i32_414 k0_t1) := by
  rw [k0_part132_eq_skeleton]; unfold k0_part132_skel
  repeat (with_reducible first
    | refine Keeps.bind ?_ fun _ => ?_ | exact Keeps.pure _ | refine Keeps.load ?_ | refine Keeps.store ?_
    | exact Lends.head | exact Lends.last | refine Lends.tail ?_)

/-- `k0_part133` keeps the buffers. -/
theorem keeps_part133 (v910 v913 v916 v919 k0_t1 arg17 v1251 c0_i32_551 : _) :
    K F c arg3 arg4 arg5 arg6 arg7 arg8 arg9 arg10 arg11 arg12 arg13 arg14 arg15 arg16 (k0_part133 i arg3 harg3 arg4
      harg4 arg5 harg5 arg6 harg6 arg7 harg7 arg8 harg8 arg9 harg9 arg10 harg10 arg11 harg11 arg12 harg12 arg13 harg13
      arg14 harg14 arg15 harg15 arg16 harg16 v910 v913 v916 v919 k0_t1 arg17 v1251 c0_i32_551) := by
  rw [k0_part133_eq_skeleton]; unfold k0_part133_skel
  repeat (with_reducible first
    | refine Keeps.bind ?_ fun _ => ?_ | exact Keeps.pure _ | refine Keeps.load ?_ | refine Keeps.store ?_
    | exact Lends.head | exact Lends.last | refine Lends.tail ?_)

/-- `k0_part134` keeps the buffers. -/
theorem keeps_part134 (arg2 k0_t1 arg17 v1279 v1281 c0_i32_581 : _) :
    K F c arg3 arg4 arg5 arg6 arg7 arg8 arg9 arg10 arg11 arg12 arg13 arg14 arg15 arg16 (k0_part134 i arg3 harg3 arg4
      harg4 arg5 harg5 arg6 harg6 arg7 harg7 arg8 harg8 arg9 harg9 arg10 harg10 arg11 harg11 arg12 harg12 arg13 harg13
      arg14 harg14 arg15 harg15 arg16 harg16 arg2 k0_t1 arg17 v1279 v1281 c0_i32_581) := by
  rw [k0_part134_eq_skeleton]; unfold k0_part134_skel
  repeat (with_reducible first
    | refine Keeps.bind ?_ fun _ => ?_ | exact Keeps.pure _ | refine Keeps.load ?_ | refine Keeps.store ?_
    | exact Lends.head | exact Lends.last | refine Lends.tail ?_)

/-- `k0_part135` keeps the buffers. -/
theorem keeps_part135 (arg2 k0_t1 arg17 v1311 : _) :
    K F c arg3 arg4 arg5 arg6 arg7 arg8 arg9 arg10 arg11 arg12 arg13 arg14 arg15 arg16 (k0_part135 i arg3 harg3 arg4
      harg4 arg5 harg5 arg6 harg6 arg7 harg7 arg8 harg8 arg9 harg9 arg10 harg10 arg11 harg11 arg12 harg12 arg13 harg13
      arg14 harg14 arg15 harg15 arg16 harg16 arg2 k0_t1 arg17 v1311) := by
  rw [k0_part135_eq_skeleton]; unfold k0_part135_skel
  repeat (with_reducible first
    | refine Keeps.bind ?_ fun _ => ?_ | exact Keeps.pure _ | refine Keeps.load ?_ | refine Keeps.store ?_
    | exact Lends.head | exact Lends.last | refine Lends.tail ?_)

/-- `k0_part136` keeps the buffers. -/
theorem keeps_part136 (arg2 k0_t1 arg17 v1339 : _) :
    K F c arg3 arg4 arg5 arg6 arg7 arg8 arg9 arg10 arg11 arg12 arg13 arg14 arg15 arg16 (k0_part136 i arg3 harg3 arg4
      harg4 arg5 harg5 arg6 harg6 arg7 harg7 arg8 harg8 arg9 harg9 arg10 harg10 arg11 harg11 arg12 harg12 arg13 harg13
      arg14 harg14 arg15 harg15 arg16 harg16 arg2 k0_t1 arg17 v1339) := by
  rw [k0_part136_eq_skeleton]; unfold k0_part136_skel
  repeat (with_reducible first
    | refine Keeps.bind ?_ fun _ => ?_ | exact Keeps.pure _ | refine Keeps.load ?_ | refine Keeps.store ?_
    | exact Lends.head | exact Lends.last | refine Lends.tail ?_)

/-- `k0_part137` keeps the buffers. -/
theorem keeps_part137 (v578 v593 v608 v619 v634 k0_t1 arg18 arg19 arg17 v1229 v1290 v1368 : _) :
    K F c arg3 arg4 arg5 arg6 arg7 arg8 arg9 arg10 arg11 arg12 arg13 arg14 arg15 arg16 (k0_part137 i arg3 harg3 arg4
      harg4 arg5 harg5 arg6 harg6 arg7 harg7 arg8 harg8 arg9 harg9 arg10 harg10 arg11 harg11 arg12 harg12 arg13 harg13
      arg14 harg14 arg15 harg15 arg16 harg16 v578 v593 v608 v619 v634 k0_t1 arg18 arg19 arg17 v1229 v1290 v1368) := by
  rw [k0_part137_eq_skeleton]; unfold k0_part137_skel
  repeat (with_reducible first
    | refine Keeps.bind ?_ fun _ => ?_ | exact Keeps.pure _ | refine Keeps.load ?_ | refine Keeps.store ?_
    | exact Lends.head | exact Lends.last | refine Lends.tail ?_)

/-- `k0_part138` keeps the buffers. -/
theorem keeps_part138 (v649 v660 v675 v690 arg20 arg21 arg22 arg17 v1236 v1243 v1302 v1406 v1408 v1410 : _) :
    K F c arg3 arg4 arg5 arg6 arg7 arg8 arg9 arg10 arg11 arg12 arg13 arg14 arg15 arg16 (k0_part138 i arg3 harg3 arg4
      harg4 arg5 harg5 arg6 harg6 arg7 harg7 arg8 harg8 arg9 harg9 arg10 harg10 arg11 harg11 arg12 harg12 arg13 harg13
      arg14 harg14 arg15 harg15 arg16 harg16 v649 v660 v675 v690 arg20 arg21 arg22 arg17 v1236 v1243 v1302 v1406 v1408
      v1410) := by
  rw [k0_part138_eq_skeleton]; unfold k0_part138_skel
  repeat (with_reducible first
    | refine Keeps.bind ?_ fun _ => ?_ | exact Keeps.pure _ | refine Keeps.load ?_ | refine Keeps.store ?_
    | exact Lends.head | exact Lends.last | refine Lends.tail ?_)

/-- `k0_part139` keeps the buffers. -/
theorem keeps_part139 (v701 v716 v731 v742 v757 v772 arg22 arg23 arg24 arg25 arg17 v1250 v1257 v1314 v1326 v1447 v1453 : _) :
    K F c arg3 arg4 arg5 arg6 arg7 arg8 arg9 arg10 arg11 arg12 arg13 arg14 arg15 arg16 (k0_part139 i arg3 harg3 arg4
      harg4 arg5 harg5 arg6 harg6 arg7 harg7 arg8 harg8 arg9 harg9 arg10 harg10 arg11 harg11 arg12 harg12 arg13 harg13
      arg14 harg14 arg15 harg15 arg16 harg16 v701 v716 v731 v742 v757 v772 arg22 arg23 arg24 arg25 arg17 v1250 v1257
      v1314 v1326 v1447 v1453) := by
  rw [k0_part139_eq_skeleton]; unfold k0_part139_skel
  repeat (with_reducible first
    | refine Keeps.bind ?_ fun _ => ?_ | exact Keeps.pure _ | refine Keeps.load ?_ | refine Keeps.store ?_
    | exact Lends.head | exact Lends.last | refine Lends.tail ?_)

/-- `k0_part140` keeps the buffers. -/
theorem keeps_part140 (v783 v798 v813 arg26 arg27 arg28 arg29 arg17 v1257 v1264 v1338 v1350 v1501 v1502 : _) :
    K F c arg3 arg4 arg5 arg6 arg7 arg8 arg9 arg10 arg11 arg12 arg13 arg14 arg15 arg16 (k0_part140 i arg3 harg3 arg4
      harg4 arg5 harg5 arg6 harg6 arg7 harg7 arg8 harg8 arg9 harg9 arg10 harg10 arg11 harg11 arg12 harg12 arg13 harg13
      arg14 harg14 arg15 harg15 arg16 harg16 v783 v798 v813 arg26 arg27 arg28 arg29 arg17 v1257 v1264 v1338 v1350
      v1501 v1502) := by
  rw [k0_part140_eq_skeleton]; unfold k0_part140_skel
  repeat (with_reducible first
    | refine Keeps.bind ?_ fun _ => ?_ | exact Keeps.pure _ | refine Keeps.load ?_ | refine Keeps.store ?_
    | exact Lends.head | exact Lends.last | refine Lends.tail ?_)

/-- `k0_part141` keeps the buffers. -/
theorem keeps_part141 (v824 v839 v854 v865 v880 v895 arg30 arg31 arg32 arg17 v1271 v1278 v1362 v1546 v1547 : _) :
    K F c arg3 arg4 arg5 arg6 arg7 arg8 arg9 arg10 arg11 arg12 arg13 arg14 arg15 arg16 (k0_part141 i arg3 harg3 arg4
      harg4 arg5 harg5 arg6 harg6 arg7 harg7 arg8 harg8 arg9 harg9 arg10 harg10 arg11 harg11 arg12 harg12 arg13 harg13
      arg14 harg14 arg15 harg15 arg16 harg16 v824 v839 v854 v865 v880 v895 arg30 arg31 arg32 arg17 v1271 v1278 v1362
      v1546 v1547) := by
  rw [k0_part141_eq_skeleton]; unfold k0_part141_skel
  repeat (with_reducible first
    | refine Keeps.bind ?_ fun _ => ?_ | exact Keeps.pure _ | refine Keeps.load ?_ | refine Keeps.store ?_
    | exact Lends.head | exact Lends.last | refine Lends.tail ?_)

/-- A trip of the loop keeps the buffers. -/
theorem keeps_t1_body (arg2 v578 v593 v608 v619 v634 v649 v660 v675 v690 v701 v716 v731 v742 v757 v772 v783 v798 v813 v824 v839 v854 v865 v880 v895 v898 v901 v904 v907 v910 v913 v916 v919 v956 v964 v969 v977 v982 v990 v995 v1003 v1008 v1016 v1021 v1029 v1034 v1042 v1047 v1055 v1057 c1_i32_405 v1058 v1063 : _) (k : Fin _) (acc : _) :
    K F c arg3 arg4 arg5 arg6 arg7 arg8 arg9 arg10 arg11 arg12 arg13 arg14 arg15 arg16 (k0_t1_body i arg3 harg3 arg4
      harg4 arg5 harg5 arg6 harg6 arg7 harg7 arg8 harg8 arg9 harg9 arg10 harg10 arg11 harg11 arg12 harg12 arg13 harg13
      arg14 harg14 arg15 harg15 arg16 harg16 arg2 v578 v593 v608 v619 v634 v649 v660 v675 v690 v701 v716 v731 v742
      v757 v772 v783 v798 v813 v824 v839 v854 v865 v880 v895 v898 v901 v904 v907 v910 v913 v916 v919 v956 v964 v969
      v977 v982 v990 v995 v1003 v1008 v1016 v1021 v1029 v1034 v1042 v1047 v1055 v1057 c1_i32_405 v1058 v1063 k acc) :=
      by
  unfold k0_t1_body
  repeat (with_reducible first
    | refine Keeps.bind ?_ fun _ => ?_ | exact Keeps.pure _
    | exact keeps_part132 _ _ _ _ _ _ _ _ _ _ _ _ _ _ _ _ _ _ _ _ _ _ _ _ _ _ _ _ _ _ _ _ _ _ _ _ _
    | exact keeps_part133 _ _ _ _ _ _ _ _ _ _ _ _ _ _ _ _ _ _ _ _ _ _ _ _ _ _ _ _ _ _ _ _ _ _ _ _ _ _
    | exact keeps_part134 _ _ _ _ _ _ _ _ _ _ _ _ _ _ _ _ _ _ _ _ _ _ _ _ _ _ _ _ _ _ _ _ _ _ _ _
    | exact keeps_part135 _ _ _ _ _ _ _ _ _ _ _ _ _ _ _ _ _ _ _ _ _ _ _ _ _ _ _ _ _ _ _ _ _ _
    | exact keeps_part136 _ _ _ _ _ _ _ _ _ _ _ _ _ _ _ _ _ _ _ _ _ _ _ _ _ _ _ _ _ _ _ _ _ _
    | exact keeps_part137 _ _ _ _ _ _ _ _ _ _ _ _ _ _ _ _ _ _ _ _ _ _ _ _ _ _ _ _ _ _ _ _ _ _ _ _ _ _ _ _ _ _
    | exact keeps_part138 _ _ _ _ _ _ _ _ _ _ _ _ _ _ _ _ _ _ _ _ _ _ _ _ _ _ _ _ _ _ _ _ _ _ _ _ _ _ _ _ _ _ _ _
    | exact keeps_part139 _ _ _ _ _ _ _ _ _ _ _ _ _ _ _ _ _ _ _ _ _ _ _ _ _ _ _ _ _ _ _ _ _ _ _ _ _ _ _ _ _ _ _ _ _ _ _
    | exact keeps_part140 _ _ _ _ _ _ _ _ _ _ _ _ _ _ _ _ _ _ _ _ _ _ _ _ _ _ _ _ _ _ _ _ _ _ _ _ _ _ _ _ _ _ _ _
    | exact keeps_part141 _ _ _ _ _ _ _ _ _ _ _ _ _ _ _ _ _ _ _ _ _ _ _ _ _ _ _ _ _ _ _ _ _ _ _ _ _ _ _ _ _ _ _ _ _
    | refine Keeps.load ?_ | refine Keeps.store ?_ | exact Lends.head | exact Lends.last | refine Lends.tail ?_
    | refine Keeps.dite (fun _ => ?_) fun _ => ?_ | refine Keeps.loop _ _ _ fun _ _ => ?_ | split)

/-- `k0_part142` keeps the buffers. -/
theorem keeps_part142 (v898 v901 v904 v907 v1079 c1_i32_415 k0_t2 : _) :
    K F c arg3 arg4 arg5 arg6 arg7 arg8 arg9 arg10 arg11 arg12 arg13 arg14 arg15 arg16 (k0_part142 i arg3 harg3 arg4
      harg4 arg5 harg5 arg6 harg6 arg7 harg7 arg8 harg8 arg9 harg9 arg10 harg10 arg11 harg11 arg12 harg12 arg13 harg13
      arg14 harg14 arg15 harg15 arg16 harg16 v898 v901 v904 v907 v1079 c1_i32_415 k0_t2) := by
  rw [k0_part142_eq_skeleton]; unfold k0_part142_skel
  repeat (with_reducible first
    | refine Keeps.bind ?_ fun _ => ?_ | exact Keeps.pure _ | refine Keeps.load ?_ | refine Keeps.store ?_
    | exact Lends.head | exact Lends.last | refine Lends.tail ?_)

/-- `k0_part143` keeps the buffers. -/
theorem keeps_part143 (v910 v913 v916 v919 k0_t2 arg17 v1251 c0_i32_551 : _) :
    K F c arg3 arg4 arg5 arg6 arg7 arg8 arg9 arg10 arg11 arg12 arg13 arg14 arg15 arg16 (k0_part143 i arg3 harg3 arg4
      harg4 arg5 harg5 arg6 harg6 arg7 harg7 arg8 harg8 arg9 harg9 arg10 harg10 arg11 harg11 arg12 harg12 arg13 harg13
      arg14 harg14 arg15 harg15 arg16 harg16 v910 v913 v916 v919 k0_t2 arg17 v1251 c0_i32_551) := by
  rw [k0_part143_eq_skeleton]; unfold k0_part143_skel
  repeat (with_reducible first
    | refine Keeps.bind ?_ fun _ => ?_ | exact Keeps.pure _ | refine Keeps.load ?_ | refine Keeps.store ?_
    | exact Lends.head | exact Lends.last | refine Lends.tail ?_)

/-- `k0_part144` keeps the buffers. -/
theorem keeps_part144 (arg2 k0_t2 arg17 v1279 v1281 c0_i32_581 : _) :
    K F c arg3 arg4 arg5 arg6 arg7 arg8 arg9 arg10 arg11 arg12 arg13 arg14 arg15 arg16 (k0_part144 i arg3 harg3 arg4
      harg4 arg5 harg5 arg6 harg6 arg7 harg7 arg8 harg8 arg9 harg9 arg10 harg10 arg11 harg11 arg12 harg12 arg13 harg13
      arg14 harg14 arg15 harg15 arg16 harg16 arg2 k0_t2 arg17 v1279 v1281 c0_i32_581) := by
  rw [k0_part144_eq_skeleton]; unfold k0_part144_skel
  repeat (with_reducible first
    | refine Keeps.bind ?_ fun _ => ?_ | exact Keeps.pure _ | refine Keeps.load ?_ | refine Keeps.store ?_
    | exact Lends.head | exact Lends.last | refine Lends.tail ?_)

/-- `k0_part145` keeps the buffers. -/
theorem keeps_part145 (arg2 k0_t2 arg17 v1311 : _) :
    K F c arg3 arg4 arg5 arg6 arg7 arg8 arg9 arg10 arg11 arg12 arg13 arg14 arg15 arg16 (k0_part145 i arg3 harg3 arg4
      harg4 arg5 harg5 arg6 harg6 arg7 harg7 arg8 harg8 arg9 harg9 arg10 harg10 arg11 harg11 arg12 harg12 arg13 harg13
      arg14 harg14 arg15 harg15 arg16 harg16 arg2 k0_t2 arg17 v1311) := by
  rw [k0_part145_eq_skeleton]; unfold k0_part145_skel
  repeat (with_reducible first
    | refine Keeps.bind ?_ fun _ => ?_ | exact Keeps.pure _ | refine Keeps.load ?_ | refine Keeps.store ?_
    | exact Lends.head | exact Lends.last | refine Lends.tail ?_)

/-- `k0_part146` keeps the buffers. -/
theorem keeps_part146 (arg2 k0_t2 arg17 v1339 : _) :
    K F c arg3 arg4 arg5 arg6 arg7 arg8 arg9 arg10 arg11 arg12 arg13 arg14 arg15 arg16 (k0_part146 i arg3 harg3 arg4
      harg4 arg5 harg5 arg6 harg6 arg7 harg7 arg8 harg8 arg9 harg9 arg10 harg10 arg11 harg11 arg12 harg12 arg13 harg13
      arg14 harg14 arg15 harg15 arg16 harg16 arg2 k0_t2 arg17 v1339) := by
  rw [k0_part146_eq_skeleton]; unfold k0_part146_skel
  repeat (with_reducible first
    | refine Keeps.bind ?_ fun _ => ?_ | exact Keeps.pure _ | refine Keeps.load ?_ | refine Keeps.store ?_
    | exact Lends.head | exact Lends.last | refine Lends.tail ?_)

/-- `k0_part147` keeps the buffers. -/
theorem keeps_part147 (v578 v593 v608 v619 v634 k0_t2 arg18 arg19 arg17 v1229 v1290 v1368 : _) :
    K F c arg3 arg4 arg5 arg6 arg7 arg8 arg9 arg10 arg11 arg12 arg13 arg14 arg15 arg16 (k0_part147 i arg3 harg3 arg4
      harg4 arg5 harg5 arg6 harg6 arg7 harg7 arg8 harg8 arg9 harg9 arg10 harg10 arg11 harg11 arg12 harg12 arg13 harg13
      arg14 harg14 arg15 harg15 arg16 harg16 v578 v593 v608 v619 v634 k0_t2 arg18 arg19 arg17 v1229 v1290 v1368) := by
  rw [k0_part147_eq_skeleton]; unfold k0_part147_skel
  repeat (with_reducible first
    | refine Keeps.bind ?_ fun _ => ?_ | exact Keeps.pure _ | refine Keeps.load ?_ | refine Keeps.store ?_
    | exact Lends.head | exact Lends.last | refine Lends.tail ?_)

/-- `k0_part148` keeps the buffers. -/
theorem keeps_part148 (v649 v660 v675 v690 arg20 arg21 arg22 arg17 v1236 v1243 v1302 v1406 v1408 v1410 : _) :
    K F c arg3 arg4 arg5 arg6 arg7 arg8 arg9 arg10 arg11 arg12 arg13 arg14 arg15 arg16 (k0_part148 i arg3 harg3 arg4
      harg4 arg5 harg5 arg6 harg6 arg7 harg7 arg8 harg8 arg9 harg9 arg10 harg10 arg11 harg11 arg12 harg12 arg13 harg13
      arg14 harg14 arg15 harg15 arg16 harg16 v649 v660 v675 v690 arg20 arg21 arg22 arg17 v1236 v1243 v1302 v1406 v1408
      v1410) := by
  rw [k0_part148_eq_skeleton]; unfold k0_part148_skel
  repeat (with_reducible first
    | refine Keeps.bind ?_ fun _ => ?_ | exact Keeps.pure _ | refine Keeps.load ?_ | refine Keeps.store ?_
    | exact Lends.head | exact Lends.last | refine Lends.tail ?_)

/-- `k0_part149` keeps the buffers. -/
theorem keeps_part149 (v701 v716 v731 v742 v757 v772 arg22 arg23 arg24 arg25 arg17 v1250 v1257 v1314 v1326 v1447 v1453 : _) :
    K F c arg3 arg4 arg5 arg6 arg7 arg8 arg9 arg10 arg11 arg12 arg13 arg14 arg15 arg16 (k0_part149 i arg3 harg3 arg4
      harg4 arg5 harg5 arg6 harg6 arg7 harg7 arg8 harg8 arg9 harg9 arg10 harg10 arg11 harg11 arg12 harg12 arg13 harg13
      arg14 harg14 arg15 harg15 arg16 harg16 v701 v716 v731 v742 v757 v772 arg22 arg23 arg24 arg25 arg17 v1250 v1257
      v1314 v1326 v1447 v1453) := by
  rw [k0_part149_eq_skeleton]; unfold k0_part149_skel
  repeat (with_reducible first
    | refine Keeps.bind ?_ fun _ => ?_ | exact Keeps.pure _ | refine Keeps.load ?_ | refine Keeps.store ?_
    | exact Lends.head | exact Lends.last | refine Lends.tail ?_)

/-- `k0_part150` keeps the buffers. -/
theorem keeps_part150 (v783 v798 v813 arg26 arg27 arg28 arg29 arg17 v1257 v1264 v1338 v1350 v1501 v1502 : _) :
    K F c arg3 arg4 arg5 arg6 arg7 arg8 arg9 arg10 arg11 arg12 arg13 arg14 arg15 arg16 (k0_part150 i arg3 harg3 arg4
      harg4 arg5 harg5 arg6 harg6 arg7 harg7 arg8 harg8 arg9 harg9 arg10 harg10 arg11 harg11 arg12 harg12 arg13 harg13
      arg14 harg14 arg15 harg15 arg16 harg16 v783 v798 v813 arg26 arg27 arg28 arg29 arg17 v1257 v1264 v1338 v1350
      v1501 v1502) := by
  rw [k0_part150_eq_skeleton]; unfold k0_part150_skel
  repeat (with_reducible first
    | refine Keeps.bind ?_ fun _ => ?_ | exact Keeps.pure _ | refine Keeps.load ?_ | refine Keeps.store ?_
    | exact Lends.head | exact Lends.last | refine Lends.tail ?_)

/-- `k0_part151` keeps the buffers. -/
theorem keeps_part151 (v824 v839 v854 v865 v880 v895 arg30 arg31 arg32 arg17 v1271 v1278 v1362 v1546 v1547 : _) :
    K F c arg3 arg4 arg5 arg6 arg7 arg8 arg9 arg10 arg11 arg12 arg13 arg14 arg15 arg16 (k0_part151 i arg3 harg3 arg4
      harg4 arg5 harg5 arg6 harg6 arg7 harg7 arg8 harg8 arg9 harg9 arg10 harg10 arg11 harg11 arg12 harg12 arg13 harg13
      arg14 harg14 arg15 harg15 arg16 harg16 v824 v839 v854 v865 v880 v895 arg30 arg31 arg32 arg17 v1271 v1278 v1362
      v1546 v1547) := by
  rw [k0_part151_eq_skeleton]; unfold k0_part151_skel
  repeat (with_reducible first
    | refine Keeps.bind ?_ fun _ => ?_ | exact Keeps.pure _ | refine Keeps.load ?_ | refine Keeps.store ?_
    | exact Lends.head | exact Lends.last | refine Lends.tail ?_)

/-- A trip of the loop keeps the buffers. -/
theorem keeps_t2_body (arg2 v578 v593 v608 v619 v634 v649 v660 v675 v690 v701 v716 v731 v742 v757 v772 v783 v798 v813 v824 v839 v854 v865 v880 v895 v898 v901 v904 v907 v910 v913 v916 v919 v956 v964 v969 v977 v982 v990 v995 v1003 v1008 v1016 v1021 v1029 v1034 v1042 v1047 v1055 v1057 c1_i32_405 v1058 v1063 v1079 : _) (k : Fin _) (acc : _) :
    K F c arg3 arg4 arg5 arg6 arg7 arg8 arg9 arg10 arg11 arg12 arg13 arg14 arg15 arg16 (k0_t2_body i arg3 harg3 arg4
      harg4 arg5 harg5 arg6 harg6 arg7 harg7 arg8 harg8 arg9 harg9 arg10 harg10 arg11 harg11 arg12 harg12 arg13 harg13
      arg14 harg14 arg15 harg15 arg16 harg16 arg2 v578 v593 v608 v619 v634 v649 v660 v675 v690 v701 v716 v731 v742
      v757 v772 v783 v798 v813 v824 v839 v854 v865 v880 v895 v898 v901 v904 v907 v910 v913 v916 v919 v956 v964 v969
      v977 v982 v990 v995 v1003 v1008 v1016 v1021 v1029 v1034 v1042 v1047 v1055 v1057 c1_i32_405 v1058 v1063 v1079 k
      acc) := by
  unfold k0_t2_body
  repeat (with_reducible first
    | refine Keeps.bind ?_ fun _ => ?_ | exact Keeps.pure _
    | exact keeps_part142 _ _ _ _ _ _ _ _ _ _ _ _ _ _ _ _ _ _ _ _ _ _ _ _ _ _ _ _ _ _ _ _ _ _ _ _ _
    | exact keeps_part143 _ _ _ _ _ _ _ _ _ _ _ _ _ _ _ _ _ _ _ _ _ _ _ _ _ _ _ _ _ _ _ _ _ _ _ _ _ _
    | exact keeps_part144 _ _ _ _ _ _ _ _ _ _ _ _ _ _ _ _ _ _ _ _ _ _ _ _ _ _ _ _ _ _ _ _ _ _ _ _
    | exact keeps_part145 _ _ _ _ _ _ _ _ _ _ _ _ _ _ _ _ _ _ _ _ _ _ _ _ _ _ _ _ _ _ _ _ _ _
    | exact keeps_part146 _ _ _ _ _ _ _ _ _ _ _ _ _ _ _ _ _ _ _ _ _ _ _ _ _ _ _ _ _ _ _ _ _ _
    | exact keeps_part147 _ _ _ _ _ _ _ _ _ _ _ _ _ _ _ _ _ _ _ _ _ _ _ _ _ _ _ _ _ _ _ _ _ _ _ _ _ _ _ _ _ _
    | exact keeps_part148 _ _ _ _ _ _ _ _ _ _ _ _ _ _ _ _ _ _ _ _ _ _ _ _ _ _ _ _ _ _ _ _ _ _ _ _ _ _ _ _ _ _ _ _
    | exact keeps_part149 _ _ _ _ _ _ _ _ _ _ _ _ _ _ _ _ _ _ _ _ _ _ _ _ _ _ _ _ _ _ _ _ _ _ _ _ _ _ _ _ _ _ _ _ _ _ _
    | exact keeps_part150 _ _ _ _ _ _ _ _ _ _ _ _ _ _ _ _ _ _ _ _ _ _ _ _ _ _ _ _ _ _ _ _ _ _ _ _ _ _ _ _ _ _ _ _
    | exact keeps_part151 _ _ _ _ _ _ _ _ _ _ _ _ _ _ _ _ _ _ _ _ _ _ _ _ _ _ _ _ _ _ _ _ _ _ _ _ _ _ _ _ _ _ _ _ _
    | refine Keeps.load ?_ | refine Keeps.store ?_ | exact Lends.head | exact Lends.last | refine Lends.tail ?_
    | refine Keeps.dite (fun _ => ?_) fun _ => ?_ | refine Keeps.loop _ _ _ fun _ _ => ?_ | split)

/-- `k0_part177` keeps the buffers. -/
theorem keeps_part177 (arg2 v578 v593 v608 v619 v634 v649 v660 v675 v690 v701 v716 v731 v742 v757 v772 v783 v798 v813 v824 v839 v854 v865 v880 v895 v898 v901 v904 v907 v910 v913 v916 v919 v956 v964 v969 v977 v982 v990 v995 v1003 v1008 v1016 v1021 v1029 v1034 v1042 v1047 v1055 v1057 c1_i32_405 v1058 v1063 : _) :
    K F c arg3 arg4 arg5 arg6 arg7 arg8 arg9 arg10 arg11 arg12 arg13 arg14 arg15 arg16 (k0_part177 i arg3 harg3 arg4
      harg4 arg5 harg5 arg6 harg6 arg7 harg7 arg8 harg8 arg9 harg9 arg10 harg10 arg11 harg11 arg12 harg12 arg13 harg13
      arg14 harg14 arg15 harg15 arg16 harg16 arg2 v578 v593 v608 v619 v634 v649 v660 v675 v690 v701 v716 v731 v742
      v757 v772 v783 v798 v813 v824 v839 v854 v865 v880 v895 v898 v901 v904 v907 v910 v913 v916 v919 v956 v964 v969
      v977 v982 v990 v995 v1003 v1008 v1016 v1021 v1029 v1034 v1042 v1047 v1055 v1057 c1_i32_405 v1058 v1063) := by
  rw [k0_part177_eq_skeleton]; unfold k0_part177_skel
  repeat (with_reducible first
    | refine Keeps.bind ?_ fun _ => ?_ | exact Keeps.pure _
    | exact keeps_t1_body _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    | exact keeps_t2_body _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    | refine Keeps.load ?_ | refine Keeps.store ?_ | exact Lends.head | exact Lends.last | refine Lends.tail ?_
    | refine Keeps.dite (fun _ => ?_) fun _ => ?_ | refine Keeps.loop _ _ _ fun _ _ => ?_ | split)

/-- `k0_part178` keeps the buffers. -/
theorem keeps_part178 (arg2 v1074 v1081_3 v1081_5 v1099 v1100 : _) :
    K F c arg3 arg4 arg5 arg6 arg7 arg8 arg9 arg10 arg11 arg12 arg13 arg14 arg15 arg16 (k0_part178 i arg3 harg3 arg4
      harg4 arg5 harg5 arg6 harg6 arg7 harg7 arg8 harg8 arg9 harg9 arg10 harg10 arg11 harg11 arg12 harg12 arg13 harg13
      arg14 harg14 arg15 harg15 arg16 harg16 arg2 v1074 v1081_3 v1081_5 v1099 v1100) := by
  rw [k0_part178_eq_skeleton]; unfold k0_part178_skel
  repeat (with_reducible first
    | refine Keeps.bind ?_ fun _ => ?_ | exact Keeps.pure _ | refine Keeps.load ?_ | refine Keeps.store ?_
    | exact Lends.head | exact Lends.last | refine Lends.tail ?_)

/-- `k0_part179` keeps the buffers. -/
theorem keeps_part179 (arg2 v1074 v1081_7 v1081_9 v1133 v1134 : _) :
    K F c arg3 arg4 arg5 arg6 arg7 arg8 arg9 arg10 arg11 arg12 arg13 arg14 arg15 arg16 (k0_part179 i arg3 harg3 arg4
      harg4 arg5 harg5 arg6 harg6 arg7 harg7 arg8 harg8 arg9 harg9 arg10 harg10 arg11 harg11 arg12 harg12 arg13 harg13
      arg14 harg14 arg15 harg15 arg16 harg16 arg2 v1074 v1081_7 v1081_9 v1133 v1134) := by
  rw [k0_part179_eq_skeleton]; unfold k0_part179_skel
  repeat (with_reducible first
    | refine Keeps.bind ?_ fun _ => ?_ | exact Keeps.pure _ | refine Keeps.load ?_ | refine Keeps.store ?_
    | exact Lends.head | exact Lends.last | refine Lends.tail ?_)

/-- `k0_part180` keeps the buffers. -/
theorem keeps_part180 (arg2 v1074 v1081_11 v1081_13 v1167 v1168 : _) :
    K F c arg3 arg4 arg5 arg6 arg7 arg8 arg9 arg10 arg11 arg12 arg13 arg14 arg15 arg16 (k0_part180 i arg3 harg3 arg4
      harg4 arg5 harg5 arg6 harg6 arg7 harg7 arg8 harg8 arg9 harg9 arg10 harg10 arg11 harg11 arg12 harg12 arg13 harg13
      arg14 harg14 arg15 harg15 arg16 harg16 arg2 v1074 v1081_11 v1081_13 v1167 v1168) := by
  rw [k0_part180_eq_skeleton]; unfold k0_part180_skel
  repeat (with_reducible first
    | refine Keeps.bind ?_ fun _ => ?_ | exact Keeps.pure _ | refine Keeps.load ?_ | refine Keeps.store ?_
    | exact Lends.head | exact Lends.last | refine Lends.tail ?_)

/-- `k0_part181` keeps the buffers. -/
theorem keeps_part181 :
    K F c arg3 arg4 arg5 arg6 arg7 arg8 arg9 arg10 arg11 arg12 arg13 arg14 arg15 arg16 (k0_part181 i arg3 harg3 arg4
      harg4 arg5 harg5 arg6 harg6 arg7 harg7 arg8 harg8 arg9 harg9 arg10 harg10 arg11 harg11 arg12 harg12 arg13 harg13
      arg14 harg14 arg15 harg15 arg16 harg16) := by
  rw [k0_part181_eq_skeleton]; unfold k0_part181_skel
  repeat (with_reducible first
    | refine Keeps.bind ?_ fun _ => ?_ | exact Keeps.pure _
    | exact keeps_part152 _ _ _ _ _ _ _ _ _ _ _ _ _ _ _ _ _ _ _ _ _ _ _ _ _ _ _ _ _ _
    | exact keeps_part153 _ _ _ _ _ _ _ _ _ _ _ _ _ _ _ _ _ _ _ _ _ _ _ _ _ _ _ _ _ _ _ _ _ _ _ _ _ _
    | exact keeps_part154 _ _ _ _ _ _ _ _ _ _ _ _ _ _ _ _ _ _ _ _ _ _ _ _ _ _ _ _ _ _ _ _ _ _ _ _ _ _ _ _ _ _ _ _
    | exact keeps_part155 _ _ _ _ _ _ _ _ _ _ _ _ _ _ _ _ _ _ _ _ _ _ _ _ _ _ _ _ _ _ _ _ _ _ _ _ _ _ _ _
    | exact keeps_part156 _ _ _ _ _ _ _ _ _ _ _ _ _ _ _ _ _ _ _ _ _ _ _ _ _ _ _ _ _ _ _ _ _ _ _ _ _ _ _
    | exact keeps_part157 _ _ _ _ _ _ _ _ _ _ _ _ _ _ _ _ _ _ _ _ _ _ _ _ _ _ _ _ _ _ _ _ _ _ _ _
    | exact keeps_part158 _ _ _ _ _ _ _ _ _ _ _ _ _ _ _ _ _ _ _ _ _ _ _ _ _ _ _ _ _ _ _ _ _
    | exact keeps_part159 _ _ _ _ _ _ _ _ _ _ _ _ _ _ _ _ _ _ _ _ _ _ _ _ _ _ _ _ _ _ _ _ _ _ _ _ _
    | exact keeps_part160 _ _ _ _ _ _ _ _ _ _ _ _ _ _ _ _ _ _ _ _ _ _ _ _ _ _ _ _ _ _ _ _ _ _
    | exact keeps_part161 _ _ _ _ _ _ _ _ _ _ _ _ _ _ _ _ _ _ _ _ _ _ _ _ _ _ _ _ _ _ _ _ _ _ _ _ _ _
    | exact keeps_part162 _ _ _ _ _ _ _ _ _ _ _ _ _ _ _ _ _ _ _ _ _ _ _ _ _ _ _ _ _ _ _ _ _ _ _ _
    | exact keeps_part163 _ _ _ _ _ _ _ _ _ _ _ _ _ _ _ _ _ _ _ _ _ _ _ _ _ _ _ _ _ _ _ _ _ _ _ _
    | exact keeps_part164 _ _ _ _ _ _ _ _ _ _ _ _ _ _ _ _ _ _ _ _ _ _ _ _ _ _ _ _ _ _ _ _ _ _ _ _ _ _ _ _ _
    | exact keeps_part165 _ _ _ _ _ _ _ _ _ _ _ _ _ _ _ _ _ _ _ _ _ _ _ _ _ _ _ _ _ _ _ _ _ _
    | exact keeps_part166 _ _ _ _ _ _ _ _ _ _ _ _ _ _ _ _ _ _ _ _ _ _ _ _ _ _ _ _ _ _ _ _ _ _ _
    | exact keeps_part167 _ _ _ _ _ _ _ _ _ _ _ _ _ _ _ _ _ _ _ _ _ _ _ _ _ _ _ _ _ _ _ _ _ _ _
    | exact keeps_part168 _ _ _ _ _ _ _ _ _ _ _ _ _ _ _ _ _ _ _ _ _ _ _ _ _ _ _ _ _ _ _ _ _ _ _ _
    | exact keeps_part169 _ _ _ _ _ _ _ _ _ _ _ _ _ _ _ _ _ _ _ _ _ _ _ _ _ _ _ _ _ _ _ _ _ _ _
    | exact keeps_part170 _ _ _ _ _ _ _ _ _ _ _ _ _ _ _ _ _ _ _ _ _ _ _ _ _ _ _ _ _ _ _ _ _ _ _
    | exact keeps_part171 _ _ _ _ _ _ _ _ _ _ _ _ _ _ _ _ _ _ _ _ _ _ _ _ _ _ _ _ _ _ _ _ _ _ _ _
    | exact keeps_part172 _ _ _ _ _ _ _ _ _ _ _ _ _ _ _ _ _ _ _ _ _ _ _ _ _ _ _ _ _ _ _ _ _ _ _ _ _ _ _ _ _ _ _ _
    | exact keeps_part173 _ _ _ _ _ _ _ _ _ _ _ _ _ _ _ _ _ _ _ _ _ _ _ _ _ _ _ _ _ _ _ _ _ _ _ _ _ _ _ _ _ _
    | exact keeps_part174 _ _ _ _ _ _ _ _ _ _ _ _ _ _ _ _ _ _ _ _ _ _ _ _ _ _ _ _ _ _ _ _ _ _ _ _
    | exact keeps_part175 _ _ _ _ _ _ _ _ _ _ _ _ _ _ _ _ _ _ _ _ _ _ _ _ _ _ _ _ _ _ _ _ _ _ _
    | exact keeps_part176 _ _ _ _ _ _ _ _ _ _ _ _ _ _ _ _ _ _ _ _ _ _ _ _ _ _ _ _ _ _ _ _ _ _ _ _ _
    | exact keeps_part177 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    | exact keeps_part178 _ _ _ _ _ _ _ _ _ _ _ _ _ _ _ _ _ _ _ _ _ _ _ _ _ _ _ _ _ _ _ _ _ _ _ _
    | exact keeps_part179 _ _ _ _ _ _ _ _ _ _ _ _ _ _ _ _ _ _ _ _ _ _ _ _ _ _ _ _ _ _ _ _ _ _ _ _
    | exact keeps_part180 _ _ _ _ _ _ _ _ _ _ _ _ _ _ _ _ _ _ _ _ _ _ _ _ _ _ _ _ _ _ _ _ _ _ _ _
    | refine Keeps.load ?_ | refine Keeps.store ?_ | exact Lends.head | exact Lends.last | refine Lends.tail ?_)

/-- The body keeps the buffers. -/
theorem keeps_cc0_moba :
    K F c arg3 arg4 arg5 arg6 arg7 arg8 arg9 arg10 arg11 arg12 arg13 arg14 arg15 arg16 (cc0_moba i arg3 harg3 arg4
      harg4 arg5 harg5 arg6 harg6 arg7 harg7 arg8 harg8 arg9 harg9 arg10 harg10 arg11 harg11 arg12 harg12 arg13 harg13
      arg14 harg14 arg15 harg15 arg16 harg16) := by
  rw [cc0_moba_eq_skeleton]; unfold cc0_moba_skel
  repeat (with_reducible first
    | refine Keeps.bind ?_ fun _ => ?_ | exact Keeps.pure _
    | exact keeps_part181 _ _ _ _ _ _ _ _ _ _ _ _ _ _ _ _ _ _ _ _ _ _ _ _ _ _ _ _ _ _ | refine Keeps.load ?_
    | refine Keeps.store ?_ | exact Lends.head | exact Lends.last | refine Lends.tail ?_)

end Cert.Proof.Moba

end
-- ==== Proof.MobaFrame.lean ====
/- The frame of the call: from any memory with zero counters its run ends, its arguments unchanged and its counters zero.
   What the blocks and the scratch buffers hold is never named: the body keeps them, whatever they hold. -/
module

public import proofs.«01_k».proof.Defs
public import proofs.«01_k».proof.Proof.MobaBody
public import proofs.«01_k».proof.Proof.Gen.Kernel5Ideal
public import Idealize.ShloMosaic.Lib.Claim

@[expose] public section

set_option maxRecDepth 16384

noncomputable section

namespace Cert.Proof.Moba

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Holding a memref at some contents read through it is holding its elements at some contents. -/
theorem owns_any (c : Dev nD) {sp : Space} {s : Shape} {e : EltTy} (b : Memref sig .tc sp s e) :
    (iprop(∃ X, owns (c : Thread nD τ) b fullShare X) : sProp 𝕄) = anyAt (c : Thread nD τ) b := by
  have h1 : (iprop(∃ X, owns (c : Thread nD τ) b fullShare X) : sProp 𝕄) ⊢ anyAt (c : Thread nD τ) b := by
    unfold owns anyAt
    iintro ⟨%X, %f, -, H⟩
    iexists f
    iexact H
  have h2 : (anyAt (c : Thread nD τ) b : sProp 𝕄) ⊢ iprop(∃ X, owns (c : Thread nD τ) b fullShare X) := by
    unfold owns anyAt
    iintro ⟨%f, H⟩
    iexists _, f
    isplitr
    · ipureintro; rfl
    iexact H
  exact BI.equiv_iff.mp ⟨h1, h2⟩

/-- The region's data: every array at what the region finds; what the body leaves is not used, every window being taken at
    contents that are not named. -/
def dats (_ : Fin 1) (c : Dev nD) : Dat τ (Elt F) Unit ℕ (UR sig nD τ) ℕ cfg0 c where
  A w := V m c (Pipeline.arrRef spec0 w)
  after _ _ := fun _ => default
  Φ _ := Pipeline.ΦA spec0 c
  q w := Pipeline.shareOf spec0 w
  owed _ := 0

/-- The region's arrays are what it finds. -/
theorem A_eq (c : Dev nD) (w : Fin cfg0.W) : (dats m 0 c).A w = V m c (Pipeline.arrRef spec0 w) := by
  dsimp only [dats]

/-- The row of the body table at a grid point is the body there. -/
theorem row (t : Fin cfg0.N) : defs₀ (F := F) .tc cfg0.body (cfg0.bodyArgs t (cfg0.slots t)) = bodyAt0 t := by
  unfold defs₀; rw [Defs.onTc_tc]

/-- The scratch buffers and the generator register at contents that are not named, the buffers as memrefs. -/
theorem rest_eq (c : Dev nD) :
    (Pipeline.ΦA spec0 c : sProp 𝕄)
      = iprop(iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X)) ∗ (∃ r, prngReg c r)) := by
  unfold Pipeline.ΦA; rw [scopedRest0_eq]; simp only [owns_whole]; try rfl

/-- The body at a grid point keeps its windows' buffers and its scratch buffers. -/
theorem sound (c : Dev nD) (t : Fin cfg0.N) (O : sProp 𝕄) :
    iprop((Pipeline.ΦA spec0 c : sProp 𝕄) ∗ O ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X))
      ⊢ wp frame (wpE (defs₀ (F := F)) Variants.none (c : Thread nD τ) none) Set.univ (bodyAt0 t) fun _ =>
        iprop((Pipeline.ΦA spec0 c : sProp 𝕄) ∗ O ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X)) := by
  rw [rest_eq]
  simp only [owns_any]
  iintro ⟨⟨⟨S0, S1, S2, S3⟩, Hg⟩, Ho, H0, H1, H2, H3, H4, H5, H6, H7, H8, H9⟩
  iapply (wp_wand_r _ _ _)
  isplitl [H0 H1 H2 H3 H4 H5 H6 H7 H8 H9 S0 S1 S2 S3]
  · iapply (keeps_cc0_moba c (grid0.coords t) _ _ _ _ _ _ _ _ _ _ _ _ _ _ _ _ _ _ _ _ _ _ _ _ _ _ _ _).run
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iexact S3
  iintro %u ⟨H0, H1, H2, H3, H4, H5, H6, H7, H8, H9, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation of the body at every grid point, every window at contents that are not named. -/
theorem obligation (c : Dev nD) :
    Pipeline.BodyObligationLoose (dats (F := F) m 0 c) (defs₀ (F := F)) Variants.none () Set.univ (fun _ => true) := fun t => by
  rw [bigSep_W0, row]
  exact sound c t _

set_option backward.isDefEq.respectTransparency.types false in
/-- The launch: every final state has every array outside the region as the region found it, and the counters zero. -/
theorem run : θ_run defs (onTc (τ := τ) (main (F := F))) (s₀ m ρ) (fun r =>
    Pipeline.RDat.FramePost cfg0 (fun c => (dats m 0 c).toRForget (fun _ => true)) (V m) r ∧ r.2.sem = fun _ => 0) :=
  Pipeline.θ_run_frame_forget_shared (Q' := _) cfgs (dats m) (0 : Fin 1) launch₀0 defs₀ Variants.none (fun _ => true) m ρ main
    (hbody := obligation m) (hq := fun _ _ _ => rfl)
    (howed := fun _ _ => rfl) (V := V m) (hmain := hmain m Variants.none) (hA := A_eq m) (hΦ := fun _ _ => rfl)

/-- The frame over any float values: the run ends with the arguments unchanged and the counters zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩, h.2⟩) (run m ρ)

/-- The frame of the idealized program. -/
theorem frame_pi : Cert.quiescent_Kernel5Ideal := fun m ρ _ => frame_any m ρ

end Cert.Proof.Moba

end
-- ==== Proof.lean ====
/- The proof of the certificate: each call with its reference is proved in a module of its own. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Ffn2Ref
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Read
public import proofs.«01_k».proof.Proof.Ffn1Ref
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Read
public import proofs.«01_k».proof.Proof.InprojRef
public import proofs.«01_k».proof.Proof.Gen.Kernel4
public import proofs.«01_k».proof.Proof.Gen.Kernel4Ideal
public import proofs.«01_k».proof.Proof.Gen.Kernel4.Skeleton
public import proofs.«01_k».proof.Proof.Gen.Kernel4.Frame
public import proofs.«01_k».proof.Proof.Gen.Kernel4Ideal.Skeleton
public import proofs.«01_k».proof.Proof.Gen.Kernel4Ideal.Frame
public import proofs.«01_k».proof.Proof.GdnFrame
public import proofs.«01_k».proof.Proof.GdnBitsFrame
public import proofs.«01_k».proof.Proof.Gen.Kernel5
public import proofs.«01_k».proof.Proof.Gen.Kernel5Ideal
public import proofs.«01_k».proof.Proof.Gen.Kernel5.Skeleton
public import proofs.«01_k».proof.Proof.Gen.Kernel5.Frame
public import proofs.«01_k».proof.Proof.Gen.Kernel5Ideal.Skeleton
public import proofs.«01_k».proof.Proof.Gen.Kernel5Ideal.Frame
public import proofs.«01_k».proof.Proof.MobaFrame
public import proofs.«01_k».proof.Proof.MobaBitsFrame

@[expose] public section

noncomputable section

/-- Every stated claim holds. -/
theorem Cert.Proof.claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Kernel5.Gen.facts,
    Cert.Kernel5Ideal.Gen.facts,
    Cert.Proof.Ffn2.frame_p,
    Cert.Proof.Ffn2.frame_pi,
    Cert.Proof.Ffn2.frame_ri,
    Cert.Proof.Ffn1.frame_p,
    Cert.Proof.Ffn1.frame_pi,
    Cert.Proof.Ffn1.frame_ri,
    Cert.Proof.Inproj.frame_p,
    Cert.Proof.Inproj.frame_pi,
    Cert.Proof.Inproj.frame_ri,
    Cert.Proof.GdnBits.frame_p,
    Cert.Proof.Gdn.frame_pi,
    Cert.Proof.MobaBits.frame_p,
    Cert.Proof.Moba.frame_pi,
    trivial,
    Cert.Proof.Ffn2.algebraic,
    trivial,
    Cert.Proof.Ffn1.algebraic,
    trivial,
    Cert.Proof.Inproj.algebraic,
    trivial,
    trivial⟩

end
